-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Samp (m : (ℓ : Loc Cert.Samp.nD Cert.Samp.τ Cert.Samp.sig) → Buf (Elt Bits) ℓ) : Prop :=
  True

def Pre_SampIdeal (m : (ℓ : Loc Cert.SampIdeal.nD Cert.SampIdeal.τ Cert.SampIdeal.sig) → Buf (Elt Ideal) ℓ) : Prop :=
  True

def Pre_SampRefIdeal (m : (ℓ : Loc Cert.SampRefIdeal.nD Cert.SampRefIdeal.τ Cert.SampRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnSamp (m : (ℓ : Loc Cert.FfnSamp.nD Cert.FfnSamp.τ Cert.FfnSamp.sig) → Buf (Elt Bits) ℓ) : Prop :=
  True

def Pre_FfnSampIdeal (m : (ℓ : Loc Cert.FfnSampIdeal.nD Cert.FfnSampIdeal.τ Cert.FfnSampIdeal.sig) → Buf (Elt Ideal) ℓ) : Prop :=
  True

def Pre_FfnSampRefIdeal (m : (ℓ : Loc Cert.FfnSampRefIdeal.nD Cert.FfnSampRefIdeal.τ Cert.FfnSampRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepIdeal_forget [hPre_forget : Cert.Pre_forget.Facts] (m : (ℓ : Loc Cert.StepIdeal.nD Cert.StepIdeal.τ Cert.StepIdeal.sig) → Buf (Elt Ideal) ℓ) : Prop :=
  ∀ c : Dev Cert.StepIdeal.nD,
    (Cert.Pre_forget.fn (F := Ideal) (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg4)) (m ((c.tc : Thread Cert.StepIdeal.nD Cert.StepIdeal.τ).loc Cert.StepIdeal.main_arg5)) (m ((c.tc : Thread Cert.StepIdeal.nD Cert.StepIdeal.τ).loc Cert.StepIdeal.main_arg6))).1 = (fun _ => 1#1)
    ∧ (Cert.Pre_forget.fn (F := Ideal) (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg4)) (m ((c.tc : Thread Cert.StepIdeal.nD Cert.StepIdeal.τ).loc Cert.StepIdeal.main_arg5)) (m ((c.tc : Thread Cert.StepIdeal.nD Cert.StepIdeal.τ).loc Cert.StepIdeal.main_arg6))).2 = (fun _ => 1#1)

def Pre_StepRefIdeal (m : (ℓ : Loc Cert.StepRefIdeal.nD Cert.StepRefIdeal.τ Cert.StepRefIdeal.sig) → Buf (Elt Ideal) ℓ) : Prop :=
  True

def Pre_StepRefIdeal_forget [hPre_forget : Cert.Pre_forget.Facts] (m : (ℓ : Loc Cert.StepRefIdeal.nD Cert.StepRefIdeal.τ Cert.StepRefIdeal.sig) → Buf (Elt Ideal) ℓ) : Prop :=
  ∀ c : Dev Cert.StepRefIdeal.nD,
    (Cert.Pre_forget.fn (F := Ideal) (m ((c.tc : Thread Cert.StepRefIdeal.nD Cert.StepRefIdeal.τ).loc Cert.StepRefIdeal.main_arg0)) (m ((c.tc : Thread Cert.StepRefIdeal.nD Cert.StepRefIdeal.τ).loc Cert.StepRefIdeal.main_arg1)) (m ((c.tc : Thread Cert.StepRefIdeal.nD Cert.StepRefIdeal.τ).loc Cert.StepRefIdeal.main_arg2)) (m ((c.tc : Thread Cert.StepRefIdeal.nD Cert.StepRefIdeal.τ).loc Cert.StepRefIdeal.main_arg3)) (m ((c.tc : Thread Cert.StepRefIdeal.nD Cert.StepRefIdeal.τ).loc Cert.StepRefIdeal.main_arg4)) (m ((c.tc : Thread Cert.StepRefIdeal.nD Cert.StepRefIdeal.τ).loc Cert.StepRefIdeal.main_arg5)) (m ((c.tc : Thread Cert.StepRefIdeal.nD Cert.StepRefIdeal.τ).loc Cert.StepRefIdeal.main_arg6))).1 = (fun _ => 1#1)
    ∧ (Cert.Pre_forget.fn (F := Ideal) (m ((c.tc : Thread Cert.StepRefIdeal.nD Cert.StepRefIdeal.τ).loc Cert.StepRefIdeal.main_arg0)) (m ((c.tc : Thread Cert.StepRefIdeal.nD Cert.StepRefIdeal.τ).loc Cert.StepRefIdeal.main_arg1)) (m ((c.tc : Thread Cert.StepRefIdeal.nD Cert.StepRefIdeal.τ).loc Cert.StepRefIdeal.main_arg2)) (m ((c.tc : Thread Cert.StepRefIdeal.nD Cert.StepRefIdeal.τ).loc Cert.StepRefIdeal.main_arg3)) (m ((c.tc : Thread Cert.StepRefIdeal.nD Cert.StepRefIdeal.τ).loc Cert.StepRefIdeal.main_arg4)) (m ((c.tc : Thread Cert.StepRefIdeal.nD Cert.StepRefIdeal.τ).loc Cert.StepRefIdeal.main_arg5)) (m ((c.tc : Thread Cert.StepRefIdeal.nD Cert.StepRefIdeal.τ).loc Cert.StepRefIdeal.main_arg6))).2 = (fun _ => 1#1)

def Pre_AttnSamp (m : (ℓ : Loc Cert.AttnSamp.nD Cert.AttnSamp.τ Cert.AttnSamp.sig) → Buf (Elt Bits) ℓ) : Prop :=
  True

def Pre_AttnSampIdeal (m : (ℓ : Loc Cert.AttnSampIdeal.nD Cert.AttnSampIdeal.τ Cert.AttnSampIdeal.sig) → Buf (Elt Ideal) ℓ) : Prop :=
  True

def Pre_AttnSampIdeal_finite_sample [hPre_finite_sample : Cert.Pre_finite_sample.Facts] (m : (ℓ : Loc Cert.AttnSampIdeal.nD Cert.AttnSampIdeal.τ Cert.AttnSampIdeal.sig) → Buf (Elt Ideal) ℓ) : Prop :=
  ∀ c : Dev Cert.AttnSampIdeal.nD,
    (Cert.Pre_finite_sample.fn (F := Ideal) (m ((c.tc : Thread Cert.AttnSampIdeal.nD Cert.AttnSampIdeal.τ).loc Cert.AttnSampIdeal.main_arg0)) (m ((c.tc : Thread Cert.AttnSampIdeal.nD Cert.AttnSampIdeal.τ).loc Cert.AttnSampIdeal.main_arg1)) (m ((c.tc : Thread Cert.AttnSampIdeal.nD Cert.AttnSampIdeal.τ).loc Cert.AttnSampIdeal.main_arg2)) (m ((c.tc : Thread Cert.AttnSampIdeal.nD Cert.AttnSampIdeal.τ).loc Cert.AttnSampIdeal.main_arg3)) (m ((c.tc : Thread Cert.AttnSampIdeal.nD Cert.AttnSampIdeal.τ).loc Cert.AttnSampIdeal.main_arg4)) (m ((c.tc : Thread Cert.AttnSampIdeal.nD Cert.AttnSampIdeal.τ).loc Cert.AttnSampIdeal.main_arg5))).1 = (fun _ => 1#1)
    ∧ (Cert.Pre_finite_sample.fn (F := Ideal) (m ((c.tc : Thread Cert.AttnSampIdeal.nD Cert.AttnSampIdeal.τ).loc Cert.AttnSampIdeal.main_arg0)) (m ((c.tc : Thread Cert.AttnSampIdeal.nD Cert.AttnSampIdeal.τ).loc Cert.AttnSampIdeal.main_arg1)) (m ((c.tc : Thread Cert.AttnSampIdeal.nD Cert.AttnSampIdeal.τ).loc Cert.AttnSampIdeal.main_arg2)) (m ((c.tc : Thread Cert.AttnSampIdeal.nD Cert.AttnSampIdeal.τ).loc Cert.AttnSampIdeal.main_arg3)) (m ((c.tc : Thread Cert.AttnSampIdeal.nD Cert.AttnSampIdeal.τ).loc Cert.AttnSampIdeal.main_arg4)) (m ((c.tc : Thread Cert.AttnSampIdeal.nD Cert.AttnSampIdeal.τ).loc Cert.AttnSampIdeal.main_arg5))).2.1 = (fun _ => 1#1)
    ∧ (Cert.Pre_finite_sample.fn (F := Ideal) (m ((c.tc : Thread Cert.AttnSampIdeal.nD Cert.AttnSampIdeal.τ).loc Cert.AttnSampIdeal.main_arg0)) (m ((c.tc : Thread Cert.AttnSampIdeal.nD Cert.AttnSampIdeal.τ).loc Cert.AttnSampIdeal.main_arg1)) (m ((c.tc : Thread Cert.AttnSampIdeal.nD Cert.AttnSampIdeal.τ).loc Cert.AttnSampIdeal.main_arg2)) (m ((c.tc : Thread Cert.AttnSampIdeal.nD Cert.AttnSampIdeal.τ).loc Cert.AttnSampIdeal.main_arg3)) (m ((c.tc : Thread Cert.AttnSampIdeal.nD Cert.AttnSampIdeal.τ).loc Cert.AttnSampIdeal.main_arg4)) (m ((c.tc : Thread Cert.AttnSampIdeal.nD Cert.AttnSampIdeal.τ).loc Cert.AttnSampIdeal.main_arg5))).2.2.1 = (fun _ => 1#1)
    ∧ (Cert.Pre_finite_sample.fn (F := Ideal) (m ((c.tc : Thread Cert.AttnSampIdeal.nD Cert.AttnSampIdeal.τ).loc Cert.AttnSampIdeal.main_arg0)) (m ((c.tc : Thread Cert.AttnSampIdeal.nD Cert.AttnSampIdeal.τ).loc Cert.AttnSampIdeal.main_arg1)) (m ((c.tc : Thread Cert.AttnSampIdeal.nD Cert.AttnSampIdeal.τ).loc Cert.AttnSampIdeal.main_arg2)) (m ((c.tc : Thread Cert.AttnSampIdeal.nD Cert.AttnSampIdeal.τ).loc Cert.AttnSampIdeal.main_arg3)) (m ((c.tc : Thread Cert.AttnSampIdeal.nD Cert.AttnSampIdeal.τ).loc Cert.AttnSampIdeal.main_arg4)) (m ((c.tc : Thread Cert.AttnSampIdeal.nD Cert.AttnSampIdeal.τ).loc Cert.AttnSampIdeal.main_arg5))).2.2.2 = (fun _ => 1#1)

def Pre_AttnSampRefIdeal (m : (ℓ : Loc Cert.AttnSampRefIdeal.nD Cert.AttnSampRefIdeal.τ Cert.AttnSampRefIdeal.sig) → Buf (Elt Ideal) ℓ) : Prop :=
  True

def Pre_AttnSampRefIdeal_finite_sample [hPre_finite_sample : Cert.Pre_finite_sample.Facts] (m : (ℓ : Loc Cert.AttnSampRefIdeal.nD Cert.AttnSampRefIdeal.τ Cert.AttnSampRefIdeal.sig) → Buf (Elt Ideal) ℓ) : Prop :=
  ∀ c : Dev Cert.AttnSampRefIdeal.nD,
    (Cert.Pre_finite_sample.fn (F := Ideal) (m ((c.tc : Thread Cert.AttnSampRefIdeal.nD Cert.AttnSampRefIdeal.τ).loc Cert.AttnSampRefIdeal.main_arg0)) (m ((c.tc : Thread Cert.AttnSampRefIdeal.nD Cert.AttnSampRefIdeal.τ).loc Cert.AttnSampRefIdeal.main_arg1)) (m ((c.tc : Thread Cert.AttnSampRefIdeal.nD Cert.AttnSampRefIdeal.τ).loc Cert.AttnSampRefIdeal.main_arg2)) (m ((c.tc : Thread Cert.AttnSampRefIdeal.nD Cert.AttnSampRefIdeal.τ).loc Cert.AttnSampRefIdeal.main_arg3)) (m ((c.tc : Thread Cert.AttnSampRefIdeal.nD Cert.AttnSampRefIdeal.τ).loc Cert.AttnSampRefIdeal.main_arg4)) (m ((c.tc : Thread Cert.AttnSampRefIdeal.nD Cert.AttnSampRefIdeal.τ).loc Cert.AttnSampRefIdeal.main_arg5))).1 = (fun _ => 1#1)
    ∧ (Cert.Pre_finite_sample.fn (F := Ideal) (m ((c.tc : Thread Cert.AttnSampRefIdeal.nD Cert.AttnSampRefIdeal.τ).loc Cert.AttnSampRefIdeal.main_arg0)) (m ((c.tc : Thread Cert.AttnSampRefIdeal.nD Cert.AttnSampRefIdeal.τ).loc Cert.AttnSampRefIdeal.main_arg1)) (m ((c.tc : Thread Cert.AttnSampRefIdeal.nD Cert.AttnSampRefIdeal.τ).loc Cert.AttnSampRefIdeal.main_arg2)) (m ((c.tc : Thread Cert.AttnSampRefIdeal.nD Cert.AttnSampRefIdeal.τ).loc Cert.AttnSampRefIdeal.main_arg3)) (m ((c.tc : Thread Cert.AttnSampRefIdeal.nD Cert.AttnSampRefIdeal.τ).loc Cert.AttnSampRefIdeal.main_arg4)) (m ((c.tc : Thread Cert.AttnSampRefIdeal.nD Cert.AttnSampRefIdeal.τ).loc Cert.AttnSampRefIdeal.main_arg5))).2.1 = (fun _ => 1#1)
    ∧ (Cert.Pre_finite_sample.fn (F := Ideal) (m ((c.tc : Thread Cert.AttnSampRefIdeal.nD Cert.AttnSampRefIdeal.τ).loc Cert.AttnSampRefIdeal.main_arg0)) (m ((c.tc : Thread Cert.AttnSampRefIdeal.nD Cert.AttnSampRefIdeal.τ).loc Cert.AttnSampRefIdeal.main_arg1)) (m ((c.tc : Thread Cert.AttnSampRefIdeal.nD Cert.AttnSampRefIdeal.τ).loc Cert.AttnSampRefIdeal.main_arg2)) (m ((c.tc : Thread Cert.AttnSampRefIdeal.nD Cert.AttnSampRefIdeal.τ).loc Cert.AttnSampRefIdeal.main_arg3)) (m ((c.tc : Thread Cert.AttnSampRefIdeal.nD Cert.AttnSampRefIdeal.τ).loc Cert.AttnSampRefIdeal.main_arg4)) (m ((c.tc : Thread Cert.AttnSampRefIdeal.nD Cert.AttnSampRefIdeal.τ).loc Cert.AttnSampRefIdeal.main_arg5))).2.2.1 = (fun _ => 1#1)
    ∧ (Cert.Pre_finite_sample.fn (F := Ideal) (m ((c.tc : Thread Cert.AttnSampRefIdeal.nD Cert.AttnSampRefIdeal.τ).loc Cert.AttnSampRefIdeal.main_arg0)) (m ((c.tc : Thread Cert.AttnSampRefIdeal.nD Cert.AttnSampRefIdeal.τ).loc Cert.AttnSampRefIdeal.main_arg1)) (m ((c.tc : Thread Cert.AttnSampRefIdeal.nD Cert.AttnSampRefIdeal.τ).loc Cert.AttnSampRefIdeal.main_arg2)) (m ((c.tc : Thread Cert.AttnSampRefIdeal.nD Cert.AttnSampRefIdeal.τ).loc Cert.AttnSampRefIdeal.main_arg3)) (m ((c.tc : Thread Cert.AttnSampRefIdeal.nD Cert.AttnSampRefIdeal.τ).loc Cert.AttnSampRefIdeal.main_arg4)) (m ((c.tc : Thread Cert.AttnSampRefIdeal.nD Cert.AttnSampRefIdeal.τ).loc Cert.AttnSampRefIdeal.main_arg5))).2.2.2 = (fun _ => 1#1)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1))
      ∧ r.2.sem = fun _ => 0)

def quiescent_Samp [hSamp : Cert.Samp.Facts] : Prop :=
  ∀ (m : (ℓ : Loc Cert.Samp.nD Cert.Samp.τ Cert.Samp.sig) → Buf (Elt Bits) ℓ) (g : Dev Cert.Samp.nD → PrngReg), Pre_Samp m →
    θ_run (Cert.Samp.defs (F := Bits)) (onTc (τ := Cert.Samp.τ) (Cert.Samp.main (F := Bits))) ⟨m, fun _ => 0, g⟩ (fun r => (∀ c : Dev Cert.Samp.nD,
      r.2.mem ((c.tc : Thread Cert.Samp.nD Cert.Samp.τ).loc Cert.Samp.main_arg0) = m ((c.tc : Thread Cert.Samp.nD Cert.Samp.τ).loc Cert.Samp.main_arg0)
      ∧ r.2.mem ((c.tc : Thread Cert.Samp.nD Cert.Samp.τ).loc Cert.Samp.main_arg1) = m ((c.tc : Thread Cert.Samp.nD Cert.Samp.τ).loc Cert.Samp.main_arg1))
      ∧ r.2.sem = fun _ => 0)

def quiescent_SampIdeal [hSampIdeal : Cert.SampIdeal.Facts] : Prop :=
  ∀ (m : (ℓ : Loc Cert.SampIdeal.nD Cert.SampIdeal.τ Cert.SampIdeal.sig) → Buf (Elt Ideal) ℓ) (g : Dev Cert.SampIdeal.nD → PrngReg), Pre_SampIdeal m →
    θ_run (Cert.SampIdeal.defs (F := Ideal)) (onTc (τ := Cert.SampIdeal.τ) (Cert.SampIdeal.main (F := Ideal))) ⟨m, fun _ => 0, g⟩ (fun r => (∀ c : Dev Cert.SampIdeal.nD,
      r.2.mem ((c.tc : Thread Cert.SampIdeal.nD Cert.SampIdeal.τ).loc Cert.SampIdeal.main_arg0) = m ((c.tc : Thread Cert.SampIdeal.nD Cert.SampIdeal.τ).loc Cert.SampIdeal.main_arg0)
      ∧ r.2.mem ((c.tc : Thread Cert.SampIdeal.nD Cert.SampIdeal.τ).loc Cert.SampIdeal.main_arg1) = m ((c.tc : Thread Cert.SampIdeal.nD Cert.SampIdeal.τ).loc Cert.SampIdeal.main_arg1))
      ∧ r.2.sem = fun _ => 0)

def quiescent_SampRefIdeal [hSampRefIdeal : Cert.SampRefIdeal.Facts] : Prop :=
  ∀ (m : (ℓ : Loc Cert.SampRefIdeal.nD Cert.SampRefIdeal.τ Cert.SampRefIdeal.sig) → Buf (Elt Ideal) ℓ) (g : Dev Cert.SampRefIdeal.nD → PrngReg), Pre_SampRefIdeal m →
    θ_run (Cert.SampRefIdeal.defs (F := Ideal)) (onTc (τ := Cert.SampRefIdeal.τ) (Cert.SampRefIdeal.main (F := Ideal))) ⟨m, fun _ => 0, g⟩ (fun r => (∀ c : Dev Cert.SampRefIdeal.nD,
      r.2.mem ((c.tc : Thread Cert.SampRefIdeal.nD Cert.SampRefIdeal.τ).loc Cert.SampRefIdeal.main_arg0) = m ((c.tc : Thread Cert.SampRefIdeal.nD Cert.SampRefIdeal.τ).loc Cert.SampRefIdeal.main_arg0)
      ∧ r.2.mem ((c.tc : Thread Cert.SampRefIdeal.nD Cert.SampRefIdeal.τ).loc Cert.SampRefIdeal.main_arg1) = m ((c.tc : Thread Cert.SampRefIdeal.nD Cert.SampRefIdeal.τ).loc Cert.SampRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnSamp [hFfnSamp : Cert.FfnSamp.Facts] : Prop :=
  ∀ (m : (ℓ : Loc Cert.FfnSamp.nD Cert.FfnSamp.τ Cert.FfnSamp.sig) → Buf (Elt Bits) ℓ) (g : Dev Cert.FfnSamp.nD → PrngReg), Pre_FfnSamp m →
    θ_run (Cert.FfnSamp.defs (F := Bits)) (onTc (τ := Cert.FfnSamp.τ) (Cert.FfnSamp.main (F := Bits))) ⟨m, fun _ => 0, g⟩ (fun r => (∀ c : Dev Cert.FfnSamp.nD,
      r.2.mem ((c.tc : Thread Cert.FfnSamp.nD Cert.FfnSamp.τ).loc Cert.FfnSamp.main_arg0) = m ((c.tc : Thread Cert.FfnSamp.nD Cert.FfnSamp.τ).loc Cert.FfnSamp.main_arg0)
      ∧ r.2.mem ((c.tc : Thread Cert.FfnSamp.nD Cert.FfnSamp.τ).loc Cert.FfnSamp.main_arg1) = m ((c.tc : Thread Cert.FfnSamp.nD Cert.FfnSamp.τ).loc Cert.FfnSamp.main_arg1)
      ∧ r.2.mem ((c.tc : Thread Cert.FfnSamp.nD Cert.FfnSamp.τ).loc Cert.FfnSamp.main_arg2) = m ((c.tc : Thread Cert.FfnSamp.nD Cert.FfnSamp.τ).loc Cert.FfnSamp.main_arg2)
      ∧ r.2.mem ((c.tc : Thread Cert.FfnSamp.nD Cert.FfnSamp.τ).loc Cert.FfnSamp.main_arg3) = m ((c.tc : Thread Cert.FfnSamp.nD Cert.FfnSamp.τ).loc Cert.FfnSamp.main_arg3)
      ∧ r.2.mem ((c.tc : Thread Cert.FfnSamp.nD Cert.FfnSamp.τ).loc Cert.FfnSamp.main_arg4) = m ((c.tc : Thread Cert.FfnSamp.nD Cert.FfnSamp.τ).loc Cert.FfnSamp.main_arg4))
      ∧ r.2.sem = fun _ => 0)

def quiescent_FfnSampIdeal [hFfnSampIdeal : Cert.FfnSampIdeal.Facts] : Prop :=
  ∀ (m : (ℓ : Loc Cert.FfnSampIdeal.nD Cert.FfnSampIdeal.τ Cert.FfnSampIdeal.sig) → Buf (Elt Ideal) ℓ) (g : Dev Cert.FfnSampIdeal.nD → PrngReg), Pre_FfnSampIdeal m →
    θ_run (Cert.FfnSampIdeal.defs (F := Ideal)) (onTc (τ := Cert.FfnSampIdeal.τ) (Cert.FfnSampIdeal.main (F := Ideal))) ⟨m, fun _ => 0, g⟩ (fun r => (∀ c : Dev Cert.FfnSampIdeal.nD,
      r.2.mem ((c.tc : Thread Cert.FfnSampIdeal.nD Cert.FfnSampIdeal.τ).loc Cert.FfnSampIdeal.main_arg0) = m ((c.tc : Thread Cert.FfnSampIdeal.nD Cert.FfnSampIdeal.τ).loc Cert.FfnSampIdeal.main_arg0)
      ∧ r.2.mem ((c.tc : Thread Cert.FfnSampIdeal.nD Cert.FfnSampIdeal.τ).loc Cert.FfnSampIdeal.main_arg1) = m ((c.tc : Thread Cert.FfnSampIdeal.nD Cert.FfnSampIdeal.τ).loc Cert.FfnSampIdeal.main_arg1)
      ∧ r.2.mem ((c.tc : Thread Cert.FfnSampIdeal.nD Cert.FfnSampIdeal.τ).loc Cert.FfnSampIdeal.main_arg2) = m ((c.tc : Thread Cert.FfnSampIdeal.nD Cert.FfnSampIdeal.τ).loc Cert.FfnSampIdeal.main_arg2)
      ∧ r.2.mem ((c.tc : Thread Cert.FfnSampIdeal.nD Cert.FfnSampIdeal.τ).loc Cert.FfnSampIdeal.main_arg3) = m ((c.tc : Thread Cert.FfnSampIdeal.nD Cert.FfnSampIdeal.τ).loc Cert.FfnSampIdeal.main_arg3)
      ∧ r.2.mem ((c.tc : Thread Cert.FfnSampIdeal.nD Cert.FfnSampIdeal.τ).loc Cert.FfnSampIdeal.main_arg4) = m ((c.tc : Thread Cert.FfnSampIdeal.nD Cert.FfnSampIdeal.τ).loc Cert.FfnSampIdeal.main_arg4))
      ∧ r.2.sem = fun _ => 0)

def quiescent_FfnSampRefIdeal [hFfnSampRefIdeal : Cert.FfnSampRefIdeal.Facts] : Prop :=
  ∀ (m : (ℓ : Loc Cert.FfnSampRefIdeal.nD Cert.FfnSampRefIdeal.τ Cert.FfnSampRefIdeal.sig) → Buf (Elt Ideal) ℓ) (g : Dev Cert.FfnSampRefIdeal.nD → PrngReg), Pre_FfnSampRefIdeal m →
    θ_run (Cert.FfnSampRefIdeal.defs (F := Ideal)) (onTc (τ := Cert.FfnSampRefIdeal.τ) (Cert.FfnSampRefIdeal.main (F := Ideal))) ⟨m, fun _ => 0, g⟩ (fun r => (∀ c : Dev Cert.FfnSampRefIdeal.nD,
      r.2.mem ((c.tc : Thread Cert.FfnSampRefIdeal.nD Cert.FfnSampRefIdeal.τ).loc Cert.FfnSampRefIdeal.main_arg0) = m ((c.tc : Thread Cert.FfnSampRefIdeal.nD Cert.FfnSampRefIdeal.τ).loc Cert.FfnSampRefIdeal.main_arg0)
      ∧ r.2.mem ((c.tc : Thread Cert.FfnSampRefIdeal.nD Cert.FfnSampRefIdeal.τ).loc Cert.FfnSampRefIdeal.main_arg1) = m ((c.tc : Thread Cert.FfnSampRefIdeal.nD Cert.FfnSampRefIdeal.τ).loc Cert.FfnSampRefIdeal.main_arg1)
      ∧ r.2.mem ((c.tc : Thread Cert.FfnSampRefIdeal.nD Cert.FfnSampRefIdeal.τ).loc Cert.FfnSampRefIdeal.main_arg2) = m ((c.tc : Thread Cert.FfnSampRefIdeal.nD Cert.FfnSampRefIdeal.τ).loc Cert.FfnSampRefIdeal.main_arg2)
      ∧ r.2.mem ((c.tc : Thread Cert.FfnSampRefIdeal.nD Cert.FfnSampRefIdeal.τ).loc Cert.FfnSampRefIdeal.main_arg3) = m ((c.tc : Thread Cert.FfnSampRefIdeal.nD Cert.FfnSampRefIdeal.τ).loc Cert.FfnSampRefIdeal.main_arg3)
      ∧ r.2.mem ((c.tc : Thread Cert.FfnSampRefIdeal.nD Cert.FfnSampRefIdeal.τ).loc Cert.FfnSampRefIdeal.main_arg4) = m ((c.tc : Thread Cert.FfnSampRefIdeal.nD Cert.FfnSampRefIdeal.τ).loc Cert.FfnSampRefIdeal.main_arg4))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ r.2.sem = fun _ => 0)

def quiescent_StepIdeal_pre_forget [hStepIdeal : Cert.StepIdeal.Facts] [hPre_forget : Cert.Pre_forget.Facts] : Prop :=
  ∀ (m : (ℓ : Loc Cert.StepIdeal.nD Cert.StepIdeal.τ Cert.StepIdeal.sig) → Buf (Elt Ideal) ℓ) (g : Dev Cert.StepIdeal.nD → PrngReg), Pre_StepIdeal_forget m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6))
      ∧ r.2.sem = fun _ => 0)

def quiescent_StepRefIdeal_pre_forget [hStepRefIdeal : Cert.StepRefIdeal.Facts] [hPre_forget : Cert.Pre_forget.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal_forget m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6))
      ∧ r.2.sem = fun _ => 0)

def quiescent_AttnSamp [hAttnSamp : Cert.AttnSamp.Facts] : Prop :=
  ∀ (m : (ℓ : Loc Cert.AttnSamp.nD Cert.AttnSamp.τ Cert.AttnSamp.sig) → Buf (Elt Bits) ℓ) (g : Dev Cert.AttnSamp.nD → PrngReg), Pre_AttnSamp m →
    θ_run (Cert.AttnSamp.defs (F := Bits)) (onTc (τ := Cert.AttnSamp.τ) (Cert.AttnSamp.main (F := Bits))) ⟨m, fun _ => 0, g⟩ (fun r => (∀ c : Dev Cert.AttnSamp.nD,
      r.2.mem ((c.tc : Thread Cert.AttnSamp.nD Cert.AttnSamp.τ).loc Cert.AttnSamp.main_arg0) = m ((c.tc : Thread Cert.AttnSamp.nD Cert.AttnSamp.τ).loc Cert.AttnSamp.main_arg0)
      ∧ r.2.mem ((c.tc : Thread Cert.AttnSamp.nD Cert.AttnSamp.τ).loc Cert.AttnSamp.main_arg1) = m ((c.tc : Thread Cert.AttnSamp.nD Cert.AttnSamp.τ).loc Cert.AttnSamp.main_arg1)
      ∧ r.2.mem ((c.tc : Thread Cert.AttnSamp.nD Cert.AttnSamp.τ).loc Cert.AttnSamp.main_arg2) = m ((c.tc : Thread Cert.AttnSamp.nD Cert.AttnSamp.τ).loc Cert.AttnSamp.main_arg2)
      ∧ r.2.mem ((c.tc : Thread Cert.AttnSamp.nD Cert.AttnSamp.τ).loc Cert.AttnSamp.main_arg3) = m ((c.tc : Thread Cert.AttnSamp.nD Cert.AttnSamp.τ).loc Cert.AttnSamp.main_arg3)
      ∧ r.2.mem ((c.tc : Thread Cert.AttnSamp.nD Cert.AttnSamp.τ).loc Cert.AttnSamp.main_arg4) = m ((c.tc : Thread Cert.AttnSamp.nD Cert.AttnSamp.τ).loc Cert.AttnSamp.main_arg4)
      ∧ r.2.mem ((c.tc : Thread Cert.AttnSamp.nD Cert.AttnSamp.τ).loc Cert.AttnSamp.main_arg5) = m ((c.tc : Thread Cert.AttnSamp.nD Cert.AttnSamp.τ).loc Cert.AttnSamp.main_arg5))
      ∧ r.2.sem = fun _ => 0)

def quiescent_AttnSampIdeal [hAttnSampIdeal : Cert.AttnSampIdeal.Facts] : Prop :=
  ∀ (m : (ℓ : Loc Cert.AttnSampIdeal.nD Cert.AttnSampIdeal.τ Cert.AttnSampIdeal.sig) → Buf (Elt Ideal) ℓ) (g : Dev Cert.AttnSampIdeal.nD → PrngReg), Pre_AttnSampIdeal m →
    θ_run (Cert.AttnSampIdeal.defs (F := Ideal)) (onTc (τ := Cert.AttnSampIdeal.τ) (Cert.AttnSampIdeal.main (F := Ideal))) ⟨m, fun _ => 0, g⟩ (fun r => (∀ c : Dev Cert.AttnSampIdeal.nD,
      r.2.mem ((c.tc : Thread Cert.AttnSampIdeal.nD Cert.AttnSampIdeal.τ).loc Cert.AttnSampIdeal.main_arg0) = m ((c.tc : Thread Cert.AttnSampIdeal.nD Cert.AttnSampIdeal.τ).loc Cert.AttnSampIdeal.main_arg0)
      ∧ r.2.mem ((c.tc : Thread Cert.AttnSampIdeal.nD Cert.AttnSampIdeal.τ).loc Cert.AttnSampIdeal.main_arg1) = m ((c.tc : Thread Cert.AttnSampIdeal.nD Cert.AttnSampIdeal.τ).loc Cert.AttnSampIdeal.main_arg1)
      ∧ r.2.mem ((c.tc : Thread Cert.AttnSampIdeal.nD Cert.AttnSampIdeal.τ).loc Cert.AttnSampIdeal.main_arg2) = m ((c.tc : Thread Cert.AttnSampIdeal.nD Cert.AttnSampIdeal.τ).loc Cert.AttnSampIdeal.main_arg2)
      ∧ r.2.mem ((c.tc : Thread Cert.AttnSampIdeal.nD Cert.AttnSampIdeal.τ).loc Cert.AttnSampIdeal.main_arg3) = m ((c.tc : Thread Cert.AttnSampIdeal.nD Cert.AttnSampIdeal.τ).loc Cert.AttnSampIdeal.main_arg3)
      ∧ r.2.mem ((c.tc : Thread Cert.AttnSampIdeal.nD Cert.AttnSampIdeal.τ).loc Cert.AttnSampIdeal.main_arg4) = m ((c.tc : Thread Cert.AttnSampIdeal.nD Cert.AttnSampIdeal.τ).loc Cert.AttnSampIdeal.main_arg4)
      ∧ r.2.mem ((c.tc : Thread Cert.AttnSampIdeal.nD Cert.AttnSampIdeal.τ).loc Cert.AttnSampIdeal.main_arg5) = m ((c.tc : Thread Cert.AttnSampIdeal.nD Cert.AttnSampIdeal.τ).loc Cert.AttnSampIdeal.main_arg5))
      ∧ r.2.sem = fun _ => 0)

def quiescent_AttnSampIdeal_pre_finite_sample [hAttnSampIdeal : Cert.AttnSampIdeal.Facts] [hPre_finite_sample : Cert.Pre_finite_sample.Facts] : Prop :=
  ∀ (m : (ℓ : Loc Cert.AttnSampIdeal.nD Cert.AttnSampIdeal.τ Cert.AttnSampIdeal.sig) → Buf (Elt Ideal) ℓ) (g : Dev Cert.AttnSampIdeal.nD → PrngReg), Pre_AttnSampIdeal_finite_sample m →
    θ_run (Cert.AttnSampIdeal.defs (F := Ideal)) (onTc (τ := Cert.AttnSampIdeal.τ) (Cert.AttnSampIdeal.main (F := Ideal))) ⟨m, fun _ => 0, g⟩ (fun r => (∀ c : Dev Cert.AttnSampIdeal.nD,
      r.2.mem ((c.tc : Thread Cert.AttnSampIdeal.nD Cert.AttnSampIdeal.τ).loc Cert.AttnSampIdeal.main_arg0) = m ((c.tc : Thread Cert.AttnSampIdeal.nD Cert.AttnSampIdeal.τ).loc Cert.AttnSampIdeal.main_arg0)
      ∧ r.2.mem ((c.tc : Thread Cert.AttnSampIdeal.nD Cert.AttnSampIdeal.τ).loc Cert.AttnSampIdeal.main_arg1) = m ((c.tc : Thread Cert.AttnSampIdeal.nD Cert.AttnSampIdeal.τ).loc Cert.AttnSampIdeal.main_arg1)
      ∧ r.2.mem ((c.tc : Thread Cert.AttnSampIdeal.nD Cert.AttnSampIdeal.τ).loc Cert.AttnSampIdeal.main_arg2) = m ((c.tc : Thread Cert.AttnSampIdeal.nD Cert.AttnSampIdeal.τ).loc Cert.AttnSampIdeal.main_arg2)
      ∧ r.2.mem ((c.tc : Thread Cert.AttnSampIdeal.nD Cert.AttnSampIdeal.τ).loc Cert.AttnSampIdeal.main_arg3) = m ((c.tc : Thread Cert.AttnSampIdeal.nD Cert.AttnSampIdeal.τ).loc Cert.AttnSampIdeal.main_arg3)
      ∧ r.2.mem ((c.tc : Thread Cert.AttnSampIdeal.nD Cert.AttnSampIdeal.τ).loc Cert.AttnSampIdeal.main_arg4) = m ((c.tc : Thread Cert.AttnSampIdeal.nD Cert.AttnSampIdeal.τ).loc Cert.AttnSampIdeal.main_arg4)
      ∧ r.2.mem ((c.tc : Thread Cert.AttnSampIdeal.nD Cert.AttnSampIdeal.τ).loc Cert.AttnSampIdeal.main_arg5) = m ((c.tc : Thread Cert.AttnSampIdeal.nD Cert.AttnSampIdeal.τ).loc Cert.AttnSampIdeal.main_arg5))
      ∧ r.2.sem = fun _ => 0)

def quiescent_AttnSampRefIdeal [hAttnSampRefIdeal : Cert.AttnSampRefIdeal.Facts] : Prop :=
  ∀ (m : (ℓ : Loc Cert.AttnSampRefIdeal.nD Cert.AttnSampRefIdeal.τ Cert.AttnSampRefIdeal.sig) → Buf (Elt Ideal) ℓ) (g : Dev Cert.AttnSampRefIdeal.nD → PrngReg), Pre_AttnSampRefIdeal m →
    θ_run (Cert.AttnSampRefIdeal.defs (F := Ideal)) (onTc (τ := Cert.AttnSampRefIdeal.τ) (Cert.AttnSampRefIdeal.main (F := Ideal))) ⟨m, fun _ => 0, g⟩ (fun r => (∀ c : Dev Cert.AttnSampRefIdeal.nD,
      r.2.mem ((c.tc : Thread Cert.AttnSampRefIdeal.nD Cert.AttnSampRefIdeal.τ).loc Cert.AttnSampRefIdeal.main_arg0) = m ((c.tc : Thread Cert.AttnSampRefIdeal.nD Cert.AttnSampRefIdeal.τ).loc Cert.AttnSampRefIdeal.main_arg0)
      ∧ r.2.mem ((c.tc : Thread Cert.AttnSampRefIdeal.nD Cert.AttnSampRefIdeal.τ).loc Cert.AttnSampRefIdeal.main_arg1) = m ((c.tc : Thread Cert.AttnSampRefIdeal.nD Cert.AttnSampRefIdeal.τ).loc Cert.AttnSampRefIdeal.main_arg1)
      ∧ r.2.mem ((c.tc : Thread Cert.AttnSampRefIdeal.nD Cert.AttnSampRefIdeal.τ).loc Cert.AttnSampRefIdeal.main_arg2) = m ((c.tc : Thread Cert.AttnSampRefIdeal.nD Cert.AttnSampRefIdeal.τ).loc Cert.AttnSampRefIdeal.main_arg2)
      ∧ r.2.mem ((c.tc : Thread Cert.AttnSampRefIdeal.nD Cert.AttnSampRefIdeal.τ).loc Cert.AttnSampRefIdeal.main_arg3) = m ((c.tc : Thread Cert.AttnSampRefIdeal.nD Cert.AttnSampRefIdeal.τ).loc Cert.AttnSampRefIdeal.main_arg3)
      ∧ r.2.mem ((c.tc : Thread Cert.AttnSampRefIdeal.nD Cert.AttnSampRefIdeal.τ).loc Cert.AttnSampRefIdeal.main_arg4) = m ((c.tc : Thread Cert.AttnSampRefIdeal.nD Cert.AttnSampRefIdeal.τ).loc Cert.AttnSampRefIdeal.main_arg4)
      ∧ r.2.mem ((c.tc : Thread Cert.AttnSampRefIdeal.nD Cert.AttnSampRefIdeal.τ).loc Cert.AttnSampRefIdeal.main_arg5) = m ((c.tc : Thread Cert.AttnSampRefIdeal.nD Cert.AttnSampRefIdeal.τ).loc Cert.AttnSampRefIdeal.main_arg5))
      ∧ r.2.sem = fun _ => 0)

def quiescent_AttnSampRefIdeal_pre_finite_sample [hAttnSampRefIdeal : Cert.AttnSampRefIdeal.Facts] [hPre_finite_sample : Cert.Pre_finite_sample.Facts] : Prop :=
  ∀ (m : (ℓ : Loc Cert.AttnSampRefIdeal.nD Cert.AttnSampRefIdeal.τ Cert.AttnSampRefIdeal.sig) → Buf (Elt Ideal) ℓ) (g : Dev Cert.AttnSampRefIdeal.nD → PrngReg), Pre_AttnSampRefIdeal_finite_sample m →
    θ_run (Cert.AttnSampRefIdeal.defs (F := Ideal)) (onTc (τ := Cert.AttnSampRefIdeal.τ) (Cert.AttnSampRefIdeal.main (F := Ideal))) ⟨m, fun _ => 0, g⟩ (fun r => (∀ c : Dev Cert.AttnSampRefIdeal.nD,
      r.2.mem ((c.tc : Thread Cert.AttnSampRefIdeal.nD Cert.AttnSampRefIdeal.τ).loc Cert.AttnSampRefIdeal.main_arg0) = m ((c.tc : Thread Cert.AttnSampRefIdeal.nD Cert.AttnSampRefIdeal.τ).loc Cert.AttnSampRefIdeal.main_arg0)
      ∧ r.2.mem ((c.tc : Thread Cert.AttnSampRefIdeal.nD Cert.AttnSampRefIdeal.τ).loc Cert.AttnSampRefIdeal.main_arg1) = m ((c.tc : Thread Cert.AttnSampRefIdeal.nD Cert.AttnSampRefIdeal.τ).loc Cert.AttnSampRefIdeal.main_arg1)
      ∧ r.2.mem ((c.tc : Thread Cert.AttnSampRefIdeal.nD Cert.AttnSampRefIdeal.τ).loc Cert.AttnSampRefIdeal.main_arg2) = m ((c.tc : Thread Cert.AttnSampRefIdeal.nD Cert.AttnSampRefIdeal.τ).loc Cert.AttnSampRefIdeal.main_arg2)
      ∧ r.2.mem ((c.tc : Thread Cert.AttnSampRefIdeal.nD Cert.AttnSampRefIdeal.τ).loc Cert.AttnSampRefIdeal.main_arg3) = m ((c.tc : Thread Cert.AttnSampRefIdeal.nD Cert.AttnSampRefIdeal.τ).loc Cert.AttnSampRefIdeal.main_arg3)
      ∧ r.2.mem ((c.tc : Thread Cert.AttnSampRefIdeal.nD Cert.AttnSampRefIdeal.τ).loc Cert.AttnSampRefIdeal.main_arg4) = m ((c.tc : Thread Cert.AttnSampRefIdeal.nD Cert.AttnSampRefIdeal.τ).loc Cert.AttnSampRefIdeal.main_arg4)
      ∧ r.2.mem ((c.tc : Thread Cert.AttnSampRefIdeal.nD Cert.AttnSampRefIdeal.τ).loc Cert.AttnSampRefIdeal.main_arg5) = m ((c.tc : Thread Cert.AttnSampRefIdeal.nD Cert.AttnSampRefIdeal.τ).loc Cert.AttnSampRefIdeal.main_arg5))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v9_0)) (v1 : (c : Dev Cert.QkvIdeal.nD) → Buf (Elt Ideal) ((c.tc : Thread Cert.QkvIdeal.nD Cert.QkvIdeal.τ).loc Cert.QkvIdeal.main_v9_1)) (v2 : (c : Dev Cert.QkvIdeal.nD) → Buf (Elt Ideal) ((c.tc : Thread Cert.QkvIdeal.nD Cert.QkvIdeal.τ).loc Cert.QkvIdeal.main_v9_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v9_0) = v0 c
          ∧ r.2.mem ((c.tc : Thread Cert.QkvIdeal.nD Cert.QkvIdeal.τ).loc Cert.QkvIdeal.main_v9_1) = v1 c
          ∧ r.2.mem ((c.tc : Thread Cert.QkvIdeal.nD Cert.QkvIdeal.τ).loc Cert.QkvIdeal.main_v9_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v8) = v0 c
          ∧ r.2.mem ((c.tc : Thread Cert.QkvRefIdeal.nD Cert.QkvRefIdeal.τ).loc Cert.QkvRefIdeal.main_v10) = v1 c
          ∧ r.2.mem ((c.tc : Thread Cert.QkvRefIdeal.nD Cert.QkvRefIdeal.τ).loc Cert.QkvRefIdeal.main_v12) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)) →
    ∃ (v0 : (c : Dev Cert.TailIdeal.nD) → Buf (Elt Ideal) ((c.tc : Thread Cert.TailIdeal.nD Cert.TailIdeal.τ).loc Cert.TailIdeal.main_v11_0)) (v1 : (c : Dev Cert.TailIdeal.nD) → Buf (Elt Ideal) ((c.tc : Thread Cert.TailIdeal.nD Cert.TailIdeal.τ).loc Cert.TailIdeal.main_v11_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v11_0) = v0 c
          ∧ r.2.mem ((c.tc : Thread Cert.TailIdeal.nD Cert.TailIdeal.τ).loc Cert.TailIdeal.main_v11_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v6) = v0 c
          ∧ r.2.mem ((c.tc : Thread Cert.TailRefIdeal.nD Cert.TailRefIdeal.τ).loc Cert.TailRefIdeal.main_v8) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1))

def preserves_Samp_SampIdeal : Prop :=
  True

def algebraic_SampIdeal_SampRefIdeal [hSampIdeal : Cert.SampIdeal.Facts] [hSampRefIdeal : Cert.SampRefIdeal.Facts] : Prop :=
  ∀ (m : (ℓ : Loc Cert.SampIdeal.nD Cert.SampIdeal.τ Cert.SampIdeal.sig) → Buf (Elt Ideal) ℓ) (g : Dev Cert.SampIdeal.nD → PrngReg)
    (m' : (ℓ : Loc Cert.SampRefIdeal.nD Cert.SampRefIdeal.τ Cert.SampRefIdeal.sig) → Buf (Elt Ideal) ℓ) (g' : Dev Cert.SampRefIdeal.nD → PrngReg), Pre_SampIdeal m →
    (∀ c : Dev Cert.SampIdeal.nD,
      m' ((c.tc : Thread Cert.SampRefIdeal.nD Cert.SampRefIdeal.τ).loc Cert.SampRefIdeal.main_arg0) = m ((c.tc : Thread Cert.SampIdeal.nD Cert.SampIdeal.τ).loc Cert.SampIdeal.main_arg0)
      ∧ m' ((c.tc : Thread Cert.SampRefIdeal.nD Cert.SampRefIdeal.τ).loc Cert.SampRefIdeal.main_arg1) = m ((c.tc : Thread Cert.SampIdeal.nD Cert.SampIdeal.τ).loc Cert.SampIdeal.main_arg1)) →
    ∃ (v0 : (c : Dev Cert.SampIdeal.nD) → Buf (Elt Ideal) ((c.tc : Thread Cert.SampIdeal.nD Cert.SampIdeal.τ).loc Cert.SampIdeal.main_v9_0)) (v1 : (c : Dev Cert.SampIdeal.nD) → Buf (Elt Ideal) ((c.tc : Thread Cert.SampIdeal.nD Cert.SampIdeal.τ).loc Cert.SampIdeal.main_v9_1)) (v2 : (c : Dev Cert.SampIdeal.nD) → Buf (Elt Ideal) ((c.tc : Thread Cert.SampIdeal.nD Cert.SampIdeal.τ).loc Cert.SampIdeal.main_v9_2)),
      θ_run (Cert.SampIdeal.defs (F := Ideal)) (onTc (τ := Cert.SampIdeal.τ) (Cert.SampIdeal.main (F := Ideal))) ⟨m, fun _ => 0, g⟩ (fun r => ∀ c : Dev Cert.SampIdeal.nD,
          r.2.mem ((c.tc : Thread Cert.SampIdeal.nD Cert.SampIdeal.τ).loc Cert.SampIdeal.main_v9_0) = v0 c
          ∧ r.2.mem ((c.tc : Thread Cert.SampIdeal.nD Cert.SampIdeal.τ).loc Cert.SampIdeal.main_v9_1) = v1 c
          ∧ r.2.mem ((c.tc : Thread Cert.SampIdeal.nD Cert.SampIdeal.τ).loc Cert.SampIdeal.main_v9_2) = v2 c
          ∧ r.2.mem ((c.tc : Thread Cert.SampIdeal.nD Cert.SampIdeal.τ).loc Cert.SampIdeal.main_arg0) = m ((c.tc : Thread Cert.SampIdeal.nD Cert.SampIdeal.τ).loc Cert.SampIdeal.main_arg0)
          ∧ r.2.mem ((c.tc : Thread Cert.SampIdeal.nD Cert.SampIdeal.τ).loc Cert.SampIdeal.main_arg1) = m ((c.tc : Thread Cert.SampIdeal.nD Cert.SampIdeal.τ).loc Cert.SampIdeal.main_arg1))
      ∧ θ_run (Cert.SampRefIdeal.defs (F := Ideal)) (onTc (τ := Cert.SampRefIdeal.τ) (Cert.SampRefIdeal.main (F := Ideal))) ⟨m', fun _ => 0, g'⟩ (fun r => ∀ c : Dev Cert.SampRefIdeal.nD,
          r.2.mem ((c.tc : Thread Cert.SampRefIdeal.nD Cert.SampRefIdeal.τ).loc Cert.SampRefIdeal.main_v7) = v0 c
          ∧ r.2.mem ((c.tc : Thread Cert.SampRefIdeal.nD Cert.SampRefIdeal.τ).loc Cert.SampRefIdeal.main_v8) = v1 c
          ∧ r.2.mem ((c.tc : Thread Cert.SampRefIdeal.nD Cert.SampRefIdeal.τ).loc Cert.SampRefIdeal.main_v9) = v2 c
          ∧ r.2.mem ((c.tc : Thread Cert.SampRefIdeal.nD Cert.SampRefIdeal.τ).loc Cert.SampRefIdeal.main_arg0) = m' ((c.tc : Thread Cert.SampRefIdeal.nD Cert.SampRefIdeal.τ).loc Cert.SampRefIdeal.main_arg0)
          ∧ r.2.mem ((c.tc : Thread Cert.SampRefIdeal.nD Cert.SampRefIdeal.τ).loc Cert.SampRefIdeal.main_arg1) = m' ((c.tc : Thread Cert.SampRefIdeal.nD Cert.SampRefIdeal.τ).loc Cert.SampRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v28) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnSamp_FfnSampIdeal : Prop :=
  True

def algebraic_FfnSampIdeal_FfnSampRefIdeal [hFfnSampIdeal : Cert.FfnSampIdeal.Facts] [hFfnSampRefIdeal : Cert.FfnSampRefIdeal.Facts] : Prop :=
  ∀ (m : (ℓ : Loc Cert.FfnSampIdeal.nD Cert.FfnSampIdeal.τ Cert.FfnSampIdeal.sig) → Buf (Elt Ideal) ℓ) (g : Dev Cert.FfnSampIdeal.nD → PrngReg)
    (m' : (ℓ : Loc Cert.FfnSampRefIdeal.nD Cert.FfnSampRefIdeal.τ Cert.FfnSampRefIdeal.sig) → Buf (Elt Ideal) ℓ) (g' : Dev Cert.FfnSampRefIdeal.nD → PrngReg), Pre_FfnSampIdeal m →
    (∀ c : Dev Cert.FfnSampIdeal.nD,
      m' ((c.tc : Thread Cert.FfnSampRefIdeal.nD Cert.FfnSampRefIdeal.τ).loc Cert.FfnSampRefIdeal.main_arg0) = m ((c.tc : Thread Cert.FfnSampIdeal.nD Cert.FfnSampIdeal.τ).loc Cert.FfnSampIdeal.main_arg0)
      ∧ m' ((c.tc : Thread Cert.FfnSampRefIdeal.nD Cert.FfnSampRefIdeal.τ).loc Cert.FfnSampRefIdeal.main_arg1) = m ((c.tc : Thread Cert.FfnSampIdeal.nD Cert.FfnSampIdeal.τ).loc Cert.FfnSampIdeal.main_arg1)
      ∧ m' ((c.tc : Thread Cert.FfnSampRefIdeal.nD Cert.FfnSampRefIdeal.τ).loc Cert.FfnSampRefIdeal.main_arg2) = m ((c.tc : Thread Cert.FfnSampIdeal.nD Cert.FfnSampIdeal.τ).loc Cert.FfnSampIdeal.main_arg2)
      ∧ m' ((c.tc : Thread Cert.FfnSampRefIdeal.nD Cert.FfnSampRefIdeal.τ).loc Cert.FfnSampRefIdeal.main_arg3) = m ((c.tc : Thread Cert.FfnSampIdeal.nD Cert.FfnSampIdeal.τ).loc Cert.FfnSampIdeal.main_arg3)
      ∧ m' ((c.tc : Thread Cert.FfnSampRefIdeal.nD Cert.FfnSampRefIdeal.τ).loc Cert.FfnSampRefIdeal.main_arg4) = m ((c.tc : Thread Cert.FfnSampIdeal.nD Cert.FfnSampIdeal.τ).loc Cert.FfnSampIdeal.main_arg4)) →
    ∃ (v0 : (c : Dev Cert.FfnSampIdeal.nD) → Buf (Elt Ideal) ((c.tc : Thread Cert.FfnSampIdeal.nD Cert.FfnSampIdeal.τ).loc Cert.FfnSampIdeal.main_v4)),
      θ_run (Cert.FfnSampIdeal.defs (F := Ideal)) (onTc (τ := Cert.FfnSampIdeal.τ) (Cert.FfnSampIdeal.main (F := Ideal))) ⟨m, fun _ => 0, g⟩ (fun r => ∀ c : Dev Cert.FfnSampIdeal.nD,
          r.2.mem ((c.tc : Thread Cert.FfnSampIdeal.nD Cert.FfnSampIdeal.τ).loc Cert.FfnSampIdeal.main_v4) = v0 c
          ∧ r.2.mem ((c.tc : Thread Cert.FfnSampIdeal.nD Cert.FfnSampIdeal.τ).loc Cert.FfnSampIdeal.main_arg0) = m ((c.tc : Thread Cert.FfnSampIdeal.nD Cert.FfnSampIdeal.τ).loc Cert.FfnSampIdeal.main_arg0)
          ∧ r.2.mem ((c.tc : Thread Cert.FfnSampIdeal.nD Cert.FfnSampIdeal.τ).loc Cert.FfnSampIdeal.main_arg1) = m ((c.tc : Thread Cert.FfnSampIdeal.nD Cert.FfnSampIdeal.τ).loc Cert.FfnSampIdeal.main_arg1)
          ∧ r.2.mem ((c.tc : Thread Cert.FfnSampIdeal.nD Cert.FfnSampIdeal.τ).loc Cert.FfnSampIdeal.main_arg2) = m ((c.tc : Thread Cert.FfnSampIdeal.nD Cert.FfnSampIdeal.τ).loc Cert.FfnSampIdeal.main_arg2)
          ∧ r.2.mem ((c.tc : Thread Cert.FfnSampIdeal.nD Cert.FfnSampIdeal.τ).loc Cert.FfnSampIdeal.main_arg3) = m ((c.tc : Thread Cert.FfnSampIdeal.nD Cert.FfnSampIdeal.τ).loc Cert.FfnSampIdeal.main_arg3)
          ∧ r.2.mem ((c.tc : Thread Cert.FfnSampIdeal.nD Cert.FfnSampIdeal.τ).loc Cert.FfnSampIdeal.main_arg4) = m ((c.tc : Thread Cert.FfnSampIdeal.nD Cert.FfnSampIdeal.τ).loc Cert.FfnSampIdeal.main_arg4))
      ∧ θ_run (Cert.FfnSampRefIdeal.defs (F := Ideal)) (onTc (τ := Cert.FfnSampRefIdeal.τ) (Cert.FfnSampRefIdeal.main (F := Ideal))) ⟨m', fun _ => 0, g'⟩ (fun r => ∀ c : Dev Cert.FfnSampRefIdeal.nD,
          r.2.mem ((c.tc : Thread Cert.FfnSampRefIdeal.nD Cert.FfnSampRefIdeal.τ).loc Cert.FfnSampRefIdeal.main_v32) = v0 c
          ∧ r.2.mem ((c.tc : Thread Cert.FfnSampRefIdeal.nD Cert.FfnSampRefIdeal.τ).loc Cert.FfnSampRefIdeal.main_arg0) = m' ((c.tc : Thread Cert.FfnSampRefIdeal.nD Cert.FfnSampRefIdeal.τ).loc Cert.FfnSampRefIdeal.main_arg0)
          ∧ r.2.mem ((c.tc : Thread Cert.FfnSampRefIdeal.nD Cert.FfnSampRefIdeal.τ).loc Cert.FfnSampRefIdeal.main_arg1) = m' ((c.tc : Thread Cert.FfnSampRefIdeal.nD Cert.FfnSampRefIdeal.τ).loc Cert.FfnSampRefIdeal.main_arg1)
          ∧ r.2.mem ((c.tc : Thread Cert.FfnSampRefIdeal.nD Cert.FfnSampRefIdeal.τ).loc Cert.FfnSampRefIdeal.main_arg2) = m' ((c.tc : Thread Cert.FfnSampRefIdeal.nD Cert.FfnSampRefIdeal.τ).loc Cert.FfnSampRefIdeal.main_arg2)
          ∧ r.2.mem ((c.tc : Thread Cert.FfnSampRefIdeal.nD Cert.FfnSampRefIdeal.τ).loc Cert.FfnSampRefIdeal.main_arg3) = m' ((c.tc : Thread Cert.FfnSampRefIdeal.nD Cert.FfnSampRefIdeal.τ).loc Cert.FfnSampRefIdeal.main_arg3)
          ∧ r.2.mem ((c.tc : Thread Cert.FfnSampRefIdeal.nD Cert.FfnSampRefIdeal.τ).loc Cert.FfnSampRefIdeal.main_arg4) = m' ((c.tc : Thread Cert.FfnSampRefIdeal.nD Cert.FfnSampRefIdeal.τ).loc Cert.FfnSampRefIdeal.main_arg4))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)) →
    ∃ (v0 : (c : Dev Cert.GlaIdeal.nD) → Buf (Elt Ideal) ((c.tc : Thread Cert.GlaIdeal.nD Cert.GlaIdeal.τ).loc Cert.GlaIdeal.main_v8_0)) (v1 : (c : Dev Cert.GlaIdeal.nD) → Buf (Elt Ideal) ((c.tc : Thread Cert.GlaIdeal.nD Cert.GlaIdeal.τ).loc Cert.GlaIdeal.main_v8_1)) (v2 : (c : Dev Cert.GlaIdeal.nD) → Buf (Elt Ideal) ((c.tc : Thread Cert.GlaIdeal.nD Cert.GlaIdeal.τ).loc Cert.GlaIdeal.main_v8_2)) (v3 : (c : Dev Cert.GlaIdeal.nD) → Buf (Elt Ideal) ((c.tc : Thread Cert.GlaIdeal.nD Cert.GlaIdeal.τ).loc Cert.GlaIdeal.main_v8_3)) (v4 : (c : Dev Cert.GlaIdeal.nD) → Buf (Elt Ideal) ((c.tc : Thread Cert.GlaIdeal.nD Cert.GlaIdeal.τ).loc Cert.GlaIdeal.main_v8_4)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v8_0) = v0 c
          ∧ r.2.mem ((c.tc : Thread Cert.GlaIdeal.nD Cert.GlaIdeal.τ).loc Cert.GlaIdeal.main_v8_1) = v1 c
          ∧ r.2.mem ((c.tc : Thread Cert.GlaIdeal.nD Cert.GlaIdeal.τ).loc Cert.GlaIdeal.main_v8_2) = v2 c
          ∧ r.2.mem ((c.tc : Thread Cert.GlaIdeal.nD Cert.GlaIdeal.τ).loc Cert.GlaIdeal.main_v8_3) = v3 c
          ∧ r.2.mem ((c.tc : Thread Cert.GlaIdeal.nD Cert.GlaIdeal.τ).loc Cert.GlaIdeal.main_v8_4) = v4 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v14) = v0 c
          ∧ r.2.mem ((c.tc : Thread Cert.GlaRefIdeal.nD Cert.GlaRefIdeal.τ).loc Cert.GlaRefIdeal.main_v2) = v1 c
          ∧ r.2.mem ((c.tc : Thread Cert.GlaRefIdeal.nD Cert.GlaRefIdeal.τ).loc Cert.GlaRefIdeal.main_v3) = v2 c
          ∧ r.2.mem ((c.tc : Thread Cert.GlaRefIdeal.nD Cert.GlaRefIdeal.τ).loc Cert.GlaRefIdeal.main_v4) = v3 c
          ∧ r.2.mem ((c.tc : Thread Cert.GlaRefIdeal.nD Cert.GlaRefIdeal.τ).loc Cert.GlaRefIdeal.main_v12) = v4 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3))

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v20)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v20) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v74) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Step_StepIdeal : Prop :=
  True

def algebraic_StepIdeal_StepRefIdeal_pre_forget [hStepIdeal : Cert.StepIdeal.Facts] [hStepRefIdeal : Cert.StepRefIdeal.Facts] [hPre_forget : Cert.Pre_forget.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal_forget m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)) →
    ∃ (v0 : (c : Dev Cert.StepIdeal.nD) → Buf (Elt Ideal) ((c.tc : Thread Cert.StepIdeal.nD Cert.StepIdeal.τ).loc Cert.StepIdeal.main_v2_0)) (v1 : (c : Dev Cert.StepIdeal.nD) → Buf (Elt Ideal) ((c.tc : Thread Cert.StepIdeal.nD Cert.StepIdeal.τ).loc Cert.StepIdeal.main_v2_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v2_0) = v0 c
          ∧ r.2.mem ((c.tc : Thread Cert.StepIdeal.nD Cert.StepIdeal.τ).loc Cert.StepIdeal.main_v2_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v58) = v0 c
          ∧ r.2.mem ((c.tc : Thread Cert.StepRefIdeal.nD Cert.StepRefIdeal.τ).loc Cert.StepRefIdeal.main_v59) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6))

def preserves_AttnSamp_AttnSampIdeal : Prop :=
  True

def algebraic_AttnSampIdeal_AttnSampRefIdeal_pre_finite_sample [hAttnSampIdeal : Cert.AttnSampIdeal.Facts] [hAttnSampRefIdeal : Cert.AttnSampRefIdeal.Facts] [hPre_finite_sample : Cert.Pre_finite_sample.Facts] : Prop :=
  ∀ (m : (ℓ : Loc Cert.AttnSampIdeal.nD Cert.AttnSampIdeal.τ Cert.AttnSampIdeal.sig) → Buf (Elt Ideal) ℓ) (g : Dev Cert.AttnSampIdeal.nD → PrngReg)
    (m' : (ℓ : Loc Cert.AttnSampRefIdeal.nD Cert.AttnSampRefIdeal.τ Cert.AttnSampRefIdeal.sig) → Buf (Elt Ideal) ℓ) (g' : Dev Cert.AttnSampRefIdeal.nD → PrngReg), Pre_AttnSampIdeal_finite_sample m →
    (∀ c : Dev Cert.AttnSampIdeal.nD,
      m' ((c.tc : Thread Cert.AttnSampRefIdeal.nD Cert.AttnSampRefIdeal.τ).loc Cert.AttnSampRefIdeal.main_arg0) = m ((c.tc : Thread Cert.AttnSampIdeal.nD Cert.AttnSampIdeal.τ).loc Cert.AttnSampIdeal.main_arg0)
      ∧ m' ((c.tc : Thread Cert.AttnSampRefIdeal.nD Cert.AttnSampRefIdeal.τ).loc Cert.AttnSampRefIdeal.main_arg1) = m ((c.tc : Thread Cert.AttnSampIdeal.nD Cert.AttnSampIdeal.τ).loc Cert.AttnSampIdeal.main_arg1)
      ∧ m' ((c.tc : Thread Cert.AttnSampRefIdeal.nD Cert.AttnSampRefIdeal.τ).loc Cert.AttnSampRefIdeal.main_arg2) = m ((c.tc : Thread Cert.AttnSampIdeal.nD Cert.AttnSampIdeal.τ).loc Cert.AttnSampIdeal.main_arg2)
      ∧ m' ((c.tc : Thread Cert.AttnSampRefIdeal.nD Cert.AttnSampRefIdeal.τ).loc Cert.AttnSampRefIdeal.main_arg3) = m ((c.tc : Thread Cert.AttnSampIdeal.nD Cert.AttnSampIdeal.τ).loc Cert.AttnSampIdeal.main_arg3)
      ∧ m' ((c.tc : Thread Cert.AttnSampRefIdeal.nD Cert.AttnSampRefIdeal.τ).loc Cert.AttnSampRefIdeal.main_arg4) = m ((c.tc : Thread Cert.AttnSampIdeal.nD Cert.AttnSampIdeal.τ).loc Cert.AttnSampIdeal.main_arg4)
      ∧ m' ((c.tc : Thread Cert.AttnSampRefIdeal.nD Cert.AttnSampRefIdeal.τ).loc Cert.AttnSampRefIdeal.main_arg5) = m ((c.tc : Thread Cert.AttnSampIdeal.nD Cert.AttnSampIdeal.τ).loc Cert.AttnSampIdeal.main_arg5)) →
    ∃ (v0 : (c : Dev Cert.AttnSampIdeal.nD) → Buf (Elt Ideal) ((c.tc : Thread Cert.AttnSampIdeal.nD Cert.AttnSampIdeal.τ).loc Cert.AttnSampIdeal.main_v24)),
      θ_run (Cert.AttnSampIdeal.defs (F := Ideal)) (onTc (τ := Cert.AttnSampIdeal.τ) (Cert.AttnSampIdeal.main (F := Ideal))) ⟨m, fun _ => 0, g⟩ (fun r => ∀ c : Dev Cert.AttnSampIdeal.nD,
          r.2.mem ((c.tc : Thread Cert.AttnSampIdeal.nD Cert.AttnSampIdeal.τ).loc Cert.AttnSampIdeal.main_v24) = v0 c
          ∧ r.2.mem ((c.tc : Thread Cert.AttnSampIdeal.nD Cert.AttnSampIdeal.τ).loc Cert.AttnSampIdeal.main_arg0) = m ((c.tc : Thread Cert.AttnSampIdeal.nD Cert.AttnSampIdeal.τ).loc Cert.AttnSampIdeal.main_arg0)
          ∧ r.2.mem ((c.tc : Thread Cert.AttnSampIdeal.nD Cert.AttnSampIdeal.τ).loc Cert.AttnSampIdeal.main_arg1) = m ((c.tc : Thread Cert.AttnSampIdeal.nD Cert.AttnSampIdeal.τ).loc Cert.AttnSampIdeal.main_arg1)
          ∧ r.2.mem ((c.tc : Thread Cert.AttnSampIdeal.nD Cert.AttnSampIdeal.τ).loc Cert.AttnSampIdeal.main_arg2) = m ((c.tc : Thread Cert.AttnSampIdeal.nD Cert.AttnSampIdeal.τ).loc Cert.AttnSampIdeal.main_arg2)
          ∧ r.2.mem ((c.tc : Thread Cert.AttnSampIdeal.nD Cert.AttnSampIdeal.τ).loc Cert.AttnSampIdeal.main_arg3) = m ((c.tc : Thread Cert.AttnSampIdeal.nD Cert.AttnSampIdeal.τ).loc Cert.AttnSampIdeal.main_arg3)
          ∧ r.2.mem ((c.tc : Thread Cert.AttnSampIdeal.nD Cert.AttnSampIdeal.τ).loc Cert.AttnSampIdeal.main_arg4) = m ((c.tc : Thread Cert.AttnSampIdeal.nD Cert.AttnSampIdeal.τ).loc Cert.AttnSampIdeal.main_arg4)
          ∧ r.2.mem ((c.tc : Thread Cert.AttnSampIdeal.nD Cert.AttnSampIdeal.τ).loc Cert.AttnSampIdeal.main_arg5) = m ((c.tc : Thread Cert.AttnSampIdeal.nD Cert.AttnSampIdeal.τ).loc Cert.AttnSampIdeal.main_arg5))
      ∧ θ_run (Cert.AttnSampRefIdeal.defs (F := Ideal)) (onTc (τ := Cert.AttnSampRefIdeal.τ) (Cert.AttnSampRefIdeal.main (F := Ideal))) ⟨m', fun _ => 0, g'⟩ (fun r => ∀ c : Dev Cert.AttnSampRefIdeal.nD,
          r.2.mem ((c.tc : Thread Cert.AttnSampRefIdeal.nD Cert.AttnSampRefIdeal.τ).loc Cert.AttnSampRefIdeal.main_v43) = v0 c
          ∧ r.2.mem ((c.tc : Thread Cert.AttnSampRefIdeal.nD Cert.AttnSampRefIdeal.τ).loc Cert.AttnSampRefIdeal.main_arg0) = m' ((c.tc : Thread Cert.AttnSampRefIdeal.nD Cert.AttnSampRefIdeal.τ).loc Cert.AttnSampRefIdeal.main_arg0)
          ∧ r.2.mem ((c.tc : Thread Cert.AttnSampRefIdeal.nD Cert.AttnSampRefIdeal.τ).loc Cert.AttnSampRefIdeal.main_arg1) = m' ((c.tc : Thread Cert.AttnSampRefIdeal.nD Cert.AttnSampRefIdeal.τ).loc Cert.AttnSampRefIdeal.main_arg1)
          ∧ r.2.mem ((c.tc : Thread Cert.AttnSampRefIdeal.nD Cert.AttnSampRefIdeal.τ).loc Cert.AttnSampRefIdeal.main_arg2) = m' ((c.tc : Thread Cert.AttnSampRefIdeal.nD Cert.AttnSampRefIdeal.τ).loc Cert.AttnSampRefIdeal.main_arg2)
          ∧ r.2.mem ((c.tc : Thread Cert.AttnSampRefIdeal.nD Cert.AttnSampRefIdeal.τ).loc Cert.AttnSampRefIdeal.main_arg3) = m' ((c.tc : Thread Cert.AttnSampRefIdeal.nD Cert.AttnSampRefIdeal.τ).loc Cert.AttnSampRefIdeal.main_arg3)
          ∧ r.2.mem ((c.tc : Thread Cert.AttnSampRefIdeal.nD Cert.AttnSampRefIdeal.τ).loc Cert.AttnSampRefIdeal.main_arg4) = m' ((c.tc : Thread Cert.AttnSampRefIdeal.nD Cert.AttnSampRefIdeal.τ).loc Cert.AttnSampRefIdeal.main_arg4)
          ∧ r.2.mem ((c.tc : Thread Cert.AttnSampRefIdeal.nD Cert.AttnSampRefIdeal.τ).loc Cert.AttnSampRefIdeal.main_arg5) = m' ((c.tc : Thread Cert.AttnSampRefIdeal.nD Cert.AttnSampRefIdeal.τ).loc Cert.AttnSampRefIdeal.main_arg5))

def Claim : Prop :=
  ∃ (hQkv : Cert.Qkv.Facts) (hQkvIdeal : Cert.QkvIdeal.Facts) (hQkvRefIdeal : Cert.QkvRefIdeal.Facts) (hTail : Cert.Tail.Facts) (hTailIdeal : Cert.TailIdeal.Facts) (hTailRefIdeal : Cert.TailRefIdeal.Facts) (hSamp : Cert.Samp.Facts) (hSampIdeal : Cert.SampIdeal.Facts) (hSampRefIdeal : Cert.SampRefIdeal.Facts) (hProj : Cert.Proj.Facts) (hProjIdeal : Cert.ProjIdeal.Facts) (hProjRefIdeal : Cert.ProjRefIdeal.Facts) (hFfn : Cert.Ffn.Facts) (hFfnIdeal : Cert.FfnIdeal.Facts) (hFfnRefIdeal : Cert.FfnRefIdeal.Facts) (hFfnSamp : Cert.FfnSamp.Facts) (hFfnSampIdeal : Cert.FfnSampIdeal.Facts) (hFfnSampRefIdeal : Cert.FfnSampRefIdeal.Facts) (hGla : Cert.Gla.Facts) (hGlaIdeal : Cert.GlaIdeal.Facts) (hGlaRefIdeal : Cert.GlaRefIdeal.Facts) (hAttn : Cert.Attn.Facts) (hAttnIdeal : Cert.AttnIdeal.Facts) (hAttnRefIdeal : Cert.AttnRefIdeal.Facts) (hStep : Cert.Step.Facts) (hStepIdeal : Cert.StepIdeal.Facts) (hStepRefIdeal : Cert.StepRefIdeal.Facts) (hAttnSamp : Cert.AttnSamp.Facts) (hAttnSampIdeal : Cert.AttnSampIdeal.Facts) (hAttnSampRefIdeal : Cert.AttnSampRefIdeal.Facts) (hPre_finite : Cert.Pre_finite.Facts) (hPre_forget : Cert.Pre_forget.Facts) (hPre_finite_sample : Cert.Pre_finite_sample.Facts),
    quiescent_Qkv (hQkv := hQkv)
    ∧ quiescent_QkvIdeal (hQkvIdeal := hQkvIdeal)
    ∧ quiescent_QkvRefIdeal (hQkvRefIdeal := hQkvRefIdeal)
    ∧ quiescent_Tail (hTail := hTail)
    ∧ quiescent_TailIdeal (hTailIdeal := hTailIdeal)
    ∧ quiescent_TailRefIdeal (hTailRefIdeal := hTailRefIdeal)
    ∧ quiescent_Samp (hSamp := hSamp)
    ∧ quiescent_SampIdeal (hSampIdeal := hSampIdeal)
    ∧ quiescent_SampRefIdeal (hSampRefIdeal := hSampRefIdeal)
    ∧ quiescent_Proj (hProj := hProj)
    ∧ quiescent_ProjIdeal (hProjIdeal := hProjIdeal)
    ∧ quiescent_ProjRefIdeal (hProjRefIdeal := hProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnSamp (hFfnSamp := hFfnSamp)
    ∧ quiescent_FfnSampIdeal (hFfnSampIdeal := hFfnSampIdeal)
    ∧ quiescent_FfnSampRefIdeal (hFfnSampRefIdeal := hFfnSampRefIdeal)
    ∧ quiescent_Gla (hGla := hGla)
    ∧ quiescent_GlaIdeal (hGlaIdeal := hGlaIdeal)
    ∧ quiescent_GlaRefIdeal (hGlaRefIdeal := hGlaRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Step (hStep := hStep)
    ∧ quiescent_StepIdeal (hStepIdeal := hStepIdeal)
    ∧ quiescent_StepIdeal_pre_forget (hStepIdeal := hStepIdeal) (hPre_forget := hPre_forget)
    ∧ quiescent_StepRefIdeal (hStepRefIdeal := hStepRefIdeal)
    ∧ quiescent_StepRefIdeal_pre_forget (hStepRefIdeal := hStepRefIdeal) (hPre_forget := hPre_forget)
    ∧ quiescent_AttnSamp (hAttnSamp := hAttnSamp)
    ∧ quiescent_AttnSampIdeal (hAttnSampIdeal := hAttnSampIdeal)
    ∧ quiescent_AttnSampIdeal_pre_finite_sample (hAttnSampIdeal := hAttnSampIdeal) (hPre_finite_sample := hPre_finite_sample)
    ∧ quiescent_AttnSampRefIdeal (hAttnSampRefIdeal := hAttnSampRefIdeal)
    ∧ quiescent_AttnSampRefIdeal_pre_finite_sample (hAttnSampRefIdeal := hAttnSampRefIdeal) (hPre_finite_sample := hPre_finite_sample)
    ∧ preserves_Qkv_QkvIdeal
    ∧ algebraic_QkvIdeal_QkvRefIdeal (hQkvIdeal := hQkvIdeal) (hQkvRefIdeal := hQkvRefIdeal)
    ∧ preserves_Tail_TailIdeal
    ∧ algebraic_TailIdeal_TailRefIdeal (hTailIdeal := hTailIdeal) (hTailRefIdeal := hTailRefIdeal)
    ∧ preserves_Samp_SampIdeal
    ∧ algebraic_SampIdeal_SampRefIdeal (hSampIdeal := hSampIdeal) (hSampRefIdeal := hSampRefIdeal)
    ∧ preserves_Proj_ProjIdeal
    ∧ algebraic_ProjIdeal_ProjRefIdeal (hProjIdeal := hProjIdeal) (hProjRefIdeal := hProjRefIdeal)
    ∧ preserves_Ffn_FfnIdeal
    ∧ algebraic_FfnIdeal_FfnRefIdeal (hFfnIdeal := hFfnIdeal) (hFfnRefIdeal := hFfnRefIdeal)
    ∧ preserves_FfnSamp_FfnSampIdeal
    ∧ algebraic_FfnSampIdeal_FfnSampRefIdeal (hFfnSampIdeal := hFfnSampIdeal) (hFfnSampRefIdeal := hFfnSampRefIdeal)
    ∧ preserves_Gla_GlaIdeal
    ∧ algebraic_GlaIdeal_GlaRefIdeal (hGlaIdeal := hGlaIdeal) (hGlaRefIdeal := hGlaRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Step_StepIdeal
    ∧ algebraic_StepIdeal_StepRefIdeal_pre_forget (hStepIdeal := hStepIdeal) (hStepRefIdeal := hStepRefIdeal) (hPre_forget := hPre_forget)
    ∧ preserves_AttnSamp_AttnSampIdeal
    ∧ algebraic_AttnSampIdeal_AttnSampRefIdeal_pre_finite_sample (hAttnSampIdeal := hAttnSampIdeal) (hAttnSampRefIdeal := hAttnSampRefIdeal) (hPre_finite_sample := hPre_finite_sample)
-- ==== Pre_finite.lean ====
abbrev S2x16384x1024 : Shape := ⟨3, ![2, 16384, 1024]⟩
abbrev S257x16 : Shape := ⟨2, ![257, 16]⟩
abbrev S_ : Shape := ⟨0, ![]⟩

class Facts : Prop where
  bcast_S_S2x16384x1024 : S_.BroadcastsInDim S2x16384x1024 (![] : Fin 0 → Fin S2x16384x1024.rank)
  bcast_S_S257x16 : S_.BroadcastsInDim S257x16 (![] : Fin 0 → Fin S257x16.rank)

variable [Facts]

def fn {F : FTy → Type} [FloatOps F] (main_arg0 : FVec F S2x16384x1024 .bf16) (main_arg1 : FVec F S2x16384x1024 .bf16) (main_arg2 : FVec F S2x16384x1024 .bf16) (main_arg3 : FVec F S257x16 .f32) : IVec S2x16384x1024 1 × IVec S2x16384x1024 1 × IVec S257x16 1 :=
  let main_v0 : FVec F S2x16384x1024 .bf16 := Host.absf main_arg0
  let main_cst : FVec F S_ .bf16 := constant S_ .bf16 0x7F80#16
  let main_v1 : FVec F S2x16384x1024 .bf16 := broadcastInDim S2x16384x1024 ![] bcast_S_S2x16384x1024 main_cst
  let main_v2 : IVec S2x16384x1024 1 := cmpf .olt main_v0 main_v1
  let main_v3 : FVec F S2x16384x1024 .bf16 := Host.absf main_arg1
  let main_cst_0 : FVec F S_ .bf16 := constant S_ .bf16 0x7F80#16
  let main_v4 : FVec F S2x16384x1024 .bf16 := broadcastInDim S2x16384x1024 ![] bcast_S_S2x16384x1024 main_cst_0
  let main_v5 : IVec S2x16384x1024 1 := cmpf .olt main_v3 main_v4
  let main_v6 : FVec F S257x16 .f32 := Host.absf main_arg3
  let main_cst_1 : FVec F S_ .f32 := constant S_ .f32 0x7F800000#32
  let main_v7 : FVec F S257x16 .f32 := broadcastInDim S257x16 ![] bcast_S_S257x16 main_cst_1
  let main_v8 : IVec S257x16 1 := cmpf .olt main_v6 main_v7
  (main_v2, main_v5, main_v8)
-- ==== Pre_finite_sample.lean ====
abbrev S8x16x1024 : Shape := ⟨3, ![8, 16, 1024]⟩
abbrev S8x512x16x64 : Shape := ⟨4, ![8, 512, 16, 64]⟩
abbrev S257x16 : Shape := ⟨2, ![257, 16]⟩
abbrev S_ : Shape := ⟨0, ![]⟩

class Facts : Prop where
  bcast_S_S8x16x1024 : S_.BroadcastsInDim S8x16x1024 (![] : Fin 0 → Fin S8x16x1024.rank)
  bcast_S_S8x512x16x64 : S_.BroadcastsInDim S8x512x16x64 (![] : Fin 0 → Fin S8x512x16x64.rank)
  bcast_S_S257x16 : S_.BroadcastsInDim S257x16 (![] : Fin 0 → Fin S257x16.rank)

variable [Facts]

def fn {F : FTy → Type} [FloatOps F] (main_arg0 : FVec F S8x16x1024 .f32) (main_arg1 : FVec F S8x16x1024 .f32) (main_arg2 : FVec F S8x16x1024 .f32) (main_arg3 : FVec F S8x512x16x64 .f32) (main_arg4 : FVec F S8x512x16x64 .f32) (main_arg5 : FVec F S257x16 .f32) : IVec S8x16x1024 1 × IVec S8x16x1024 1 × IVec S8x512x16x64 1 × IVec S257x16 1 :=
  let main_v0 : FVec F S8x16x1024 .f32 := Host.absf main_arg0
  let main_cst : FVec F S_ .f32 := constant S_ .f32 0x7F800000#32
  let main_v1 : FVec F S8x16x1024 .f32 := broadcastInDim S8x16x1024 ![] bcast_S_S8x16x1024 main_cst
  let main_v2 : IVec S8x16x1024 1 := cmpf .olt main_v0 main_v1
  let main_v3 : FVec F S8x16x1024 .f32 := Host.absf main_arg1
  let main_cst_0 : FVec F S_ .f32 := constant S_ .f32 0x7F800000#32
  let main_v4 : FVec F S8x16x1024 .f32 := broadcastInDim S8x16x1024 ![] bcast_S_S8x16x1024 main_cst_0
  let main_v5 : IVec S8x16x1024 1 := cmpf .olt main_v3 main_v4
  let main_v6 : FVec F S8x512x16x64 .f32 := Host.absf main_arg3
  let main_cst_1 : FVec F S_ .f32 := constant S_ .f32 0x7F800000#32
  let main_v7 : FVec F S8x512x16x64 .f32 := broadcastInDim S8x512x16x64 ![] bcast_S_S8x512x16x64 main_cst_1
  let main_v8 : IVec S8x512x16x64 1 := cmpf .olt main_v6 main_v7
  let main_v9 : FVec F S257x16 .f32 := Host.absf main_arg5
  let main_cst_2 : FVec F S_ .f32 := constant S_ .f32 0x7F800000#32
  let main_v10 : FVec F S257x16 .f32 := broadcastInDim S257x16 ![] bcast_S_S257x16 main_cst_2
  let main_v11 : IVec S257x16 1 := cmpf .olt main_v9 main_v10
  (main_v2, main_v5, main_v8, main_v11)
-- ==== Pre_forget.lean ====
abbrev S8x16x512 : Shape := ⟨3, ![8, 16, 512]⟩
abbrev S8x16x1024 : Shape := ⟨3, ![8, 16, 1024]⟩
abbrev S8x4x128x256 : Shape := ⟨4, ![8, 4, 128, 256]⟩
abbrev S1024 : Shape := ⟨1, ![1024]⟩
abbrev S_ : Shape := ⟨0, ![]⟩

class Facts : Prop where
  bcast_S_S8x16x512 : S_.BroadcastsInDim S8x16x512 (![] : Fin 0 → Fin S8x16x512.rank)

variable [Facts]

def fn {F : FTy → Type} [FloatOps F] (main_arg0 : FVec F S8x16x512 .f32) (main_arg1 : FVec F S8x16x512 .f32) (main_arg2 : FVec F S8x16x512 .f32) (main_arg3 : FVec F S8x16x1024 .f32) (main_arg4 : FVec F S8x16x1024 .f32) (main_arg5 : FVec F S8x4x128x256 .f32) (main_arg6 : FVec F S1024 .f32) : IVec S8x16x512 1 × IVec S8x16x512 1 :=
  let main_cst : FVec F S_ .f32 := constant S_ .f32 0x00000000#32
  let main_v0 : FVec F S8x16x512 .f32 := broadcastInDim S8x16x512 ![] bcast_S_S8x16x512 main_cst
  let main_v1 : IVec S8x16x512 1 := cmpf .ole main_arg2 main_v0
  let main_cst_0 : FVec F S_ .f32 := constant S_ .f32 0xFF800000#32
  let main_v2 : FVec F S8x16x512 .f32 := broadcastInDim S8x16x512 ![] bcast_S_S8x16x512 main_cst_0
  let main_v3 : IVec S8x16x512 1 := cmpf .ogt main_arg2 main_v2
  (main_v1, main_v3)
-- ==== Qkv.lean ====
abbrev S2x16384x1024 : Shape := ⟨3, ![2, 16384, 1024]⟩
abbrev S1x1024x3072 : Shape := ⟨3, ![1, 1024, 3072]⟩
abbrev S32768x1024 : Shape := ⟨2, ![32768, 1024]⟩
abbrev S_ : Shape := ⟨0, ![]⟩
abbrev S1024 : Shape := ⟨1, ![1024]⟩
abbrev S2048 : Shape := ⟨1, ![2048]⟩
abbrev S3072 : Shape := ⟨1, ![3072]⟩
abbrev S1024x3072 : Shape := ⟨2, ![1024, 3072]⟩
abbrev S1x3072 : Shape := ⟨2, ![1, 3072]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 16
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S1x1024x3072, .f32⟩
  | .hbm, ⟨2, _⟩ => ⟨S32768x1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S2048, .f32⟩
  | .hbm, ⟨7, _⟩ => ⟨S3072, .f32⟩
  | .hbm, ⟨8, _⟩ => ⟨S1024x3072, .f32⟩
  | .hbm, ⟨9, _⟩ => ⟨S1x3072, .f32⟩
  | .hbm, ⟨10, _⟩ => ⟨S1024x3072, .f32⟩
  | .hbm, ⟨11, _⟩ => ⟨S1024x3072, .f32⟩
  | .hbm, ⟨12, _⟩ => ⟨S1024x3072, .bf16⟩
  | .hbm, ⟨13, _⟩ => ⟨S32768x1024, .bf16⟩
  | .hbm, ⟨14, _⟩ => ⟨S32768x1024, .bf16⟩
  | .hbm, ⟨15, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvRefIdeal.lean ====
abbrev S2x16384x1024 : Shape := ⟨3, ![2, 16384, 1024]⟩
abbrev S1x1024x3072 : Shape := ⟨3, ![1, 1024, 3072]⟩
abbrev S1024x3072 : Shape := ⟨2, ![1024, 3072]⟩
abbrev S2x16384x3072 : Shape := ⟨3, ![2, 16384, 3072]⟩
abbrev S_ : Shape := ⟨0, ![]⟩
abbrev S32768x1024 : Shape := ⟨2, ![32768, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024x3072, .f32⟩
  | .hbm, ⟨2, _⟩ => ⟨S1024x3072, .f32⟩
  | .hbm, ⟨3, _⟩ => ⟨S2x16384x3072, .f32⟩
  | .hbm, ⟨4, _⟩ => ⟨S2x16384x1024, .f32⟩
  | .hbm, ⟨5, _⟩ => ⟨S2x16384x1024, .f32⟩
  | .hbm, ⟨6, _⟩ => ⟨S2x16384x1024, .f32⟩
  | .hbm, ⟨7, _⟩ => ⟨S_, .f32⟩
  | .hbm, ⟨8, _⟩ => ⟨S2x16384x1024, .f32⟩
  | .hbm, ⟨9, _⟩ => ⟨S2x16384x1024, .f32⟩
  | .hbm, ⟨10, _⟩ => ⟨S32768x1024, .f32⟩
  | .hbm, ⟨11, _⟩ => ⟨S32768x1024, .bf16⟩
  | .hbm, ⟨12, _⟩ => ⟨S32768x1024, .f32⟩
  | .hbm, ⟨13, _⟩ => ⟨S32768x1024, .bf16⟩
  | .hbm, ⟨14, _⟩ => ⟨S32768x1024, .f32⟩
  | .hbm, ⟨15, _⟩ => ⟨S32768x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Tail.lean ====
abbrev S2x16384x1024 : Shape := ⟨3, ![2, 16384, 1024]⟩
abbrev S1x1024x3072 : Shape := ⟨3, ![1, 1024, 3072]⟩
abbrev S_ : Shape := ⟨0, ![]⟩
abbrev S1024 : Shape := ⟨1, ![1024]⟩
abbrev S2048 : Shape := ⟨1, ![2048]⟩
abbrev S3072 : Shape := ⟨1, ![3072]⟩
abbrev S1024x3072 : Shape := ⟨2, ![1024, 3072]⟩
abbrev S1x3072 : Shape := ⟨2, ![1, 3072]⟩
abbrev S2x512x1024 : Shape := ⟨3, ![2, 512, 1024]⟩
abbrev S1024x1024 : Shape := ⟨2, ![1024, 1024]⟩
abbrev S1024x2048 : Shape := ⟨2, ![1024, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 17
  | .vmem => 7
  | .smem => 0
  | _ => 0

abbrev bufTy : (tb : Table) → Fin (tcTables nBuf tb) → BufTy
  | .hbm, ⟨0, _⟩ => ⟨S2x16384x1024, .f32⟩
  | .hbm, ⟨1, _⟩ => ⟨S1x1024x3072, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S2048, .f32⟩
  | .hbm, ⟨6, _⟩ => ⟨S3072, .f32⟩
  | .hbm, ⟨7, _⟩ => ⟨S1024x3072, .f32⟩
  | .hbm, ⟨8, _⟩ => ⟨S1x3072, .f32⟩
  | .hbm, ⟨9, _⟩ => ⟨S1024x3072, .f32⟩
  | .hbm, ⟨10, _⟩ => ⟨S1024x3072, .f32⟩
  | .hbm, ⟨11, _⟩ => ⟨S1024x3072, .bf16⟩
  | .hbm, ⟨12, _⟩ => ⟨S2x512x1024, .f32⟩
  | .hbm, ⟨13, _⟩ => ⟨S1024x1024, .f32⟩
  | .hbm, ⟨14, _⟩ => ⟨S1024x2048, .bf16⟩
  | .hbm, ⟨15, _⟩ => ⟨S1024x1024, .f32⟩
  | .hbm, ⟨16, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TailRefIdeal.lean ====
abbrev S2x16384x1024 : Shape := ⟨3, ![2, 16384, 1024]⟩
abbrev S1x1024x3072 : Shape := ⟨3, ![1, 1024, 3072]⟩
abbrev S1024x3072 : Shape := ⟨2, ![1024, 3072]⟩
abbrev S2x16384x3072 : Shape := ⟨3, ![2, 16384, 3072]⟩
abbrev S2x512x1024 : Shape := ⟨3, ![2, 512, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024x3072, .f32⟩
  | .hbm, ⟨2, _⟩ => ⟨S1024x3072, .f32⟩
  | .hbm, ⟨3, _⟩ => ⟨S2x16384x3072, .f32⟩
  | .hbm, ⟨4, _⟩ => ⟨S2x16384x1024, .f32⟩
  | .hbm, ⟨5, _⟩ => ⟨S2x16384x1024, .f32⟩
  | .hbm, ⟨6, _⟩ => ⟨S2x16384x1024, .f32⟩
  | .hbm, ⟨7, _⟩ => ⟨S2x512x1024, .f32⟩
  | .hbm, ⟨8, _⟩ => ⟨S1024x1024, .f32⟩
  | .hbm, ⟨9, _⟩ => ⟨S2x512x1024, .f32⟩
  | .hbm, ⟨10, _⟩ => ⟨S1024x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Samp.lean ====
abbrev S8x16x1024 : Shape := ⟨3, ![8, 16, 1024]⟩
abbrev S1x1024x3072 : Shape := ⟨3, ![1, 1024, 3072]⟩
abbrev S128x1024 : Shape := ⟨2, ![128, 1024]⟩
abbrev S_ : Shape := ⟨0, ![]⟩
abbrev S1024 : Shape := ⟨1, ![1024]⟩
abbrev S2048 : Shape := ⟨1, ![2048]⟩
abbrev S3072 : Shape := ⟨1, ![3072]⟩
abbrev S1024x3072 : Shape := ⟨2, ![1024, 3072]⟩
abbrev S1x3072 : Shape := ⟨2, ![1, 3072]⟩
abbrev S1024x512 : Shape := ⟨2, ![1024, 512]⟩
abbrev S128x512 : Shape := ⟨2, ![128, 512]⟩

abbrev nBuf : Space → Nat
  | .hbm => 16
  | .vmem => 5
  | .smem => 0
  | _ => 0

abbrev bufTy : (tb : Table) → Fin (tcTables nBuf tb) → BufTy
  | .hbm, ⟨0, _⟩ => ⟨S8x16x1024, .f32⟩
  | .hbm, ⟨1, _⟩ => ⟨S1x1024x3072, .f32⟩
  | .hbm, ⟨2, _⟩ => ⟨S128x1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S2048, .f32⟩
  | .hbm, ⟨7, _⟩ => ⟨S3072, .f32⟩
  | .hbm, ⟨8, _⟩ => ⟨S1024x3072, .f32⟩
  | .hbm, ⟨9, _⟩ => ⟨S1x3072, .f32⟩
  | .hbm, ⟨10, _⟩ => ⟨S1024x3072, .f32⟩
  | .hbm, ⟨11, _⟩ => ⟨S1024x3072, .f32⟩
  | .hbm, ⟨12, _⟩ => ⟨S1024x3072, .bf16⟩
  | .hbm, ⟨13, _⟩ => ⟨S128x1024, .f32⟩
  | .hbm, ⟨14, _⟩ => ⟨S128x1024, .f32⟩
  | .hbm, ⟨15, _⟩ => ⟨S128x1024, .f32⟩
  | .local _ .vmem, ⟨0, _⟩ => ⟨S128x1024, .f32⟩
  | .local _ .vmem, ⟨1, _⟩ => ⟨S1024x3072, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SampRefIdeal.lean ====
abbrev S8x16x1024 : Shape := ⟨3, ![8, 16, 1024]⟩
abbrev S1x1024x3072 : Shape := ⟨3, ![1, 1024, 3072]⟩
abbrev S1024x3072 : Shape := ⟨2, ![1024, 3072]⟩
abbrev S8x16x3072 : Shape := ⟨3, ![8, 16, 3072]⟩
abbrev S_ : Shape := ⟨0, ![]⟩
abbrev S128x1024 : Shape := ⟨2, ![128, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1x1024x3072, .f32⟩
  | .hbm, ⟨2, _⟩ => ⟨S1024x3072, .f32⟩
  | .hbm, ⟨3, _⟩ => ⟨S8x16x3072, .f32⟩
  | .hbm, ⟨4, _⟩ => ⟨S8x16x1024, .f32⟩
  | .hbm, ⟨5, _⟩ => ⟨S8x16x1024, .f32⟩
  | .hbm, ⟨6, _⟩ => ⟨S8x16x1024, .f32⟩
  | .hbm, ⟨7, _⟩ => ⟨S_, .f32⟩
  | .hbm, ⟨8, _⟩ => ⟨S8x16x1024, .f32⟩
  | .hbm, ⟨9, _⟩ => ⟨S8x16x1024, .f32⟩
  | .hbm, ⟨10, _⟩ => ⟨S128x1024, .f32⟩
  | .hbm, ⟨11, _⟩ => ⟨S128x1024, .f32⟩
  | .hbm, ⟨12, _⟩ => ⟨S128x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proj.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRefIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Ffn.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S32768x5632 : Shape := ⟨2, ![32768, 5632]⟩
abbrev S32768x2816 : Shape := ⟨2, ![32768, 2816]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S32768x5632, .f32⟩
  | .hbm, ⟨6, _⟩ => ⟨S32768x2816, .f32⟩
  | .hbm, ⟨7, _⟩ => ⟨S32768x2816, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x2816, .f32⟩
  | .hbm, ⟨12, _⟩ => ⟨S32768x2816, .f32⟩
  | .hbm, ⟨13, _⟩ => ⟨S_, .f32⟩
  | .hbm, ⟨14, _⟩ => ⟨S32768x2816, .f32⟩
  | .hbm, ⟨15, _⟩ => ⟨S32768x2816, .f32⟩
  | .hbm, ⟨16, _⟩ => ⟨S_, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== FfnSamp.lean ====
abbrev S128x1024 : Shape := ⟨2, ![128, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S128x2816 : Shape := ⟨2, ![128, 2816]⟩
abbrev S1024x256 : Shape := ⟨2, ![1024, 256]⟩
abbrev S128x256 : Shape := ⟨2, ![128, 256]⟩
abbrev S128 : Shape := ⟨1, ![128]⟩
abbrev S128x1 : Shape := ⟨2, ![128, 1]⟩

abbrev nBuf : Space → Nat
  | .hbm => 10
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S128x1024, .f32⟩
  | .local _ .vmem, ⟨0, _⟩ => ⟨S128x1024, .f32⟩
  | .local _ .vmem, ⟨1, _⟩ => ⟨S1024x5632, .bf16⟩
  | .local _ .vmem, ⟨2, _⟩ => ⟨S2816x1024, .bf16⟩
  | .local _ .vmem, ⟨3, _⟩ => ⟨S1x1024, .f32⟩
  | .local _ .vmem, ⟨4, _⟩ => ⟨S1x1024, .f32⟩
  | .local _ .vmem, ⟨5, _⟩ => ⟨S128x1024, .f32⟩
  | .local _ .vmem, ⟨6, _⟩ => ⟨S128x2816, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== FfnSampRefIdeal.lean ====
abbrev S128x1024 : Shape := ⟨2, ![128, 1024]⟩
abbrev S1024x5632 : Shape := ⟨2, ![1024, 5632]⟩
abbrev S2816x1024 : Shape := ⟨2, ![2816, 1024]⟩
abbrev S1024 : Shape := ⟨1, ![1024]⟩
abbrev S128x5632 : Shape := ⟨2, ![128, 5632]⟩
abbrev S128x2816 : Shape := ⟨2, ![128, 2816]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S128x5632, .f32⟩
  | .hbm, ⟨6, _⟩ => ⟨S128x2816, .f32⟩
  | .hbm, ⟨7, _⟩ => ⟨S128x2816, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S128x2816, .f32⟩
  | .hbm, ⟨12, _⟩ => ⟨S128x2816, .f32⟩
  | .hbm, ⟨13, _⟩ => ⟨S_, .f32⟩
  | .hbm, ⟨14, _⟩ => ⟨S128x2816, .f32⟩
  | .hbm, ⟨15, _⟩ => ⟨S128x2816, .f32⟩
  | .hbm, ⟨16, _⟩ => ⟨S_, .f32⟩
  | .hbm, ⟨17, _⟩ => ⟨S128x2816, .f32⟩
  | .hbm, ⟨18, _⟩ => ⟨S128x2816, .f32⟩
  | .hbm, ⟨19, _⟩ => ⟨S128x2816, .f32⟩
  | .hbm, ⟨20, _⟩ => ⟨S128x2816, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S_, .f32⟩
  | .hbm, ⟨27, _⟩ => ⟨S128x1, .f32⟩
  | .hbm, ⟨28, _⟩ => ⟨S128x1, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S128x1, .f32⟩
  | .hbm, ⟨44, _⟩ => ⟨S128x1024, .f32⟩
  | .hbm, ⟨45, _⟩ => ⟨S128x1024, .f32⟩
  | .hbm, ⟨46, _⟩ => ⟨S1x1024, .f32⟩
  | .hbm, ⟨47, _⟩ => ⟨S128x1024, .f32⟩
  | .hbm, ⟨48, _⟩ => ⟨S128x1024, .f32⟩
  | .hbm, ⟨49, _⟩ => ⟨S1x1024, .f32⟩
  | .hbm, ⟨50, _⟩ => ⟨S128x1024, .f32⟩
  | .hbm, ⟨51, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Gla.lean ====
abbrev S32768x1024 : Shape := ⟨2, ![32768, 1024]⟩
abbrev S1024x3088 : Shape := ⟨2, ![1024, 3088]⟩
abbrev S16x512 : Shape := ⟨2, ![16, 512]⟩
abbrev S512 : Shape := ⟨1, ![512]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S128x512 : Shape := ⟨2, ![128, 512]⟩
abbrev S1x512 : Shape := ⟨2, ![1, 512]⟩
abbrev S32768x512 : Shape := ⟨2, ![32768, 512]⟩
abbrev S512x1024 : Shape := ⟨2, ![512, 1024]⟩
abbrev S512x512 : Shape := ⟨2, ![512, 512]⟩
abbrev S1024x512 : Shape := ⟨2, ![1024, 512]⟩
abbrev S512x128 : Shape := ⟨2, ![512, 128]⟩

abbrev nBuf : Space → Nat
  | .hbm => 21
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1024x3088, .f32⟩
  | .hbm, ⟨2, _⟩ => ⟨S16x512, .f32⟩
  | .hbm, ⟨3, _⟩ => ⟨S512, .f32⟩
  | .hbm, ⟨4, _⟩ => ⟨S1024x3072, .f32⟩
  | .hbm, ⟨5, _⟩ => ⟨S1024x3072, .bf16⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S_, .i32⟩
  | .hbm, ⟨12, _⟩ => ⟨S_, .f32⟩
  | .hbm, ⟨13, _⟩ => ⟨S128x512, .f32⟩
  | .hbm, ⟨14, _⟩ => ⟨S128x512, .bf16⟩
  | .hbm, ⟨15, _⟩ => ⟨S1x512, .f32⟩
  | .hbm, ⟨16, _⟩ => ⟨S32768x512, .f32⟩
  | .hbm, ⟨17, _⟩ => ⟨S32768x512, .f32⟩
  | .hbm, ⟨18, _⟩ => ⟨S32768x1024, .f32⟩
  | .hbm, ⟨19, _⟩ => ⟨S32768x1024, .f32⟩
  | .hbm, ⟨20, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1024x128, .bf16⟩
  | .local _ .vmem, ⟨4, _⟩ => ⟨S128x512, .bf16⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x512, .f32⟩
  | .local _ .vmem, ⟨15, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GlaRefIdeal.lean ====
abbrev S32768x1024 : Shape := ⟨2, ![32768, 1024]⟩
abbrev S1024x3088 : Shape := ⟨2, ![1024, 3088]⟩
abbrev S16x512 : Shape := ⟨2, ![16, 512]⟩
abbrev S512 : Shape := ⟨1, ![512]⟩
abbrev S32768x3088 : Shape := ⟨2, ![32768, 3088]⟩
abbrev S32768x512 : Shape := ⟨2, ![32768, 512]⟩
abbrev S32768x16 : Shape := ⟨2, ![32768, 16]⟩
abbrev S1x512 : Shape := ⟨2, ![1, 512]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3088, .f32⟩
  | .hbm, ⟨2, _⟩ => ⟨S16x512, .f32⟩
  | .hbm, ⟨3, _⟩ => ⟨S512, .f32⟩
  | .hbm, ⟨4, _⟩ => ⟨S32768x3088, .f32⟩
  | .hbm, ⟨5, _⟩ => ⟨S32768x512, .f32⟩
  | .hbm, ⟨6, _⟩ => ⟨S32768x512, .f32⟩
  | .hbm, ⟨7, _⟩ => ⟨S32768x1024, .f32⟩
  | .hbm, ⟨8, _⟩ => ⟨S32768x1024, .f32⟩
  | .hbm, ⟨9, _⟩ => ⟨S32768x16, .f32⟩
  | .hbm, ⟨10, _⟩ => ⟨S32768x512, .f32⟩
  | .hbm, ⟨11, _⟩ => ⟨S1x512, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S_, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S32768x512, .i1⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x512, .f32⟩
  | .hbm, ⟨35, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Attn.lean ====
abbrev S2x16384x1024 : Shape := ⟨3, ![2, 16384, 1024]⟩
abbrev S257x16 : Shape := ⟨2, ![257, 16]⟩
abbrev S576 : Shape := ⟨1, ![576]⟩
abbrev S_ : Shape := ⟨0, ![]⟩
abbrev S64 : Shape := ⟨1, ![64]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S64x576x16 : Shape := ⟨3, ![64, 576, 16]⟩
abbrev S16x64x576 : Shape := ⟨3, ![16, 64, 576]⟩
abbrev S1x256x1024 : Shape := ⟨3, ![1, 256, 1024]⟩
abbrev S768x1024 : Shape := ⟨2, ![768, 1024]⟩
abbrev S256x1024 : Shape := ⟨2, ![256, 1024]⟩
abbrev S64x128 : Shape := ⟨2, ![64, 128]⟩
abbrev S1x64x128 : Shape := ⟨3, ![1, 64, 128]⟩
abbrev S576x128 : Shape := ⟨2, ![576, 128]⟩
abbrev S1x64x576 : Shape := ⟨3, ![1, 64, 576]⟩

abbrev nBuf : Space → Nat
  | .hbm => 36
  | .vmem => 19
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x1024, .bf16⟩
  | .hbm, ⟨3, _⟩ => ⟨S257x16, .f32⟩
  | .hbm, ⟨4, _⟩ => ⟨S576, .i32⟩
  | .hbm, ⟨5, _⟩ => ⟨S_, .i32⟩
  | .hbm, ⟨6, _⟩ => ⟨S576, .i32⟩
  | .hbm, ⟨7, _⟩ => ⟨S576, .i32⟩
  | .hbm, ⟨8, _⟩ => ⟨S64, .i32⟩
  | .hbm, ⟨9, _⟩ => ⟨S64x1, .i32⟩
  | .hbm, ⟨10, _⟩ => ⟨S1x576, .i32⟩
  | .hbm, ⟨11, _⟩ => ⟨S64x576, .i32⟩
  | .hbm, ⟨12, _⟩ => ⟨S64x576, .i32⟩
  | .hbm, ⟨13, _⟩ => ⟨S64x576, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i1⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S64x576, .i32⟩
  | .hbm, ⟨32, _⟩ => ⟨S64x576x1, .i32⟩
  | .hbm, ⟨33, _⟩ => ⟨S64x576x16, .f32⟩
  | .hbm, ⟨34, _⟩ => ⟨S16x64x576, .f32⟩
  | .hbm, ⟨35, _⟩ => ⟨S2x16384x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S16x64x576, .f32⟩
  | .local _ .vmem, ⟨15, _⟩ => ⟨S1x256x1024, .bf16⟩
  | .local _ .vmem, ⟨16, _⟩ => ⟨S1x256x1024, .bf16⟩
  | .local _ .vmem, ⟨17, _⟩ => ⟨S768x1024, .bf16⟩
  | .local _ .vmem, ⟨18, _⟩ => ⟨S768x1024, .bf16⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32 : BitVec 32 := 0#32
  let c4_i32 : BitVec 32 := 4#32
  let v34 : BitVec 32 := Scalar.addi c0_i32 c4_i32
  let c1_i32 : BitVec 32 := 1#32
  ⟨c0_i32, v34, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  v35
def k0_off1 (k0_t1 : Fin k0_t1_loop.trips) : Fin 3 → Nat :=
  let c0_31 : Index := 0#32
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v45 : Index := Scalar.indexCast v36
  let c0_32 : Index := 0#32
  ![0, v45.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v48 : Index := Scalar.indexCast v36
  let c0_33 : Index := 0#32
  ![v48.toNat, 0]
def k0_off3 (k0_t1 : Fin k0_t1_loop.trips) : Fin 3 → Nat :=
  let c0_54 : Index := 0#32
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v101 : Index := Scalar.indexCast v36
  let c128 : Index := 128#32
  ![0, v101.toNat, 128]
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v104 : Index := Scalar.indexCast v36
  let c128_55 : Index := 128#32
  ![v104.toNat, 128]
def k0_off5 (k0_t1 : Fin k0_t1_loop.trips) : Fin 3 → Nat :=
  let c0_76 : Index := 0#32
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v157 : Index := Scalar.indexCast v36
  let c256_77 : Index := 256#32
  ![0, v157.toNat, 256]
def k0_off6 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v160 : Index := Scalar.indexCast v36
  let c256_78 : Index := 256#32
  ![v160.toNat, 256]
def k0_off7 (k0_t1 : Fin k0_t1_loop.trips) : Fin 3 → Nat :=
  let c0_99 : Index := 0#32
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v213 : Index := Scalar.indexCast v36
  let c384 : Index := 384#32
  ![0, v213.toNat, 384]
def k0_off8 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v216 : Index := Scalar.indexCast v36
  let c384_100 : Index := 384#32
  ![v216.toNat, 384]
def k0_off9 (k0_t1 : Fin k0_t1_loop.trips) : Fin 3 → Nat :=
  let c0_121 : Index := 0#32
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v269 : Index := Scalar.indexCast v36
  let c512_122 : Index := 512#32
  ![0, v269.toNat, 512]
def k0_off10 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v272 : Index := Scalar.indexCast v36
  let c512_123 : Index := 512#32
  ![v272.toNat, 512]
def k0_off11 (k0_t1 : Fin k0_t1_loop.trips) : Fin 3 → Nat :=
  let c0_144 : Index := 0#32
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v325 : Index := Scalar.indexCast v36
  let c640 : Index := 640#32
  ![0, v325.toNat, 640]
def k0_off12 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v328 : Index := Scalar.indexCast v36
  let c640_145 : Index := 640#32
  ![v328.toNat, 640]
def k0_off13 (k0_t1 : Fin k0_t1_loop.trips) : Fin 3 → Nat :=
  let c0_166 : Index := 0#32
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v381 : Index := Scalar.indexCast v36
  let c768 : Index := 768#32
  ![0, v381.toNat, 768]
def k0_off14 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v384 : Index := Scalar.indexCast v36
  let c768_167 : Index := 768#32
  ![v384.toNat, 768]
def k0_off15 (k0_t1 : Fin k0_t1_loop.trips) : Fin 3 → Nat :=
  let c0_188 : Index := 0#32
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v437 : Index := Scalar.indexCast v36
  let c896 : Index := 896#32
  ![0, v437.toNat, 896]
def k0_off16 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32_28 : BitVec 32 := 64#32
  let v35 : BitVec 32 := Scalar.muli arg13 c64_i32_28
  let v36 : BitVec 32 := v35
  let v440 : Index := Scalar.indexCast v36
  let c896_189 : Index := 896#32
  ![v440.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x64x576 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S2x16384x1024 : Shape := ⟨3, ![2, 16384, 1024]⟩
abbrev S257x16 : Shape := ⟨2, ![257, 16]⟩
abbrev S2x16384x16x64 : Shape := ⟨4, ![2, 16384, 16, 64]⟩
abbrev S256 : Shape := ⟨1, ![256]⟩
abbrev S256x1 : Shape := ⟨2, ![256, 1]⟩
abbrev S_ : Shape := ⟨0, ![]⟩
abbrev S576 : Shape := ⟨1, ![576]⟩
abbrev S1x576 : Shape := ⟨2, ![1, 576]⟩
abbrev S256x576 : Shape := ⟨2, ![256, 576]⟩
abbrev S2x256x64x16x64 : Shape := ⟨5, ![2, 256, 64, 16, 64]⟩
abbrev S2x16896x16x64 : Shape := ⟨4, ![2, 16896, 16, 64]⟩
abbrev S256x576x1 : Shape := ⟨3, ![256, 576, 1]⟩
abbrev S2x256x576x16x64 : Shape := ⟨5, ![2, 256, 576, 16, 64]⟩
abbrev S64 : Shape := ⟨1, ![64]⟩
abbrev S64x1 : Shape := ⟨2, ![64, 1]⟩
abbrev S64x576 : Shape := ⟨2, ![64, 576]⟩
abbrev S64x576x1 : Shape := ⟨3, ![64, 576, 1]⟩
abbrev S64x576x16 : Shape := ⟨3, ![64, 576, 16]⟩
abbrev S16x64x576 : Shape := ⟨3, ![16, 64, 576]⟩
abbrev S2x256x16x64x576 : Shape := ⟨5, ![2, 256, 16, 64, 576]⟩
abbrev S1x1x16x64x576 : Shape := ⟨5, ![1, 1, 16, 64, 576]⟩
abbrev S1x256x1x1x576 : Shape := ⟨5, ![1, 256, 1, 1, 576]⟩
abbrev S2x256x16x64 : Shape := ⟨4, ![2, 256, 16, 64]⟩
abbrev S2x256x16x64x1 : Shape := ⟨5, ![2, 256, 16, 64, 1]⟩
abbrev S2x256x16x64x64 : Shape := ⟨5, ![2, 256, 16, 64, 64]⟩

abbrev nBuf : Space → Nat
  | .hbm => 107
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x1024, .bf16⟩
  | .hbm, ⟨3, _⟩ => ⟨S257x16, .f32⟩
  | .hbm, ⟨4, _⟩ => ⟨S2x16384x1024, .f32⟩
  | .hbm, ⟨5, _⟩ => ⟨S2x16384x16x64, .f32⟩
  | .hbm, ⟨6, _⟩ => ⟨S2x16384x1024, .f32⟩
  | .hbm, ⟨7, _⟩ => ⟨S2x16384x16x64, .f32⟩
  | .hbm, ⟨8, _⟩ => ⟨S2x16384x1024, .f32⟩
  | .hbm, ⟨9, _⟩ => ⟨S2x16384x16x64, .f32⟩
  | .hbm, ⟨10, _⟩ => ⟨S256, .i32⟩
  | .hbm, ⟨11, _⟩ => ⟨S256x1, .i32⟩
  | .hbm, ⟨12, _⟩ => ⟨S_, .i32⟩
  | .hbm, ⟨13, _⟩ => ⟨S256x1, .i32⟩
  | .hbm, ⟨14, _⟩ => ⟨S256x1, .i32⟩
  | .hbm, ⟨15, _⟩ => ⟨S576, .i32⟩
  | .hbm, ⟨16, _⟩ => ⟨S1x576, .i32⟩
  | .hbm, ⟨17, _⟩ => ⟨S256x576, .i32⟩
  | .hbm, ⟨18, _⟩ => ⟨S256x576, .i32⟩
  | .hbm, ⟨19, _⟩ => ⟨S256x576, .i32⟩
  | .hbm, ⟨20, _⟩ => ⟨S2x256x64x16x64, .f32⟩
  | .hbm, ⟨21, _⟩ => ⟨S_, .i32⟩
  | .hbm, ⟨22, _⟩ => ⟨S_, .f32⟩
  | .hbm, ⟨23, _⟩ => ⟨S2x16896x16x64, .f32⟩
  | .hbm, ⟨24, _⟩ => ⟨S_, .i32⟩
  | .hbm, ⟨25, _⟩ => ⟨S256x576, .i32⟩
  | .hbm, ⟨26, _⟩ => ⟨S256x576, .i1⟩
  | .hbm, ⟨27, _⟩ => ⟨S_, .i32⟩
  | .hbm, ⟨28, _⟩ => ⟨S256x576, .i32⟩
  | .hbm, ⟨29, _⟩ => ⟨S256x576, .i32⟩
  | .hbm, ⟨30, _⟩ => ⟨S256x576, .i32⟩
  | .hbm, ⟨31, _⟩ => ⟨S256x576x1, .i32⟩
  | .hbm, ⟨32, _⟩ => ⟨S2x256x576x16x64, .f32⟩
  | .hbm, ⟨33, _⟩ => ⟨S_, .i32⟩
  | .hbm, ⟨34, _⟩ => ⟨S_, .f32⟩
  | .hbm, ⟨35, _⟩ => ⟨S2x16896x16x64, .f32⟩
  | .hbm, ⟨36, _⟩ => ⟨S_, .i32⟩
  | .hbm, ⟨37, _⟩ => ⟨S256x576, .i32⟩
  | .hbm, ⟨38, _⟩ => ⟨S256x576, .i1⟩
  | .hbm, ⟨39, _⟩ => ⟨S_, .i32⟩
  | .hbm, ⟨40, _⟩ => ⟨S256x576, .i32⟩
  | .hbm, ⟨41, _⟩ => ⟨S256x576, .i32⟩
  | .hbm, ⟨42, _⟩ => ⟨S256x576, .i32⟩
  | .hbm, ⟨43, _⟩ => ⟨S256x576x1, .i32⟩
  | .hbm, ⟨44, _⟩ => ⟨S2x256x576x16x64, .f32⟩
  | .hbm, ⟨45, _⟩ => ⟨S64, .i32⟩
  | .hbm, ⟨46, _⟩ => ⟨S576, .i32⟩
  | .hbm, ⟨47, _⟩ => ⟨S_, .i32⟩
  | .hbm, ⟨48, _⟩ => ⟨S576, .i32⟩
  | .hbm, ⟨49, _⟩ => ⟨S576, .i32⟩
  | .hbm, ⟨50, _⟩ => ⟨S64x1, .i32⟩
  | .hbm, ⟨51, _⟩ => ⟨S1x576, .i32⟩
  | .hbm, ⟨52, _⟩ => ⟨S64x576, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S64x576, .i32⟩
  | .hbm, ⟨59, _⟩ => ⟨S64x576, .i32⟩
  | .hbm, ⟨60, _⟩ => ⟨S_, .i32⟩
  | .hbm, ⟨61, _⟩ => ⟨S64x576, .i32⟩
  | .hbm, ⟨62, _⟩ => ⟨S64x576, .i32⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S_, .i32⟩
  | .hbm, ⟨67, _⟩ => ⟨S64x576, .i32⟩
  | .hbm, ⟨68, _⟩ => ⟨S64x576, .i1⟩
  | .hbm, ⟨69, _⟩ => ⟨S_, .i32⟩
  | .hbm, ⟨70, _⟩ => ⟨S64x576, .i32⟩
  | .hbm, ⟨71, _⟩ => ⟨S64x576, .i32⟩
  | .hbm, ⟨72, _⟩ => ⟨S64x576, .i32⟩
  | .hbm, ⟨73, _⟩ => ⟨S64x576x1, .i32⟩
  | .hbm, ⟨74, _⟩ => ⟨S64x576x16, .f32⟩
  | .hbm, ⟨75, _⟩ => ⟨S16x64x576, .f32⟩
  | .hbm, ⟨76, _⟩ => ⟨S2x256x16x64x576, .f32⟩
  | .hbm, ⟨77, _⟩ => ⟨S1x1x16x64x576, .f32⟩
  | .hbm, ⟨78, _⟩ => ⟨S2x256x16x64x576, .f32⟩
  | .hbm, ⟨79, _⟩ => ⟨S2x256x16x64x576, .f32⟩
  | .hbm, ⟨80, _⟩ => ⟨S_, .i32⟩
  | .hbm, ⟨81, _⟩ => ⟨S256x576, .i32⟩
  | .hbm, ⟨82, _⟩ => ⟨S256x576, .i1⟩
  | .hbm, ⟨83, _⟩ => ⟨S1x256x1x1x576, .i1⟩
  | .hbm, ⟨84, _⟩ => ⟨S_, .f32⟩
  | .hbm, ⟨85, _⟩ => ⟨S_, .f32⟩
  | .hbm, ⟨86, _⟩ => ⟨S2x256x16x64x576, .i1⟩
  | .hbm, ⟨87, _⟩ => ⟨S2x256x16x64x576, .f32⟩
  | .hbm, ⟨88, _⟩ => ⟨S2x256x16x64x576, .f32⟩
  | .hbm, ⟨89, _⟩ => ⟨S_, .f32⟩
  | .hbm, ⟨90, _⟩ => ⟨S2x256x16x64, .f32⟩
  | .hbm, ⟨91, _⟩ => ⟨S_, .f32⟩
  | .hbm, ⟨92, _⟩ => ⟨S2x256x16x64, .f32⟩
  | .hbm, ⟨93, _⟩ => ⟨S2x256x16x64, .f32⟩
  | .hbm, ⟨94, _⟩ => ⟨S2x256x16x64x1, .f32⟩
  | .hbm, ⟨95, _⟩ => ⟨S2x256x16x64x576, .f32⟩
  | .hbm, ⟨96, _⟩ => ⟨S2x256x16x64x576, .f32⟩
  | .hbm, ⟨97, _⟩ => ⟨S2x256x16x64x576, .f32⟩
  | .hbm, ⟨98, _⟩ => ⟨S_, .f32⟩
  | .hbm, ⟨99, _⟩ => ⟨S2x256x16x64, .f32⟩
  | .hbm, ⟨100, _⟩ => ⟨S2x256x16x64x1, .f32⟩
  | .hbm, ⟨101, _⟩ => ⟨S2x256x16x64x576, .f32⟩
  | .hbm, ⟨102, _⟩ => ⟨S2x256x16x64x576, .f32⟩
  | .hbm, ⟨103, _⟩ => ⟨S2x256x16x64x64, .f32⟩
  | .hbm, ⟨104, _⟩ => ⟨S2x256x64x16x64, .f32⟩
  | .hbm, ⟨105, _⟩ => ⟨S2x16384x1024, .f32⟩
  | .hbm, ⟨106, _⟩ => ⟨S2x16384x1024, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_call0_v0 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_call1_v0 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_c_8 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Step.lean ====
abbrev S8x16x512 : Shape := ⟨3, ![8, 16, 512]⟩
abbrev S8x16x1024 : Shape := ⟨3, ![8, 16, 1024]⟩
abbrev S8x4x128x256 : Shape := ⟨4, ![8, 4, 128, 256]⟩
abbrev S1024 : Shape := ⟨1, ![1024]⟩
abbrev S8x4x256x128 : Shape := ⟨4, ![8, 4, 256, 128]⟩
abbrev S1x1024 : Shape := ⟨2, ![1, 1024]⟩
abbrev S1x16x512 : Shape := ⟨3, ![1, 16, 512]⟩
abbrev S1x16x1024 : Shape := ⟨3, ![1, 16, 1024]⟩
abbrev S1x4x256x128 : Shape := ⟨4, ![1, 4, 256, 128]⟩
abbrev S16x16 : Shape := ⟨2, ![16, 16]⟩
abbrev S16x512 : Shape := ⟨2, ![16, 512]⟩
abbrev S1x512 : Shape := ⟨2, ![1, 512]⟩
abbrev S16x128 : Shape := ⟨2, ![16, 128]⟩
abbrev S1x128 : Shape := ⟨2, ![1, 128]⟩
abbrev S256x128 : Shape := ⟨2, ![256, 128]⟩
abbrev S256x16 : Shape := ⟨2, ![256, 16]⟩
abbrev S1x16x256 : Shape := ⟨3, ![1, 16, 256]⟩
abbrev S16x256 : Shape := ⟨2, ![16, 256]⟩
abbrev S1x1x256x128 : Shape := ⟨4, ![1, 1, 256, 128]⟩
abbrev S16 : Shape := ⟨1, ![16]⟩
abbrev S16x1 : Shape := ⟨2, ![16, 1]⟩
abbrev S1x256 : Shape := ⟨2, ![1, 256]⟩

abbrev nBuf : Space → Nat
  | .hbm => 11
  | .vmem => 17
  | .smem => 0
  | _ => 0

abbrev bufTy : (tb : Table) → Fin (tcTables nBuf tb) → BufTy
  | .hbm, ⟨0, _⟩ => ⟨S8x16x512, .f32⟩
  | .hbm, ⟨1, _⟩ => ⟨S8x16x512, .f32⟩
  | .hbm, ⟨2, _⟩ => ⟨S8x16x512, .f32⟩
  | .hbm, ⟨3, _⟩ => ⟨S8x16x1024, .f32⟩
  | .hbm, ⟨4, _⟩ => ⟨S8x16x1024, .f32⟩
  | .hbm, ⟨5, _⟩ => ⟨S8x4x128x256, .f32⟩
  | .hbm, ⟨6, _⟩ => ⟨S1024, .f32⟩
  | .hbm, ⟨7, _⟩ => ⟨S8x4x256x128, .f32⟩
  | .hbm, ⟨8, _⟩ => ⟨S1x1024, .f32⟩
  | .hbm, ⟨9, _⟩ => ⟨S8x16x1024, .bf16⟩
  | .hbm, ⟨10, _⟩ => ⟨S8x4x256x128, .f32⟩
  | .local _ .vmem, ⟨0, _⟩ => ⟨S1x16x512, .f32⟩
  | .local _ .vmem, ⟨1, _⟩ => ⟨S1x16x512, .f32⟩
  | .local _ .vmem, ⟨2, _⟩ => ⟨S1x16x512, .f32⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S1x16x1024, .f32⟩
  | .local _ .vmem, ⟨7, _⟩ => ⟨S1x16x1024, .f32⟩
  | .local _ .vmem, ⟨8, _⟩ => ⟨S1x16x1024, .f32⟩
  | .local _ .vmem, ⟨9, _⟩ => ⟨S1x16x1024, .f32⟩
  | .local _ .vmem, ⟨10, _⟩ => ⟨S1x4x256x128, .f32⟩
  | .local _ .vmem, ⟨11, _⟩ => ⟨S1x4x256x128, .f32⟩
  | .local _ .vmem, ⟨12, _⟩ => ⟨S1x1024, .f32⟩
  | .local _ .vmem, ⟨13, _⟩ => ⟨S1x16x1024, .bf16⟩
  | .local _ .vmem, ⟨14, _⟩ => ⟨S1x16x1024, .bf16⟩
  | .local _ .vmem, ⟨15, _⟩ => ⟨S1x4x256x128, .f32⟩
  | .local _ .vmem, ⟨16, _⟩ => ⟨S1x4x256x128, .f32⟩
  | _, _ => ⟨S8x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 1], ![false, false]⟩

def k0_mult1 : BitVec 32 :=
  let c0_i32_8 : BitVec 32 := 0#32
  let c16_i32_9 : BitVec 32 := 16#32
  let v40 : BitVec 32 := Scalar.muli c0_i32_8 c16_i32_9
  v40
def k0_off1 : Fin 3 → Nat :=
  let c0 : Index := 0#32
  let c0_i32_8 : BitVec 32 := 0#32
  let c16_i32_9 : BitVec 32 := 16#32
  let v40 : BitVec 32 := Scalar.muli c0_i32_8 c16_i32_9
  let v41 : BitVec 32 := v40
  let v42 : Index := Scalar.indexCast v41
  let c0_10 : Index := 0#32
  ![0, v42.toNat, 0]
def k0_off2 : Fin 3 → Nat :=
  let c0_41 : Index := 0#32
  let c0_i32_8 : BitVec 32 := 0#32
  let c16_i32_9 : BitVec 32 := 16#32
  let v40 : BitVec 32 := Scalar.muli c0_i32_8 c16_i32_9
  let v41 : BitVec 32 := v40
  let v264 : Index := Scalar.indexCast v41
  let c0_42 : Index := 0#32
  ![0, v264.toNat, 0]
def k0_off3 : Fin 3 → Nat :=
  let c0_99 : Index := 0#32
  let c0_i32_8 : BitVec 32 := 0#32
  let c16_i32_9 : BitVec 32 := 16#32
  let v40 : BitVec 32 := Scalar.muli c0_i32_8 c16_i32_9
  let v41 : BitVec 32 := v40
  let v499 : Index := Scalar.indexCast v41
  let c256 : Index := 256#32
  ![0, v499.toNat, 256]
def k0_off4 : Fin 3 → Nat :=
  let c0_155 : Index := 0#32
  let c0_i32_8 : BitVec 32 := 0#32
  let c16_i32_9 : BitVec 32 := 16#32
  let v40 : BitVec 32 := Scalar.muli c0_i32_8 c16_i32_9
  let v41 : BitVec 32 := v40
  let v734 : Index := Scalar.indexCast v41
  let c512 : Index := 512#32
  ![0, v734.toNat, 512]
def k0_off5 : Fin 3 → Nat :=
  let c0_211 : Index := 0#32
  let c0_i32_8 : BitVec 32 := 0#32
  let c16_i32_9 : BitVec 32 := 16#32
  let v40 : BitVec 32 := Scalar.muli c0_i32_8 c16_i32_9
  let v41 : BitVec 32 := v40
  let v969 : Index := Scalar.indexCast v41
  let c768 : Index := 768#32
  ![0, v969.toNat, 768]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== StepRefIdeal.lean ====
abbrev S8x16x512 : Shape := ⟨3, ![8, 16, 512]⟩
abbrev S8x16x1024 : Shape := ⟨3, ![8, 16, 1024]⟩
abbrev S8x4x128x256 : Shape := ⟨4, ![8, 4, 128, 256]⟩
abbrev S1024 : Shape := ⟨1, ![1024]⟩
abbrev S8x16x4x128 : Shape := ⟨4, ![8, 16, 4, 128]⟩
abbrev S8x16x4x256 : Shape := ⟨4, ![8, 16, 4, 256]⟩
abbrev S_ : Shape := ⟨0, ![]⟩
abbrev S16x16 : Shape := ⟨2, ![16, 16]⟩
abbrev S1x16x16x1x1 : Shape := ⟨5, ![1, 16, 16, 1, 1]⟩
abbrev S8x16x1x4x128 : Shape := ⟨5, ![8, 16, 1, 4, 128]⟩
abbrev S8x1x16x4x128 : Shape := ⟨5, ![8, 1, 16, 4, 128]⟩
abbrev S8x16x16x4x128 : Shape := ⟨5, ![8, 16, 16, 4, 128]⟩
abbrev S8x16x16x4 : Shape := ⟨4, ![8, 16, 16, 4]⟩
abbrev S8x4x256x16 : Shape := ⟨4, ![8, 4, 256, 16]⟩
abbrev S8x1x4x128 : Shape := ⟨4, ![8, 1, 4, 128]⟩
abbrev S8x4x128 : Shape := ⟨3, ![8, 4, 128]⟩
abbrev S8x4x128x1 : Shape := ⟨4, ![8, 4, 128, 1]⟩
abbrev S8x16x4 : Shape := ⟨3, ![8, 16, 4]⟩
abbrev S8x16x4x1 : Shape := ⟨4, ![8, 16, 4, 1]⟩
abbrev S1x1x1024 : Shape := ⟨3, ![1, 1, 1024]⟩
abbrev S8x4x256x128 : Shape := ⟨4, ![8, 4, 256, 128]⟩

abbrev nBuf : Space → Nat
  | .hbm => 94
  | .vmem => 0
  | .smem => 0
  | _ => 0

abbrev bufTy : (tb : Table) → Fin (tcTables nBuf tb) → BufTy
  | .hbm, ⟨0, _⟩ => ⟨S8x16x512, .f32⟩
  | .hbm, ⟨1, _⟩ => ⟨S8x16x512, .f32⟩
  | .hbm, ⟨2, _⟩ => ⟨S8x16x512, .f32⟩
  | .hbm, ⟨3, _⟩ => ⟨S8x16x1024, .f32⟩
  | .hbm, ⟨4, _⟩ => ⟨S8x16x1024, .f32⟩
  | .hbm, ⟨5, _⟩ => ⟨S8x4x128x256, .f32⟩
  | .hbm, ⟨6, _⟩ => ⟨S1024, .f32⟩
  | .hbm, ⟨7, _⟩ => ⟨S8x16x4x128, .f32⟩
  | .hbm, ⟨8, _⟩ => ⟨S8x16x4x128, .f32⟩
  | .hbm, ⟨9, _⟩ => ⟨S8x16x4x128, .f32⟩
  | .hbm, ⟨10, _⟩ => ⟨S8x16x4x256, .f32⟩
  | .hbm, ⟨11, _⟩ => ⟨S_, .f32⟩
  | .hbm, ⟨12, _⟩ => ⟨S_, .f32⟩
  | .hbm, ⟨13, _⟩ => ⟨S8x16x4x128, .f32⟩
  | .hbm, ⟨14, _⟩ => ⟨S_, .i1⟩
  | .hbm, ⟨15, _⟩ => ⟨S16x16, .i1⟩
  | .hbm, ⟨16, _⟩ => ⟨S16x16, .i32⟩
  | .hbm, ⟨17, _⟩ => ⟨S_, .i32⟩
  | .hbm, ⟨18, _⟩ => ⟨S16x16, .i32⟩
  | .hbm, ⟨19, _⟩ => ⟨S16x16, .i32⟩
  | .hbm, ⟨20, _⟩ => ⟨S16x16, .i32⟩
  | .hbm, ⟨21, _⟩ => ⟨S16x16, .i1⟩
  | .hbm, ⟨22, _⟩ => ⟨S_, .i1⟩
  | .hbm, ⟨23, _⟩ => ⟨S16x16, .i1⟩
  | .hbm, ⟨24, _⟩ => ⟨S16x16, .i1⟩
  | .hbm, ⟨25, _⟩ => ⟨S1x16x16x1x1, .i1⟩
  | .hbm, ⟨26, _⟩ => ⟨S8x16x1x4x128, .f32⟩
  | .hbm, ⟨27, _⟩ => ⟨S8x1x16x4x128, .f32⟩
  | .hbm, ⟨28, _⟩ => ⟨S8x16x16x4x128, .f32⟩
  | .hbm, ⟨29, _⟩ => ⟨S8x16x16x4x128, .f32⟩
  | .hbm, ⟨30, _⟩ => ⟨S8x16x16x4x128, .f32⟩
  | .hbm, ⟨31, _⟩ => ⟨S_, .f32⟩
  | .hbm, ⟨32, _⟩ => ⟨S_, .f32⟩
  | .hbm, ⟨33, _⟩ => ⟨S8x16x16x4x128, .i1⟩
  | .hbm, ⟨34, _⟩ => ⟨S8x16x16x4x128, .f32⟩
  | .hbm, ⟨35, _⟩ => ⟨S8x16x16x4x128, .f32⟩
  | .hbm, ⟨36, _⟩ => ⟨S8x16x1x4x128, .f32⟩
  | .hbm, ⟨37, _⟩ => ⟨S8x1x16x4x128, .f32⟩
  | .hbm, ⟨38, _⟩ => ⟨S8x16x16x4x128, .f32⟩
  | .hbm, ⟨39, _⟩ => ⟨S8x16x16x4x128, .f32⟩
  | .hbm, ⟨40, _⟩ => ⟨S8x16x16x4x128, .f32⟩
  | .hbm, ⟨41, _⟩ => ⟨S8x16x16x4x128, .f32⟩
  | .hbm, ⟨42, _⟩ => ⟨S8x16x16x4x128, .f32⟩
  | .hbm, ⟨43, _⟩ => ⟨S_, .f32⟩
  | .hbm, ⟨44, _⟩ => ⟨S8x16x16x4, .f32⟩
  | .hbm, ⟨45, _⟩ => ⟨S8x4x256x16, .f32⟩
  | .hbm, ⟨46, _⟩ => ⟨S8x16x4x256, .f32⟩
  | .hbm, ⟨47, _⟩ => ⟨S8x16x4x128, .f32⟩
  | .hbm, ⟨48, _⟩ => ⟨S8x16x4x128, .f32⟩
  | .hbm, ⟨49, _⟩ => ⟨S8x4x256x16, .f32⟩
  | .hbm, ⟨50, _⟩ => ⟨S8x16x4x256, .f32⟩
  | .hbm, ⟨51, _⟩ => ⟨S8x16x4x256, .f32⟩
  | .hbm, ⟨52, _⟩ => ⟨S8x1x4x128, .f32⟩
  | .hbm, ⟨53, _⟩ => ⟨S8x4x128, .f32⟩
  | .hbm, ⟨54, _⟩ => ⟨S8x1x4x128, .f32⟩
  | .hbm, ⟨55, _⟩ => ⟨S8x16x4x128, .f32⟩
  | .hbm, ⟨56, _⟩ => ⟨S8x16x4x128, .f32⟩
  | .hbm, ⟨57, _⟩ => ⟨S8x16x4x128, .f32⟩
  | .hbm, ⟨58, _⟩ => ⟨S8x16x4x128, .f32⟩
  | .hbm, ⟨59, _⟩ => ⟨S8x4x128, .f32⟩
  | .hbm, ⟨60, _⟩ => ⟨S8x4x128x1, .f32⟩
  | .hbm, ⟨61, _⟩ => ⟨S8x4x128x256, .f32⟩
  | .hbm, ⟨62, _⟩ => ⟨S8x4x128x256, .f32⟩
  | .hbm, ⟨63, _⟩ => ⟨S8x4x128x256, .f32⟩
  | .hbm, ⟨64, _⟩ => ⟨S8x4x128x256, .f32⟩
  | .hbm, ⟨65, _⟩ => ⟨S8x16x4x256, .f32⟩
  | .hbm, ⟨66, _⟩ => ⟨S_, .f32⟩
  | .hbm, ⟨67, _⟩ => ⟨S8x16x4, .f32⟩
  | .hbm, ⟨68, _⟩ => ⟨S8x16x4x1, .f32⟩
  | .hbm, ⟨69, _⟩ => ⟨S_, .f32⟩
  | .hbm, ⟨70, _⟩ => ⟨S8x16x4x1, .f32⟩
  | .hbm, ⟨71, _⟩ => ⟨S8x16x4x1, .f32⟩
  | .hbm, ⟨72, _⟩ => ⟨S_, .f32⟩
  | .hbm, ⟨73, _⟩ => ⟨S8x16x4x1, .f32⟩
  | .hbm, ⟨74, _⟩ => ⟨S8x16x4x1, .f32⟩
  | .hbm, ⟨75, _⟩ => ⟨S8x16x4x1, .f32⟩
  | .hbm, ⟨76, _⟩ => ⟨S8x16x4x256, .f32⟩
  | .hbm, ⟨77, _⟩ => ⟨S8x16x4x256, .f32⟩
  | .hbm, ⟨78, _⟩ => ⟨S8x16x1024, .f32⟩
  | .hbm, ⟨79, _⟩ => ⟨S1x1x1024, .f32⟩
  | .hbm, ⟨80, _⟩ => ⟨S8x16x1024, .f32⟩
  | .hbm, ⟨81, _⟩ => ⟨S8x16x1024, .f32⟩
  | .hbm, ⟨82, _⟩ => ⟨S8x16x1024, .f32⟩
  | .hbm, ⟨83, _⟩ => ⟨S8x16x1024, .f32⟩
  | .hbm, ⟨84, _⟩ => ⟨S_, .f32⟩
  | .hbm, ⟨85, _⟩ => ⟨S8x16x1024, .f32⟩
  | .hbm, ⟨86, _⟩ => ⟨S8x16x1024, .f32⟩
  | .hbm, ⟨87, _⟩ => ⟨S_, .f32⟩
  | .hbm, ⟨88, _⟩ => ⟨S8x16x1024, .f32⟩
  | .hbm, ⟨89, _⟩ => ⟨S8x16x1024, .f32⟩
  | .hbm, ⟨90, _⟩ => ⟨S8x16x1024, .f32⟩
  | .hbm, ⟨91, _⟩ => ⟨S8x16x1024, .f32⟩
  | .hbm, ⟨92, _⟩ => ⟨S8x16x1024, .bf16⟩
  | .hbm, ⟨93, _⟩ => ⟨S8x4x256x128, .f32⟩
  | _, _ => ⟨S8x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_call0_cst : Ref sig .tc := ⟨.hbm, 11, rfl⟩
abbrev main_call0_call0_v0 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_call1_v0 : Ref sig .tc := ⟨.hbm, 16, rfl⟩
abbrev main_call1_c : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_c_0 : Ref sig .tc := ⟨.hbm, 22, rfl⟩
abbrev main_call1_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_1 : Ref sig .tc := ⟨.hbm, 66, rfl⟩
abbrev main_v43 : Ref sig .tc := ⟨.hbm, 67, rfl⟩
abbrev main_v44 : Ref sig .tc := ⟨.hbm, 68, rfl⟩
abbrev main_cst_2 : Ref sig .tc := ⟨.hbm, 69, rfl⟩
abbrev main_v45 : Ref sig .tc := ⟨.hbm, 70, rfl⟩
abbrev main_v46 : Ref sig .tc := ⟨.hbm, 71, rfl⟩
abbrev main_cst_3 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩

abbrev nD : Nat := 1
abbrev τ : Topo := Topo.v7x

variable {F : FTy → Type} [FloatOps F]
-- ==== AttnSamp.lean ====
abbrev S8x16x1024 : Shape := ⟨3, ![8, 16, 1024]⟩
abbrev S8x512x16x64 : Shape := ⟨4, ![8, 512, 16, 64]⟩
abbrev S257x16 : Shape := ⟨2, ![257, 16]⟩
abbrev S16 : Shape := ⟨1, ![16]⟩
abbrev S_ : Shape := ⟨0, ![]⟩
abbrev S528 : Shape := ⟨1, ![528]⟩
abbrev S16x1 : Shape := ⟨2, ![16, 1]⟩
abbrev S1x528 : Shape := ⟨2, ![1, 528]⟩
abbrev S16x528 : Shape := ⟨2, ![16, 528]⟩
abbrev S16x528x1 : Shape := ⟨3, ![16, 528, 1]⟩
abbrev S16x528x16 : Shape := ⟨3, ![16, 528, 16]⟩
abbrev S16x16x528 : Shape := ⟨3, ![16, 16, 528]⟩
abbrev S8x512x1024 : Shape := ⟨3, ![8, 512, 1024]⟩
abbrev S16x16x512 : Shape := ⟨3, ![16, 16, 512]⟩
abbrev S16x16x16 : Shape := ⟨3, ![16, 16, 16]⟩
abbrev S1x16x1024 : Shape := ⟨3, ![1, 16, 1024]⟩
abbrev S1x512x1024 : Shape := ⟨3, ![1, 512, 1024]⟩
abbrev S16x128 : Shape := ⟨2, ![16, 128]⟩
abbrev S1x16x128 : Shape := ⟨3, ![1, 16, 128]⟩
abbrev S1x512x128 : Shape := ⟨3, ![1, 512, 128]⟩
abbrev S512x128 : Shape := ⟨2, ![512, 128]⟩
abbrev S16x512 : Shape := ⟨2, ![16, 512]⟩
abbrev S1x16x512 : Shape := ⟨3, ![1, 16, 512]⟩
abbrev S16x16 : Shape := ⟨2, ![16, 16]⟩
abbrev S1x16x16 : Shape := ⟨3, ![1, 16, 16]⟩

abbrev nBuf : Space → Nat
  | .hbm => 42
  | .vmem => 14
  | .smem => 0
  | _ => 0

abbrev bufTy : (tb : Table) → Fin (tcTables nBuf tb) → BufTy
  | .hbm, ⟨0, _⟩ => ⟨S8x16x1024, .f32⟩
  | .hbm, ⟨1, _⟩ => ⟨S8x16x1024, .f32⟩
  | .hbm, ⟨2, _⟩ => ⟨S8x16x1024, .f32⟩
  | .hbm, ⟨3, _⟩ => ⟨S8x512x16x64, .f32⟩
  | .hbm, ⟨4, _⟩ => ⟨S8x512x16x64, .f32⟩
  | .hbm, ⟨5, _⟩ => ⟨S257x16, .f32⟩
  | .hbm, ⟨6, _⟩ => ⟨S16, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S528, .i32⟩
  | .hbm, ⟨11, _⟩ => ⟨S16x1, .i32⟩
  | .hbm, ⟨12, _⟩ => ⟨S1x528, .i32⟩
  | .hbm, ⟨13, _⟩ => ⟨S16x528, .i32⟩
  | .hbm, ⟨14, _⟩ => ⟨S16x528, .i32⟩
  | .hbm, ⟨15, _⟩ => ⟨S16x528, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S16x528, .i32⟩
  | .hbm, ⟨20, _⟩ => ⟨S16x528, .i32⟩
  | .hbm, ⟨21, _⟩ => ⟨S_, .i32⟩
  | .hbm, ⟨22, _⟩ => ⟨S16x528, .i32⟩
  | .hbm, ⟨23, _⟩ => ⟨S16x528, .i32⟩
  | .hbm, ⟨24, _⟩ => ⟨S_, .i32⟩
  | .hbm, ⟨25, _⟩ => ⟨S16x528, .i32⟩
  | .hbm, ⟨26, _⟩ => ⟨S16x528, .i32⟩
  | .hbm, ⟨27, _⟩ => ⟨S_, .i32⟩
  | .hbm, ⟨28, _⟩ => ⟨S16x528, .i32⟩
  | .hbm, ⟨29, _⟩ => ⟨S16x528, .i1⟩
  | .hbm, ⟨30, _⟩ => ⟨S_, .i32⟩
  | .hbm, ⟨31, _⟩ => ⟨S16x528, .i32⟩
  | .hbm, ⟨32, _⟩ => ⟨S16x528, .i32⟩
  | .hbm, ⟨33, _⟩ => ⟨S16x528, .i32⟩
  | .hbm, ⟨34, _⟩ => ⟨S16x528x1, .i32⟩
  | .hbm, ⟨35, _⟩ => ⟨S16x528x16, .f32⟩
  | .hbm, ⟨36, _⟩ => ⟨S16x16x528, .f32⟩
  | .hbm, ⟨37, _⟩ => ⟨S8x512x1024, .f32⟩
  | .hbm, ⟨38, _⟩ => ⟨S8x512x1024, .f32⟩
  | .hbm, ⟨39, _⟩ => ⟨S16x16x512, .f32⟩
  | .hbm, ⟨40, _⟩ => ⟨S16x16x16, .f32⟩
  | .hbm, ⟨41, _⟩ => ⟨S8x16x1024, .bf16⟩
  | .local _ .vmem, ⟨0, _⟩ => ⟨S1x16x1024, .f32⟩
  | .local _ .vmem, ⟨1, _⟩ => ⟨S1x16x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S16x16x512, .f32⟩
  | .local _ .vmem, ⟨11, _⟩ => ⟨S16x16x16, .f32⟩
  | .local _ .vmem, ⟨12, _⟩ => ⟨S1x16x1024, .bf16⟩
  | .local _ .vmem, ⟨13, _⟩ => ⟨S1x16x1024, .bf16⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnSampRefIdeal.lean ====
abbrev S8x16x1024 : Shape := ⟨3, ![8, 16, 1024]⟩
abbrev S8x512x16x64 : Shape := ⟨4, ![8, 512, 16, 64]⟩
abbrev S257x16 : Shape := ⟨2, ![257, 16]⟩
abbrev S8x16x16x64 : Shape := ⟨4, ![8, 16, 16, 64]⟩
abbrev S8x528x16x64 : Shape := ⟨4, ![8, 528, 16, 64]⟩
abbrev S16 : Shape := ⟨1, ![16]⟩
abbrev S_ : Shape := ⟨0, ![]⟩
abbrev S528 : Shape := ⟨1, ![528]⟩
abbrev S16x1 : Shape := ⟨2, ![16, 1]⟩
abbrev S1x528 : Shape := ⟨2, ![1, 528]⟩
abbrev S16x528 : Shape := ⟨2, ![16, 528]⟩
abbrev S16x528x1 : Shape := ⟨3, ![16, 528, 1]⟩
abbrev S16x528x16 : Shape := ⟨3, ![16, 528, 16]⟩
abbrev S16x16x528 : Shape := ⟨3, ![16, 16, 528]⟩
abbrev S8x16x16x528 : Shape := ⟨4, ![8, 16, 16, 528]⟩
abbrev S1x16x16x528 : Shape := ⟨4, ![1, 16, 16, 528]⟩
abbrev S8x16x16 : Shape := ⟨3, ![8, 16, 16]⟩
abbrev S8x16x16x1 : Shape := ⟨4, ![8, 16, 16, 1]⟩
abbrev S8x16x64x16 : Shape := ⟨4, ![8, 16, 64, 16]⟩

abbrev nBuf : Space → Nat
  | .hbm => 64
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S8x16x1024, .f32⟩
  | .hbm, ⟨2, _⟩ => ⟨S8x16x1024, .f32⟩
  | .hbm, ⟨3, _⟩ => ⟨S8x512x16x64, .f32⟩
  | .hbm, ⟨4, _⟩ => ⟨S8x512x16x64, .f32⟩
  | .hbm, ⟨5, _⟩ => ⟨S257x16, .f32⟩
  | .hbm, ⟨6, _⟩ => ⟨S8x16x16x64, .f32⟩
  | .hbm, ⟨7, _⟩ => ⟨S8x16x16x64, .f32⟩
  | .hbm, ⟨8, _⟩ => ⟨S8x16x16x64, .f32⟩
  | .hbm, ⟨9, _⟩ => ⟨S8x528x16x64, .f32⟩
  | .hbm, ⟨10, _⟩ => ⟨S8x528x16x64, .f32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S528, .i32⟩
  | .hbm, ⟨16, _⟩ => ⟨S16x1, .i32⟩
  | .hbm, ⟨17, _⟩ => ⟨S1x528, .i32⟩
  | .hbm, ⟨18, _⟩ => ⟨S16x528, .i32⟩
  | .hbm, ⟨19, _⟩ => ⟨S16x528, .i32⟩
  | .hbm, ⟨20, _⟩ => ⟨S16x528, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S16x528, .i32⟩
  | .hbm, ⟨25, _⟩ => ⟨S16x528, .i32⟩
  | .hbm, ⟨26, _⟩ => ⟨S_, .i32⟩
  | .hbm, ⟨27, _⟩ => ⟨S16x528, .i32⟩
  | .hbm, ⟨28, _⟩ => ⟨S16x528, .i32⟩
  | .hbm, ⟨29, _⟩ => ⟨S_, .i32⟩
  | .hbm, ⟨30, _⟩ => ⟨S16x528, .i32⟩
  | .hbm, ⟨31, _⟩ => ⟨S16x528, .i32⟩
  | .hbm, ⟨32, _⟩ => ⟨S_, .i32⟩
  | .hbm, ⟨33, _⟩ => ⟨S16x528, .i32⟩
  | .hbm, ⟨34, _⟩ => ⟨S16x528, .i1⟩
  | .hbm, ⟨35, _⟩ => ⟨S_, .i32⟩
  | .hbm, ⟨36, _⟩ => ⟨S16x528, .i32⟩
  | .hbm, ⟨37, _⟩ => ⟨S16x528, .i32⟩
  | .hbm, ⟨38, _⟩ => ⟨S16x528, .i32⟩
  | .hbm, ⟨39, _⟩ => ⟨S16x528x1, .i32⟩
  | .hbm, ⟨40, _⟩ => ⟨S16x528x16, .f32⟩
  | .hbm, ⟨41, _⟩ => ⟨S16x16x528, .f32⟩
  | .hbm, ⟨42, _⟩ => ⟨S8x16x16x528, .f32⟩
  | .hbm, ⟨43, _⟩ => ⟨S1x16x16x528, .f32⟩
  | .hbm, ⟨44, _⟩ => ⟨S8x16x16x528, .f32⟩
  | .hbm, ⟨45, _⟩ => ⟨S8x16x16x528, .f32⟩
  | .hbm, ⟨46, _⟩ => ⟨S_, .f32⟩
  | .hbm, ⟨47, _⟩ => ⟨S8x16x16, .f32⟩
  | .hbm, ⟨48, _⟩ => ⟨S_, .f32⟩
  | .hbm, ⟨49, _⟩ => ⟨S8x16x16, .f32⟩
  | .hbm, ⟨50, _⟩ => ⟨S8x16x16, .f32⟩
  | .hbm, ⟨51, _⟩ => ⟨S8x16x16x1, .f32⟩
  | .hbm, ⟨52, _⟩ => ⟨S8x16x16x528, .f32⟩
  | .hbm, ⟨53, _⟩ => ⟨S8x16x16x528, .f32⟩
  | .hbm, ⟨54, _⟩ => ⟨S8x16x16x528, .f32⟩
  | .hbm, ⟨55, _⟩ => ⟨S_, .f32⟩
  | .hbm, ⟨56, _⟩ => ⟨S8x16x16, .f32⟩
  | .hbm, ⟨57, _⟩ => ⟨S8x16x16x1, .f32⟩
  | .hbm, ⟨58, _⟩ => ⟨S8x16x16x528, .f32⟩
  | .hbm, ⟨59, _⟩ => ⟨S8x16x16x528, .f32⟩
  | .hbm, ⟨60, _⟩ => ⟨S8x16x64x16, .f32⟩
  | .hbm, ⟨61, _⟩ => ⟨S8x16x16x64, .f32⟩
  | .hbm, ⟨62, _⟩ => ⟨S8x16x1024, .f32⟩
  | .hbm, ⟨63, _⟩ => ⟨S8x16x1024, .bf16⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Proof.Common.lean ====
/- Facts about sums over the extended reals that every value proof of this certificate uses. -/
module

public import Idealize.ShloMosaic.Lib.Pipeline.ValueKit

@[expose] public section

open scoped BigOperators
open Idealize.ShloMosaic

namespace Cert.Common

/-- A finite sum times a nonnegative real number is the sum of the products: on all extended reals, since such a
    number neither changes a sign nor meets an infinity. -/
theorem sum_mul_const {ι : Type*} (s : Finset ι) (f : ι → EReal) (c : EReal) (h0 : 0 ≤ c) (h1 : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

/-- The scale of the queries, 64 to the power -1/2. -/
theorem eighth : Ideal.ofBits .f32 0x3E000000#32 = ((1 / 8 : ℝ) : EReal) := by
  simp [Ideal.ofBits, Ideal.ieee, -EReal.coe_mul]
  norm_num

/-- A scale on the columns of the right factor of a product is a scale of the product. -/
theorem scaled_dot {n : ℕ} (x w : Fin n → EReal) (c : EReal) (h0 : 0 ≤ c) (h1 : c ≠ ⊤) :
    ∑ k, x k * (w k * c) = (∑ k, x k * w k) * c := by
  rw [sum_mul_const _ _ _ h0 h1]
  exact Finset.sum_congr rfl fun k _ => (mul_assoc _ _ _).symm

/-- The scale of column `l` of the weights: the host scales the query columns, and multiplies the others by one. -/
noncomputable abbrev scale (l : ℕ) : EReal := if l < 1024 then Ideal.ofBits .f32 0x3E000000#32 else 1

/-- Both scales are nonnegative real numbers. -/
theorem scale_nonneg (l : ℕ) : 0 ≤ scale l := by
  unfold scale
  split
  · rw [eighth]; exact EReal.coe_nonneg.mpr (by norm_num)
  · exact zero_le_one

/-- Neither scale is infinite. -/
theorem scale_ne_top (l : ℕ) : scale l ≠ ⊤ := by
  unfold scale
  split
  · rw [eighth]; exact EReal.coe_ne_top _
  · exact EReal.coe_ne_top 1

/-- An exponential is not negative. -/
theorem exp_nonneg (x : EReal) : 0 ≤ Ideal.exp x := by
  induction x with
  | bot => simp
  | top => simp
  | coe r => rw [Ideal.exp_coe]; exact EReal.coe_nonneg.mpr (Real.exp_pos r).le

/-- The log of a positive number is not minus infinity. -/
theorem log_ne_bot (x : EReal) (h : 0 < x) : Ideal.log x ≠ ⊥ := by
  induction x with
  | bot => exact absurd h (not_lt_of_ge bot_le)
  | top => simp
  | coe r => rw [Ideal.log_coe, if_neg (not_le.mpr (EReal.coe_pos.mp h))]; exact EReal.coe_ne_bot _

/-- The mean of a row of 1024 entries. -/
noncomputable def mean (t : Fin 1024 → EReal) : EReal :=
  Ideal.div (∑ k, t k) (Ideal.ofBits .f32 0x44800000#32)

/-- Entry `n` of the layer norm of a row `t`, with gain `g` and offset `b` at that entry. -/
noncomputable def ln (t : Fin 1024 → EReal) (g b : EReal) (n : Fin 1024) : EReal :=
  (t n - mean t) * Ideal.rsqrt (mean (fun k => (t k - mean t) * (t k - mean t)) + Ideal.ofBits .f32 0x3727C5AC#32) * g + b

end Cert.Common

end
-- ==== Proof.QkvValue.lean ====
/- The value of the prompt's query, key and value projections. -/
module

public import proofs.«01_k».proof.Proof.Common
public import proofs.«01_k».proof.Proof.Gen.QkvIdeal.Value
public import proofs.«01_k».proof.Proof.Gen.QkvRefIdeal.Run

@[expose] public section

set_option maxRecDepth 16384

noncomputable section

open Idealize.ShloMosaic Idealize.ShloMosaic.TcCoe Idealize.SL.Sem
open Idealize.ShloMosaic.Pipeline (Dat)
open scoped BigOperators

namespace Cert.QkvIdeal.Value

open Cert.QkvIdeal Cert.QkvIdeal.Gen Cert.Common

variable (m : (ℓ : Loc nD τ sig) → Buf (Elt Ideal) ℓ)

/-- The reference's whole product `x @ w_in[0]`, before it is cut into queries, keys and values. -/
abbrev PROD (X : FVec Ideal Cert.QkvRefIdeal.S2x16384x1024 .f32) (W : FVec Ideal Cert.QkvRefIdeal.S1x1024x3072 .f32) :
    FVec Ideal Cert.QkvRefIdeal.S2x16384x3072 .f32 :=
  Host.dotGeneral Cert.QkvRefIdeal.dot_S2x16384x1024_S1024x3072_S2x16384x3072_2_0_01_1_n_n none X
    (shapeCast _ W Cert.QkvRefIdeal.Gen.shapeCasts_S1x1024x3072_S1024x3072)

/-- The reference's queries, scaled. -/
abbrev REFq (X : FVec Ideal Cert.QkvRefIdeal.S2x16384x1024 .f32) (W : FVec Ideal Cert.QkvRefIdeal.S1x1024x3072 .f32) :
    FVec Ideal Cert.QkvRefIdeal.S32768x1024 .bf16 :=
  truncf .bf16 (shapeCast _ (mulf (extractStridedSlice Cert.QkvRefIdeal.S2x16384x1024 ![0, 0, 0] (PROD X W)
      Cert.QkvRefIdeal.Gen.slices_S2x16384x3072_S2x16384x1024_0_0_0)
    (broadcastInDim Cert.QkvRefIdeal.S2x16384x1024 ![] Cert.QkvRefIdeal.Gen.bcast_S_S2x16384x1024
      (constant Cert.QkvRefIdeal.S_ .f32 0x3E000000#32))) Cert.QkvRefIdeal.Gen.shapeCasts_S2x16384x1024_S32768x1024)
    Cert.QkvRefIdeal.Gen.bitsLt_bf16_f32

/-- The reference's keys. -/
abbrev REFk (X : FVec Ideal Cert.QkvRefIdeal.S2x16384x1024 .f32) (W : FVec Ideal Cert.QkvRefIdeal.S1x1024x3072 .f32) :
    FVec Ideal Cert.QkvRefIdeal.S32768x1024 .bf16 :=
  truncf .bf16 (shapeCast _ (extractStridedSlice Cert.QkvRefIdeal.S2x16384x1024 ![0, 0, 1024] (PROD X W)
      Cert.QkvRefIdeal.Gen.slices_S2x16384x3072_S2x16384x1024_0_0_1024)
    Cert.QkvRefIdeal.Gen.shapeCasts_S2x16384x1024_S32768x1024) Cert.QkvRefIdeal.Gen.bitsLt_bf16_f32

/-- The reference's values. -/
abbrev REFv (X : FVec Ideal Cert.QkvRefIdeal.S2x16384x1024 .f32) (W : FVec Ideal Cert.QkvRefIdeal.S1x1024x3072 .f32) :
    FVec Ideal Cert.QkvRefIdeal.S32768x1024 .bf16 :=
  truncf .bf16 (shapeCast _ (extractStridedSlice Cert.QkvRefIdeal.S2x16384x1024 ![0, 0, 2048] (PROD X W)
      Cert.QkvRefIdeal.Gen.slices_S2x16384x3072_S2x16384x1024_0_0_2048)
    Cert.QkvRefIdeal.Gen.shapeCasts_S2x16384x1024_S32768x1024) Cert.QkvRefIdeal.Gen.bitsLt_bf16_f32

/-- Every window's block index at every point. -/
theorem idx_val : ∀ t : Fin cfg0.N, win0_0.index t = ![t.val, 0] ∧ win0_1.index t = ![0, 0]
    ∧ win0_2.index t = ![t.val, 0] ∧ win0_3.index t = ![t.val, 0] ∧ win0_4.index t = ![t.val, 0] :=
  (by decide +kernel : ∀ t : Fin grid0.N, _)

/-- The input. -/
abbrev X (c : Dev nD) : FVec Ideal S2x16384x1024 .f32 := m ((c : Thread nD τ).loc main_arg0)
/-- The weights. -/
abbrev W (c : Dev nD) : FVec Ideal S1x1024x3072 .f32 := m ((c : Thread nD τ).loc main_arg1)

/-- The blocks of the input and of the weights at a point. -/
abbrev xb (c : Dev nD) (t : Fin cfg0.N) : FVec Ideal S512x1024 .f32 := iblk m c 0 t
/-- The weights' block. -/
abbrev wb (c : Dev nD) (t : Fin cfg0.N) : FVec Ideal S1024x3072 .bf16 := iblk m c 1 t

/-- A row of the input block at point `t` is a row of the input. -/
theorem x_at (c : Dev nD) (t : Fin cfg0.N) (i : Fin 512) (k : Fin 1024) (b : Fin 2) (r : Fin 16384)
    (h : b.val * 16384 + r.val = t.val * 512 + i.val) :
    iblk m c 0 t (ix2 i k) = X m c (ix3 b r k) := by
  blk_simp [iblk, idx_val t]
  entry_read
  pointwise
  blk_ext [idx_val t]

/-- The weights' block is the whole of the scaled weights. -/
theorem w_at (c : Dev nD) (t : Fin cfg0.N) (k : Fin 1024) (l : Fin 3072) :
    iblk m c 1 t (ix2 k l) = (W m c (ix3 0 k l) : EReal) * scale l := by
  blk_simp [iblk, idx_val t]
  entry_read
  pointwise
  refine congrArg₂ (fun a b : EReal => a * b) ?_ ?_
  · blk_ext [idx_val t]
  · blk_simp [idx_val t] <;> simp [scale]

/-- Column `o + n` of row `b, r` of the product, times a scale. -/
def row (X : FVec Ideal S2x16384x1024 .f32) (W : FVec Ideal S1x1024x3072 .f32) (s : EReal) (o : ℕ) (ho : o ≤ 2048)
    (b : Fin 2) (r : Fin 16384) (n : Fin 1024) : EReal :=
  (∑ k : Fin 1024, (X (ix3 b r k) : EReal) * W (ix3 0 k ⟨o + n, by omega⟩)) * s

/-- The product of the blocks of point `t`, one entry. -/
theorem prod_at (c : Dev nD) (t : Fin cfg0.N) (i : Fin 512) (l : Fin 3072) (b : Fin 2) (r : Fin 16384)
    (o : ℕ) (ho : o ≤ 2048) (n : Fin 1024) (h : b.val * 16384 + r.val = t.val * 512 + i.val) (hl : l.val = o + n.val)
    (s : EReal) (hs : scale (o + n) = s) :
    (∑ k : Fin 1024, (xb m c t (ix2 i k) : EReal) * wb m c t (ix2 k l)) = row (X m c) (W m c) s o ho b r n := by
  subst hs
  obtain ⟨l, hl'⟩ := l
  dsimp only at hl
  subst hl
  refine Eq.trans (Fin.sum_fin_congr fun k => congrArg₂ (fun a b : EReal => a * b) (x_at m c t i k b r h) (w_at m c t k _)) ?_
  exact scaled_dot _ _ _ (scale_nonneg _) (scale_ne_top _)

/-- The queries that a point stores: two halves of 512 columns. -/
theorem point_2 (c : Dev nD) (t : Fin cfg0.N) (y) (b : Fin 2) (r : Fin 16384) (n : Fin 1024)
    (h : b.val * 16384 + r.val = t.val * 512 + (y 0 : ℕ)) (h' : (y 1 : ℕ) = n)
    (s : EReal) (hs : scale (0 + n) = s) :
    out0_2 (iblk m c 0 t) (iblk m c 1 t) y = row (X m c) (W m c) s 0 (by omega) b r n := by
  canon_tiles x hx
  all_goals
    open_payloads
    pointwise
    refine Eq.trans ?_ (prod_at m c t (x 0) ⟨0 + n, by omega⟩ b r 0 (by omega) n (by omega) rfl s hs)
    blk_point []

/-- The keys that a point stores: two halves of 512 columns. -/
theorem point_3 (c : Dev nD) (t : Fin cfg0.N) (y) (b : Fin 2) (r : Fin 16384) (n : Fin 1024)
    (h : b.val * 16384 + r.val = t.val * 512 + (y 0 : ℕ)) (h' : (y 1 : ℕ) = n)
    (s : EReal) (hs : scale (1024 + n) = s) :
    out0_3 (iblk m c 0 t) (iblk m c 1 t) y = row (X m c) (W m c) s 1024 (by omega) b r n := by
  canon_tiles x hx
  all_goals
    open_payloads
    pointwise
    refine Eq.trans ?_ (prod_at m c t (x 0) ⟨1024 + n, by omega⟩ b r 1024 (by omega) n (by omega) rfl s hs)
    blk_point []

/-- The values that a point stores: two halves of 512 columns. -/
theorem point_4 (c : Dev nD) (t : Fin cfg0.N) (y) (b : Fin 2) (r : Fin 16384) (n : Fin 1024)
    (h : b.val * 16384 + r.val = t.val * 512 + (y 0 : ℕ)) (h' : (y 1 : ℕ) = n)
    (s : EReal) (hs : scale (2048 + n) = s) :
    out0_4 (iblk m c 0 t) (iblk m c 1 t) y = row (X m c) (W m c) s 2048 (by omega) b r n := by
  canon_tiles x hx
  all_goals
    open_payloads
    pointwise
    refine Eq.trans ?_ (prod_at m c t (x 0) ⟨2048 + n, by omega⟩ b r 2048 (by omega) n (by omega) rfl s hs)
    blk_point []

/-- The queries after the run are the reference's. -/
theorem final_2 (c : Dev nD) : (dats m 0 c).arrAt 2 cfg0.N = REFq (X m c) (W m c) := by
  refine (dats m 0 c).arrAt_eq_of_covers 2 _ (by decide +kernel) fun t hf y => ?_
  blk_simp
  rw [after0_2]
  have ht : t.val < 64 := lt_of_lt_of_eq t.isLt N_0
  idx_bounds
  refine (point_2 m c t y ⟨(t.val * 512 + (y 0 : ℕ)) / 16384, by omega⟩ ⟨(t.val * 512 + (y 0 : ℕ)) % 16384, by omega⟩
    (y 1) (by dsimp only; omega) rfl _ (if_pos (by omega))).trans ?_
  unfold row
  pointwise [REFq]
  blk_point [idx_val t]

/-- The keys after the run are the reference's. -/
theorem final_3 (c : Dev nD) : (dats m 0 c).arrAt 3 cfg0.N = REFk (X m c) (W m c) := by
  refine (dats m 0 c).arrAt_eq_of_covers 3 _ (by decide +kernel) fun t hf y => ?_
  blk_simp
  rw [after0_3]
  have ht : t.val < 64 := lt_of_lt_of_eq t.isLt N_0
  idx_bounds
  refine (point_3 m c t y ⟨(t.val * 512 + (y 0 : ℕ)) / 16384, by omega⟩ ⟨(t.val * 512 + (y 0 : ℕ)) % 16384, by omega⟩
    (y 1) (by dsimp only; omega) rfl _ (if_neg (by omega))).trans ?_
  unfold row
  rw [mul_one]
  pointwise [REFk]
  blk_point [idx_val t]

/-- The values after the run are the reference's. -/
theorem final_4 (c : Dev nD) : (dats m 0 c).arrAt 4 cfg0.N = REFv (X m c) (W m c) := by
  refine (dats m 0 c).arrAt_eq_of_covers 4 _ (by decide +kernel) fun t hf y => ?_
  blk_simp
  rw [after0_4]
  have ht : t.val < 64 := lt_of_lt_of_eq t.isLt N_0
  idx_bounds
  refine (point_4 m c t y ⟨(t.val * 512 + (y 0 : ℕ)) / 16384, by omega⟩ ⟨(t.val * 512 + (y 0 : ℕ)) % 16384, by omega⟩
    (y 1) (by dsimp only; omega) rfl _ (if_neg (by omega))).trans ?_
  unfold row
  rw [mul_one]
  pointwise [REFv]
  blk_point [idx_val t]

end Cert.QkvIdeal.Value

end
-- ==== Proof.TailValue.lean ====
/- The value of the keys and values of the prompt's newest 512 rows. -/
module

public import proofs.«01_k».proof.Proof.Common
public import proofs.«01_k».proof.Proof.Gen.TailIdeal.Value
public import proofs.«01_k».proof.Proof.Gen.TailRefIdeal.Run

@[expose] public section

set_option maxRecDepth 16384

noncomputable section

open Idealize.ShloMosaic Idealize.ShloMosaic.TcCoe Idealize.SL.Sem
open Idealize.ShloMosaic.Pipeline (Dat)
open scoped BigOperators

namespace Cert.TailIdeal.Value

open Cert.TailIdeal Cert.TailIdeal.Gen Cert.Common

variable (m : (ℓ : Loc nD τ sig) → Buf (Elt Ideal) ℓ)

/-- The reference's whole product `x @ w_in[0]`, before it is cut into queries, keys and values. -/
abbrev PROD (X : FVec Ideal Cert.TailRefIdeal.S2x16384x1024 .f32) (W : FVec Ideal Cert.TailRefIdeal.S1x1024x3072 .f32) :
    FVec Ideal Cert.TailRefIdeal.S2x16384x3072 .f32 :=
  Host.dotGeneral Cert.TailRefIdeal.dot_S2x16384x1024_S1024x3072_S2x16384x3072_2_0_01_1_n_n none X
    (shapeCast _ W Cert.TailRefIdeal.Gen.shapeCasts_S1x1024x3072_S1024x3072)

/-- The reference's keys of the newest rows. -/
abbrev REFk (X : FVec Ideal Cert.TailRefIdeal.S2x16384x1024 .f32) (W : FVec Ideal Cert.TailRefIdeal.S1x1024x3072 .f32) :
    FVec Ideal Cert.TailRefIdeal.S1024x1024 .f32 :=
  shapeCast _ (extractStridedSlice Cert.TailRefIdeal.S2x512x1024 ![0, 15872, 0]
      (extractStridedSlice Cert.TailRefIdeal.S2x16384x1024 ![0, 0, 1024] (PROD X W)
        Cert.TailRefIdeal.Gen.slices_S2x16384x3072_S2x16384x1024_0_0_1024)
      Cert.TailRefIdeal.Gen.slices_S2x16384x1024_S2x512x1024_0_15872_0)
    Cert.TailRefIdeal.Gen.shapeCasts_S2x512x1024_S1024x1024

/-- The reference's values of the newest rows. -/
abbrev REFv (X : FVec Ideal Cert.TailRefIdeal.S2x16384x1024 .f32) (W : FVec Ideal Cert.TailRefIdeal.S1x1024x3072 .f32) :
    FVec Ideal Cert.TailRefIdeal.S1024x1024 .f32 :=
  shapeCast _ (extractStridedSlice Cert.TailRefIdeal.S2x512x1024 ![0, 15872, 0]
      (extractStridedSlice Cert.TailRefIdeal.S2x16384x1024 ![0, 0, 2048] (PROD X W)
        Cert.TailRefIdeal.Gen.slices_S2x16384x3072_S2x16384x1024_0_0_2048)
      Cert.TailRefIdeal.Gen.slices_S2x16384x1024_S2x512x1024_0_15872_0)
    Cert.TailRefIdeal.Gen.shapeCasts_S2x512x1024_S1024x1024

/-- Every window's block index at every point. -/
theorem idx_val : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The input. -/
abbrev X (c : Dev nD) : FVec Ideal S2x16384x1024 .f32 := m ((c : Thread nD τ).loc main_arg0)
/-- The weights. -/
abbrev W (c : Dev nD) : FVec Ideal S1x1024x3072 .f32 := m ((c : Thread nD τ).loc main_arg1)

/-- The blocks of the input and of the weights at a point. -/
abbrev xb (c : Dev nD) (t : Fin cfg0.N) : FVec Ideal S512x1024 .f32 := iblk m c 0 t
/-- The weights' block. -/
abbrev wb (c : Dev nD) (t : Fin cfg0.N) : FVec Ideal S1024x2048 .bf16 := iblk m c 1 t

/-- A row of the input block at point `t` is a row of the input. -/
theorem x_at (c : Dev nD) (t : Fin cfg0.N) (i : Fin 512) (k : Fin 1024) (b : Fin 2) (r : Fin 512)
    (h : b.val * 512 + r.val = t.val * 512 + i.val) :
    iblk m c 0 t (ix2 i k) = X m c (ix3 b ⟨15872 + r, by omega⟩ k) := by
  blk_simp [iblk, idx_val t]
  entry_read
  pointwise
  blk_ext [idx_val t]

/-- The weights' block is the whole of the scaled weights. -/
theorem w_at (c : Dev nD) (t : Fin cfg0.N) (k : Fin 1024) (l : Fin 2048) :
    iblk m c 1 t (ix2 k l) = (W m c (ix3 0 k ⟨1024 + l, by omega⟩) : EReal) * scale (1024 + l) := by
  blk_simp [iblk, idx_val t]
  entry_read
  pointwise
  rw [show scale (1024 + l) = 1 from if_neg (by omega), mul_one]
  blk_ext [idx_val t]

/-- Column `o + n` of row `b, r` of the product, times a scale. -/
def row (X : FVec Ideal S2x16384x1024 .f32) (W : FVec Ideal S1x1024x3072 .f32) (s : EReal) (o : ℕ) (ho : o ≤ 1024)
    (b : Fin 2) (r : Fin 512) (n : Fin 1024) : EReal :=
  (∑ k : Fin 1024, (X (ix3 b ⟨15872 + r, by omega⟩ k) : EReal) * W (ix3 0 k ⟨1024 + (o + n), by omega⟩)) * s

/-- The product of the blocks of point `t`, one entry. -/
theorem prod_at (c : Dev nD) (t : Fin cfg0.N) (i : Fin 512) (l : Fin 2048) (b : Fin 2) (r : Fin 512)
    (o : ℕ) (ho : o ≤ 1024) (n : Fin 1024) (h : b.val * 512 + r.val = t.val * 512 + i.val) (hl : l.val = o + n.val)
    (s : EReal) (hs : scale (1024 + (o + n)) = s) :
    (∑ k : Fin 1024, (xb m c t (ix2 i k) : EReal) * wb m c t (ix2 k l)) = row (X m c) (W m c) s o ho b r n := by
  subst hs
  obtain ⟨l, hl'⟩ := l
  dsimp only at hl
  subst hl
  refine Eq.trans (Fin.sum_fin_congr fun k => congrArg₂ (fun a b : EReal => a * b) (x_at m c t i k b r h) (w_at m c t k _)) ?_
  exact scaled_dot _ _ _ (scale_nonneg _) (scale_ne_top _)

/-- The keys that a point stores: two halves of 512 columns. -/
theorem point_2 (c : Dev nD) (t : Fin cfg0.N) (y) (b : Fin 2) (r : Fin 512) (n : Fin 1024)
    (h : b.val * 512 + r.val = t.val * 512 + (y 0 : ℕ)) (h' : (y 1 : ℕ) = n)
    (s : EReal) (hs : scale (1024 + (0 + n)) = s) :
    out0_2 (iblk m c 0 t) (iblk m c 1 t) y = row (X m c) (W m c) s 0 (by omega) b r n := by
  canon_tiles x hx
  all_goals
    open_payloads
    pointwise
    refine Eq.trans ?_ (prod_at m c t (x 0) ⟨0 + n, by omega⟩ b r 0 (by omega) n (by omega) rfl s hs)
    blk_point []

/-- The values that a point stores: two halves of 512 columns. -/
theorem point_3 (c : Dev nD) (t : Fin cfg0.N) (y) (b : Fin 2) (r : Fin 512) (n : Fin 1024)
    (h : b.val * 512 + r.val = t.val * 512 + (y 0 : ℕ)) (h' : (y 1 : ℕ) = n)
    (s : EReal) (hs : scale (1024 + (1024 + n)) = s) :
    out0_3 (iblk m c 0 t) (iblk m c 1 t) y = row (X m c) (W m c) s 1024 (by omega) b r n := by
  canon_tiles x hx
  all_goals
    open_payloads
    pointwise
    refine Eq.trans ?_ (prod_at m c t (x 0) ⟨1024 + n, by omega⟩ b r 1024 (by omega) n (by omega) rfl s hs)
    blk_point []

/-- The keys after the run are the reference's. -/
theorem final_2 (c : Dev nD) : (dats m 0 c).arrAt 2 cfg0.N = REFk (X m c) (W m c) := by
  refine (dats m 0 c).arrAt_eq_of_covers 2 _ (by decide +kernel) fun t hf y => ?_
  blk_simp
  rw [after0_2]
  have ht : t.val < 2 := lt_of_lt_of_eq t.isLt N_0
  idx_bounds
  refine (point_2 m c t y ⟨(t.val * 512 + (y 0 : ℕ)) / 512, by omega⟩ ⟨(t.val * 512 + (y 0 : ℕ)) % 512, by omega⟩
    (y 1) (by dsimp only; omega) rfl _ (if_neg (by omega))).trans ?_
  unfold row
  rw [mul_one]
  pointwise [REFk]
  blk_point [idx_val t]

/-- The values after the run are the reference's. -/
theorem final_3 (c : Dev nD) : (dats m 0 c).arrAt 3 cfg0.N = REFv (X m c) (W m c) := by
  refine (dats m 0 c).arrAt_eq_of_covers 3 _ (by decide +kernel) fun t hf y => ?_
  blk_simp
  rw [after0_3]
  have ht : t.val < 2 := lt_of_lt_of_eq t.isLt N_0
  idx_bounds
  refine (point_3 m c t y ⟨(t.val * 512 + (y 0 : ℕ)) / 512, by omega⟩ ⟨(t.val * 512 + (y 0 : ℕ)) % 512, by omega⟩
    (y 1) (by dsimp only; omega) rfl _ (if_neg (by omega))).trans ?_
  unfold row
  rw [mul_one]
  pointwise [REFv]
  blk_point [idx_val t]

end Cert.TailIdeal.Value

end
-- ==== Proof.SampValue.lean ====
/- The value of the decoding step's query, key and value projections. -/
module

public import proofs.«01_k».proof.Proof.Common
public import proofs.«01_k».proof.Proof.Gen.SampIdeal.Value
public import proofs.«01_k».proof.Proof.Gen.SampRefIdeal.Run

@[expose] public section

set_option maxRecDepth 16384

noncomputable section

open Idealize.ShloMosaic Idealize.ShloMosaic.TcCoe Idealize.SL.Sem
open Idealize.ShloMosaic.Pipeline (Dat)
open scoped BigOperators

namespace Cert.SampIdeal.Value

open Cert.SampIdeal Cert.SampIdeal.Gen Cert.Common

variable (m : (ℓ : Loc nD τ sig) → Buf (Elt Ideal) ℓ)

/-- The reference's whole product `x @ w_in[0]`, before it is cut into queries, keys and values. -/
abbrev PROD (X : FVec Ideal Cert.SampRefIdeal.S8x16x1024 .f32) (W : FVec Ideal Cert.SampRefIdeal.S1x1024x3072 .f32) :
    FVec Ideal Cert.SampRefIdeal.S8x16x3072 .f32 :=
  Host.dotGeneral Cert.SampRefIdeal.dot_S8x16x1024_S1024x3072_S8x16x3072_2_0_01_1_n_n none X
    (shapeCast _ W Cert.SampRefIdeal.Gen.shapeCasts_S1x1024x3072_S1024x3072)

/-- The reference's queries, scaled. -/
abbrev REFq (X : FVec Ideal Cert.SampRefIdeal.S8x16x1024 .f32) (W : FVec Ideal Cert.SampRefIdeal.S1x1024x3072 .f32) :
    FVec Ideal Cert.SampRefIdeal.S128x1024 .f32 :=
  (shapeCast _ (mulf (extractStridedSlice Cert.SampRefIdeal.S8x16x1024 ![0, 0, 0] (PROD X W)
      Cert.SampRefIdeal.Gen.slices_S8x16x3072_S8x16x1024_0_0_0)
    (broadcastInDim Cert.SampRefIdeal.S8x16x1024 ![] Cert.SampRefIdeal.Gen.bcast_S_S8x16x1024
      (constant Cert.SampRefIdeal.S_ .f32 0x3E000000#32))) Cert.SampRefIdeal.Gen.shapeCasts_S8x16x1024_S128x1024)

/-- The reference's keys. -/
abbrev REFk (X : FVec Ideal Cert.SampRefIdeal.S8x16x1024 .f32) (W : FVec Ideal Cert.SampRefIdeal.S1x1024x3072 .f32) :
    FVec Ideal Cert.SampRefIdeal.S128x1024 .f32 :=
  (shapeCast _ (extractStridedSlice Cert.SampRefIdeal.S8x16x1024 ![0, 0, 1024] (PROD X W)
      Cert.SampRefIdeal.Gen.slices_S8x16x3072_S8x16x1024_0_0_1024)
    Cert.SampRefIdeal.Gen.shapeCasts_S8x16x1024_S128x1024)

/-- The reference's values. -/
abbrev REFv (X : FVec Ideal Cert.SampRefIdeal.S8x16x1024 .f32) (W : FVec Ideal Cert.SampRefIdeal.S1x1024x3072 .f32) :
    FVec Ideal Cert.SampRefIdeal.S128x1024 .f32 :=
  (shapeCast _ (extractStridedSlice Cert.SampRefIdeal.S8x16x1024 ![0, 0, 2048] (PROD X W)
      Cert.SampRefIdeal.Gen.slices_S8x16x3072_S8x16x1024_0_0_2048)
    Cert.SampRefIdeal.Gen.shapeCasts_S8x16x1024_S128x1024)

/-- Every window's block index at every point. -/
theorem idx_val : ∀ t : Fin cfg0.N, win0_0.index t = ![0, 0] ∧ win0_1.index t = ![0, 0]
    ∧ win0_2.index t = ![0, 0] ∧ win0_3.index t = ![0, 0] ∧ win0_4.index t = ![0, 0] :=
  (by decide +kernel : ∀ t : Fin grid0.N, _)

/-- The input. -/
abbrev X (c : Dev nD) : FVec Ideal S8x16x1024 .f32 := m ((c : Thread nD τ).loc main_arg0)
/-- The weights. -/
abbrev W (c : Dev nD) : FVec Ideal S1x1024x3072 .f32 := m ((c : Thread nD τ).loc main_arg1)

/-- The blocks of the input and of the weights at a point. -/
abbrev xb (c : Dev nD) (t : Fin cfg0.N) : FVec Ideal S128x1024 .f32 := iblk m c 0 t
/-- The weights' block. -/
abbrev wb (c : Dev nD) (t : Fin cfg0.N) : FVec Ideal S1024x3072 .bf16 := iblk m c 1 t

/-- A row of the input block at point `t` is a row of the input. -/
theorem x_at (c : Dev nD) (t : Fin cfg0.N) (i : Fin 128) (k : Fin 1024) (b : Fin 8) (r : Fin 16)
    (h : b.val * 16 + r.val = i.val) :
    iblk m c 0 t (ix2 i k) = X m c (ix3 b r k) := by
  blk_simp [iblk, idx_val t]
  entry_read
  pointwise
  blk_ext [idx_val t]

/-- The weights' block is the whole of the scaled weights. -/
theorem w_at (c : Dev nD) (t : Fin cfg0.N) (k : Fin 1024) (l : Fin 3072) :
    iblk m c 1 t (ix2 k l) = (W m c (ix3 0 k l) : EReal) * scale l := by
  blk_simp [iblk, idx_val t]
  entry_read
  pointwise
  refine congrArg₂ (fun a b : EReal => a * b) ?_ ?_
  · blk_ext [idx_val t]
  · blk_simp [idx_val t] <;> simp [scale]

/-- Column `o + n` of row `b, r` of the product, times a scale. -/
def row (X : FVec Ideal S8x16x1024 .f32) (W : FVec Ideal S1x1024x3072 .f32) (s : EReal) (o : ℕ) (ho : o ≤ 2048)
    (b : Fin 8) (r : Fin 16) (n : Fin 1024) : EReal :=
  (∑ k : Fin 1024, (X (ix3 b r k) : EReal) * W (ix3 0 k ⟨o + n, by omega⟩)) * s

/-- The product of the blocks of point `t`, one entry. -/
theorem prod_at (c : Dev nD) (t : Fin cfg0.N) (i : Fin 128) (l : Fin 3072) (b : Fin 8) (r : Fin 16)
    (o : ℕ) (ho : o ≤ 2048) (n : Fin 1024) (h : b.val * 16 + r.val = i.val) (hl : l.val = o + n.val)
    (s : EReal) (hs : scale (o + n) = s) :
    (∑ k : Fin 1024, (xb m c t (ix2 i k) : EReal) * wb m c t (ix2 k l)) = row (X m c) (W m c) s o ho b r n := by
  subst hs
  obtain ⟨l, hl'⟩ := l
  dsimp only at hl
  subst hl
  refine Eq.trans (Fin.sum_fin_congr fun k => congrArg₂ (fun a b : EReal => a * b) (x_at m c t i k b r h) (w_at m c t k _)) ?_
  exact scaled_dot _ _ _ (scale_nonneg _) (scale_ne_top _)

/-- The queries that a point stores: two halves of 512 columns. -/
theorem point_2 (c : Dev nD) (t : Fin cfg0.N) (y) (b : Fin 8) (r : Fin 16) (n : Fin 1024)
    (h : b.val * 16 + r.val = (y 0 : ℕ)) (h' : (y 1 : ℕ) = n)
    (s : EReal) (hs : scale (0 + n) = s) :
    out0_2 (iblk m c 0 t) (iblk m c 1 t) y = row (X m c) (W m c) s 0 (by omega) b r n := by
  canon_tiles x hx
  all_goals
    open_payloads
    pointwise
    refine Eq.trans ?_ (prod_at m c t (x 0) ⟨0 + n, by omega⟩ b r 0 (by omega) n (by omega) rfl s hs)
    blk_point []

/-- The keys that a point stores: two halves of 512 columns. -/
theorem point_3 (c : Dev nD) (t : Fin cfg0.N) (y) (b : Fin 8) (r : Fin 16) (n : Fin 1024)
    (h : b.val * 16 + r.val = (y 0 : ℕ)) (h' : (y 1 : ℕ) = n)
    (s : EReal) (hs : scale (1024 + n) = s) :
    out0_3 (iblk m c 0 t) (iblk m c 1 t) y = row (X m c) (W m c) s 1024 (by omega) b r n := by
  canon_tiles x hx
  all_goals
    open_payloads
    pointwise
    refine Eq.trans ?_ (prod_at m c t (x 0) ⟨1024 + n, by omega⟩ b r 1024 (by omega) n (by omega) rfl s hs)
    blk_point []

/-- The values that a point stores: two halves of 512 columns. -/
theorem point_4 (c : Dev nD) (t : Fin cfg0.N) (y) (b : Fin 8) (r : Fin 16) (n : Fin 1024)
    (h : b.val * 16 + r.val = (y 0 : ℕ)) (h' : (y 1 : ℕ) = n)
    (s : EReal) (hs : scale (2048 + n) = s) :
    out0_4 (iblk m c 0 t) (iblk m c 1 t) y = row (X m c) (W m c) s 2048 (by omega) b r n := by
  canon_tiles x hx
  all_goals
    open_payloads
    pointwise
    refine Eq.trans ?_ (prod_at m c t (x 0) ⟨2048 + n, by omega⟩ b r 2048 (by omega) n (by omega) rfl s hs)
    blk_point []

/-- The queries after the run are the reference's. -/
theorem final_2 (c : Dev nD) : (dats m 0 c).arrAt 2 cfg0.N = REFq (X m c) (W m c) := by
  refine (dats m 0 c).arrAt_eq_of_covers 2 _ (by decide +kernel) fun t hf y => ?_
  blk_simp
  rw [after0_2]
  idx_bounds
  refine (point_2 m c t y ⟨(y 0 : ℕ) / 16, by omega⟩ ⟨(y 0 : ℕ) % 16, by omega⟩
    (y 1) (by dsimp only; omega) rfl _ (if_pos (by omega))).trans ?_
  unfold row
  pointwise [REFq]
  blk_point [idx_val t]

/-- The keys after the run are the reference's. -/
theorem final_3 (c : Dev nD) : (dats m 0 c).arrAt 3 cfg0.N = REFk (X m c) (W m c) := by
  refine (dats m 0 c).arrAt_eq_of_covers 3 _ (by decide +kernel) fun t hf y => ?_
  blk_simp
  rw [after0_3]
  idx_bounds
  refine (point_3 m c t y ⟨(y 0 : ℕ) / 16, by omega⟩ ⟨(y 0 : ℕ) % 16, by omega⟩
    (y 1) (by dsimp only; omega) rfl _ (if_neg (by omega))).trans ?_
  unfold row
  rw [mul_one]
  pointwise [REFk]
  blk_point [idx_val t]

/-- The values after the run are the reference's. -/
theorem final_4 (c : Dev nD) : (dats m 0 c).arrAt 4 cfg0.N = REFv (X m c) (W m c) := by
  refine (dats m 0 c).arrAt_eq_of_covers 4 _ (by decide +kernel) fun t hf y => ?_
  blk_simp
  rw [after0_4]
  idx_bounds
  refine (point_4 m c t y ⟨(y 0 : ℕ) / 16, by omega⟩ ⟨(y 0 : ℕ) % 16, by omega⟩
    (y 1) (by dsimp only; omega) rfl _ (if_neg (by omega))).trans ?_
  unfold row
  rw [mul_one]
  pointwise [REFv]
  blk_point [idx_val t]

end Cert.SampIdeal.Value

end
-- ==== Proof.LayerNorm.lean ====
/- The layer norm of the references, over whole arrays, entry by entry. -/
module

public import proofs.«01_k».proof.Proof.Common
public import proofs.«01_k».proof.Proof.Gen.ProjRefIdeal.Run

@[expose] public section

set_option maxRecDepth 16384

noncomputable section

open Idealize.ShloMosaic Idealize.ShloMosaic.TcCoe Idealize.SL.Sem
open scoped BigOperators

namespace Cert.LayerNorm

open Cert.ProjRefIdeal Cert.ProjRefIdeal.Gen Cert.Common

/-- The means of the rows of an array, one column. -/
abbrev means (T : FVec Ideal S32768x1024 .f32) : FVec Ideal S32768x1 .f32 :=
  Host.divf (broadcastInDim S32768x1 ![0] bcast_S32768_S32768x1_0
    (Host.reduceAdd T (constant S_ .f32 0x00000000#32) reducesTo_S32768x1024_S32768_d1 h_S_))
    (broadcastInDim S32768x1 ![] bcast_S_S32768x1 (constant S_ .f32 0x44800000#32))

/-- A row's mean. -/
theorem means_at (T : FVec Ideal S32768x1024 .f32) (r : Fin 32768) :
    means T (ix2 r 0) = mean fun k => T (ix2 r k) := by
  unfold mean
  pointwise [means]

/-- An array less the means of its rows. -/
abbrev centred (T : FVec Ideal S32768x1024 .f32) : FVec Ideal S32768x1024 .f32 :=
  subf T (broadcastInDim S32768x1024 ![0, 1] bcast_S32768x1_S32768x1024_0_1 (means T))

/-- An entry less its row's mean. -/
theorem centred_at (T : FVec Ideal S32768x1024 .f32) (r : Fin 32768) (n : Fin 1024) :
    centred T (ix2 r n) = (T (ix2 r n) : EReal) - mean fun k => T (ix2 r k) := by
  rw [← means_at]
  pointwise [centred]

/-- The layer norm of the rows of an array. -/
abbrev norm (T : FVec Ideal S32768x1024 .f32) (G B : FVec Ideal S1024 .f32) : FVec Ideal S32768x1024 .f32 :=
  addf (mulf (mulf (centred T) (broadcastInDim S32768x1024 ![0, 1] bcast_S32768x1_S32768x1024_0_1
      (Host.rsqrt (addf (means (mulf (centred T) (centred T)))
        (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 G)))
    (broadcastInDim S32768x1024 ![0, 1] bcast_S1x1024_S32768x1024_0_1 (broadcastInDim S1x1024 ![1] bcast_S1024_S1x1024_1 B))

/-- An entry of the layer norm. -/
theorem norm_at (T : FVec Ideal S32768x1024 .f32) (G B : FVec Ideal S1024 .f32) (r : Fin 32768) (n : Fin 1024) :
    norm T G B (ix2 r n) = ln (fun k => T (ix2 r k)) (G (ix1 n)) (B (ix1 n)) n := by
  unfold ln mean
  pointwise [norm]

end Cert.LayerNorm

end
-- ==== Proof.ProjValue.lean ====
/- The value of a mixer's output projection, with the residual and the first layer norm. -/
module

public import proofs.«01_k».proof.Proof.LayerNorm
public import proofs.«01_k».proof.Proof.Gen.ProjIdeal.Value

@[expose] public section

set_option maxRecDepth 16384

noncomputable section

open Idealize.ShloMosaic Idealize.ShloMosaic.TcCoe Idealize.SL.Sem
open Idealize.ShloMosaic.Pipeline (Dat)
open scoped BigOperators

namespace Cert.ProjIdeal.Value

open Cert.ProjIdeal Cert.ProjIdeal.Gen Cert.Common

variable (m : (ℓ : Loc nD τ sig) → Buf (Elt Ideal) ℓ)

/-- The reference's sum of the residual and the projection, before the layer norm. -/
abbrev PRE (A : FVec Ideal Cert.ProjRefIdeal.S32768x1024 .bf16) (W : FVec Ideal Cert.ProjRefIdeal.S1024x1024 .f32)
    (X : FVec Ideal Cert.ProjRefIdeal.S32768x1024 .f32) : FVec Ideal Cert.ProjRefIdeal.S32768x1024 .f32 :=
  addf (mulf (broadcastInDim Cert.ProjRefIdeal.S32768x1024 ![] Cert.ProjRefIdeal.Gen.bcast_S_S32768x1024
      (constant Cert.ProjRefIdeal.S_ .f32 0x3FB504F3#32)) X)
    (Host.dotGeneral Cert.ProjRefIdeal.dot_S32768x1024_S1024x1024_S32768x1024_1_0_0_1_n_n none
      (extf .f32 A Cert.ProjRefIdeal.Gen.bitsLt_bf16_f32) W)

/-- An entry of that sum. -/
def pre (A : FVec Ideal S32768x1024 .bf16) (W : FVec Ideal S1024x1024 .f32) (X : FVec Ideal S32768x1024 .f32)
    (r : Fin 32768) (k : Fin 1024) : EReal :=
  Ideal.ofBits .f32 0x3FB504F3#32 * X (ix2 r k) + ∑ j : Fin 1024, (A (ix2 r j) : EReal) * W (ix2 j k)

/-- The reference's entry is that one. -/
theorem PRE_at (A : FVec Ideal S32768x1024 .bf16) (W : FVec Ideal S1024x1024 .f32) (X : FVec Ideal S32768x1024 .f32)
    (r : Fin 32768) (k : Fin 1024) : PRE A W X (ix2 r k) = pre A W X r k := by
  unfold pre
  pointwise [PRE]

/-- Every window's block index at every point. -/
theorem idx_val : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] :=
  (by decide +kernel : ∀ t : Fin grid0.N, _)

/-- The mixer's output. -/
abbrev A (c : Dev nD) : FVec Ideal S32768x1024 .bf16 := m ((c : Thread nD τ).loc main_arg0)
/-- The weights. -/
abbrev W (c : Dev nD) : FVec Ideal S1024x1024 .f32 := m ((c : Thread nD τ).loc main_arg1)
/-- The residual. -/
abbrev X (c : Dev nD) : FVec Ideal S32768x1024 .f32 := m ((c : Thread nD τ).loc main_arg2)
/-- The layer norm's gain. -/
abbrev G (c : Dev nD) : FVec Ideal S1024 .f32 := m ((c : Thread nD τ).loc main_arg3)
/-- The layer norm's offset. -/
abbrev B (c : Dev nD) : FVec Ideal S1024 .f32 := m ((c : Thread nD τ).loc main_arg4)

/-- A row of the block of the mixer's output at point `t`. -/
theorem a_at (c : Dev nD) (t : Fin cfg0.N) (i : Fin 512) (k : Fin 1024) (r : Fin 32768) (h : t.val * 512 + i.val = r.val) :
    iblk m c 0 t (ix2 i k) = A m c (ix2 r k) := by
  blk_simp [iblk, idx_val t]
  blk_ext [idx_val t]

/-- The weights' block is the whole of the weights. -/
theorem w_at (c : Dev nD) (t : Fin cfg0.N) (k : Fin 1024) (l : Fin 1024) :
    iblk m c 1 t (ix2 k l) = W m c (ix2 k l) := by
  blk_simp [iblk, idx_val t]
  entry_read
  pointwise
  blk_ext [idx_val t]

/-- A row of the residual's block at point `t`. -/
theorem x_at (c : Dev nD) (t : Fin cfg0.N) (i : Fin 512) (k : Fin 1024) (r : Fin 32768) (h : t.val * 512 + i.val = r.val) :
    iblk m c 2 t (ix2 i k) = X m c (ix2 r k) := by
  blk_simp [iblk, idx_val t]
  blk_ext [idx_val t]

/-- The gain's block. -/
theorem g_at (c : Dev nD) (t : Fin cfg0.N) (k : Fin 1024) : iblk m c 3 t (ix2 0 k) = G m c (ix1 k) := by
  blk_simp [iblk, idx_val t]
  entry_read
  pointwise
  blk_ext [idx_val t]

/-- The offset's block. -/
theorem b_at (c : Dev nD) (t : Fin cfg0.N) (k : Fin 1024) : iblk m c 4 t (ix2 0 k) = B m c (ix1 k) := by
  blk_simp [iblk, idx_val t]
  entry_read
  pointwise
  blk_ext [idx_val t]

/-- The layer norm's payload on any blocks, one entry. -/
theorem pay_at (a : FVec Ideal S512x1024 .bf16) (w : FVec Ideal S1024x1024 .bf16) (x : FVec Ideal S512x1024 .f32)
    (g b : FVec Ideal S1x1024 .f32) (i : Fin 512) (n : Fin 1024) :
    (k0_pay1 (F := Ideal) a w x g b (ix2 i n) : EReal) = ln (fun k => Ideal.ofBits .f32 0x3FB504F3#32 * x (ix2 i k)
      + ∑ j : Fin 1024, (a (ix2 i j) : EReal) * w (ix2 j k)) (g (ix2 0 n)) (b (ix2 0 n)) n := by
  unfold ln mean
  pointwise [k0_pay1]

/-- The one store of a point fills its block. -/
theorem out_eq (a : FVec Ideal S512x1024 .bf16) (w : FVec Ideal S1024x1024 .bf16) (x : FVec Ideal S512x1024 .f32)
    (g b : FVec Ideal S1x1024 .f32) : out0_5 (F := Ideal) a w x g b = k0_pay1 (F := Ideal) a w x g b := by
  unfold out0_5 r0_0 r0_1 r0_2
  rw [View.canon_unit_zero (by decide), View.ld_unit_zero (by decide), View.ld_unit_zero (by decide),
    View.ld_unit_zero (by decide), View.ld_unit_zero (by decide), View.ld_unit_zero (by decide)]

/-- The rows that a point stores. -/
theorem point_5 (c : Dev nD) (t : Fin cfg0.N) (i : Fin 512) (n : Fin 1024) (r : Fin 32768)
    (h : t.val * 512 + i.val = r.val) :
    out0_5 (iblk m c 0 t) (iblk m c 1 t) (iblk m c 2 t) (iblk m c 3 t) (iblk m c 4 t) (ix2 i n)
      = ln (pre (A m c) (W m c) (X m c) r) (G m c (ix1 n)) (B m c (ix1 n)) n := by
  rw [out_eq]
  refine (pay_at _ _ _ _ _ i n).trans ?_
  rw [g_at m c t n, b_at m c t n]
  refine congrArg (fun f : Fin 1024 → EReal => ln f _ _ n) (funext fun k => ?_)
  unfold pre
  refine congrArg₂ (fun a b : EReal => a + b) (congrArg (fun a : EReal => _ * a) (x_at m c t i k r h)) ?_
  exact Fin.sum_fin_congr fun j => congrArg₂ (fun a b : EReal => a * b) (a_at m c t i j r h) (w_at m c t j k)

/-- The rows after the run are the reference's. -/
theorem final_5 (c : Dev nD) : (dats m 0 c).arrAt 5 cfg0.N
    = Cert.LayerNorm.norm (PRE (A m c) (W m c) (X m c)) (G m c) (B m c) := by
  refine (dats m 0 c).arrAt_eq_of_covers 5 _ (by decide +kernel) fun t hf y => ?_
  blk_simp
  rw [after0_5]
  idx_bounds
  rw [eq_ix2 y]
  refine (point_5 m c t (y 0) (y 1) ⟨t.val * 512 + (y 0 : ℕ), by omega⟩ rfl).trans ?_
  refine Eq.trans ?_ (show Cert.LayerNorm.norm (PRE (A m c) (W m c) (X m c)) (G m c) (B m c)
    (ix2 ⟨t.val * 512 + (y 0 : ℕ), by omega⟩ (y 1)) = _ by blk_ext [idx_val t])
  refine Eq.trans ?_ (Cert.LayerNorm.norm_at _ _ _ _ _).symm
  exact congrArg (fun f : Fin 1024 → EReal => ln f _ _ _) (funext fun k => (PRE_at _ _ _ _ k).symm)

end Cert.ProjIdeal.Value

end
-- ==== Proof.FfnValue.lean ====
/- The value of the SwiGLU feed-forward part, with the residual and the second layer norm. -/
module

public import proofs.«01_k».proof.Proof.LayerNorm
public import proofs.«01_k».proof.Proof.Gen.FfnIdeal.Value
public import proofs.«01_k».proof.Proof.Gen.FfnRefIdeal.Run
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen Cert.Common

variable (m : (ℓ : Loc nD τ sig) → Buf (Elt Ideal) ℓ)

/-- The reference's product with the first weights: the gates, then the values to be gated. -/
abbrev UP (X : FVec Ideal Cert.FfnRefIdeal.S32768x1024 .f32) (W : FVec Ideal Cert.FfnRefIdeal.S1024x5632 .f32) :
    FVec Ideal Cert.FfnRefIdeal.S32768x5632 .f32 :=
  Host.dotGeneral Cert.FfnRefIdeal.dot_S32768x1024_S1024x5632_S32768x5632_1_0_0_1_n_n none X W

/-- The reference's gates. -/
abbrev GATE (X : FVec Ideal Cert.FfnRefIdeal.S32768x1024 .f32) (W : FVec Ideal Cert.FfnRefIdeal.S1024x5632 .f32) :
    FVec Ideal Cert.FfnRefIdeal.S32768x2816 .f32 :=
  extractStridedSlice Cert.FfnRefIdeal.S32768x2816 ![0, 0] (UP X W) Cert.FfnRefIdeal.Gen.slices_S32768x5632_S32768x2816_0_0

/-- The reference's hidden array. -/
abbrev HID (X : FVec Ideal Cert.FfnRefIdeal.S32768x1024 .f32) (W : FVec Ideal Cert.FfnRefIdeal.S1024x5632 .f32) :
    FVec Ideal Cert.FfnRefIdeal.S32768x2816 .f32 :=
  mulf (mulf (GATE X W) (Host.divf
      (broadcastInDim Cert.FfnRefIdeal.S32768x2816 ![] Cert.FfnRefIdeal.Gen.bcast_S_S32768x2816
        (constant Cert.FfnRefIdeal.S_ .f32 0x3F800000#32))
      (addf (broadcastInDim Cert.FfnRefIdeal.S32768x2816 ![] Cert.FfnRefIdeal.Gen.bcast_S_S32768x2816
        (constant Cert.FfnRefIdeal.S_ .f32 0x3F800000#32)) (Host.exp (Host.negf (GATE X W))))))
    (extractStridedSlice Cert.FfnRefIdeal.S32768x2816 ![0, 2816] (UP X W)
      Cert.FfnRefIdeal.Gen.slices_S32768x5632_S32768x2816_0_2816)

/-- The reference's sum of the residual and the second product, before the layer norm. -/
abbrev PRE (X : FVec Ideal Cert.FfnRefIdeal.S32768x1024 .f32) (W : FVec Ideal Cert.FfnRefIdeal.S1024x5632 .f32)
    (U : FVec Ideal Cert.FfnRefIdeal.S2816x1024 .f32) : FVec Ideal Cert.FfnRefIdeal.S32768x1024 .f32 :=
  addf (mulf (broadcastInDim Cert.FfnRefIdeal.S32768x1024 ![] Cert.FfnRefIdeal.Gen.bcast_S_S32768x1024
      (constant Cert.FfnRefIdeal.S_ .f32 0x3FB504F3#32)) X)
    (Host.dotGeneral Cert.FfnRefIdeal.dot_S32768x2816_S2816x1024_S32768x1024_1_0_0_1_n_n none (HID X W) U)

/-- A gate times its logistic value, times the value to be gated. -/
def swiglu (g u : EReal) : EReal := g * Ideal.logistic g * u

/-- An entry of the hidden row of the input row `x`. -/
def hid (x : Fin 1024 → EReal) (W : FVec Ideal S1024x5632 .f32) (n : Fin 2816) : EReal :=
  swiglu (∑ k : Fin 1024, x k * W (ix2 k ⟨n.val, by omega⟩)) (∑ k : Fin 1024, x k * W (ix2 k ⟨2816 + n.val, by omega⟩))

/-- The reference's hidden entry is that one. -/
theorem HID_at (X : FVec Ideal S32768x1024 .f32) (W : FVec Ideal S1024x5632 .f32) (r : Fin 32768) (n : Fin 2816) :
    HID X W (ix2 r n) = hid (fun k => X (ix2 r k)) W n := by
  unfold hid swiglu
  pointwise [HID]
  rfl

/-- An entry of the sum before the layer norm, of the input row `x`. -/
def pre (x : Fin 1024 → EReal) (W : FVec Ideal S1024x5632 .f32) (U : FVec Ideal S2816x1024 .f32) (k : Fin 1024) : EReal :=
  Ideal.ofBits .f32 0x3FB504F3#32 * x k + ∑ j : Fin 2816, hid x W j * U (ix2 j k)

/-- The reference's entry is that one. -/
theorem PRE_at (X : FVec Ideal S32768x1024 .f32) (W : FVec Ideal S1024x5632 .f32) (U : FVec Ideal S2816x1024 .f32)
    (r : Fin 32768) (k : Fin 1024) : PRE X W U (ix2 r k) = pre (fun k => X (ix2 r k)) W U k := by
  unfold pre
  simp only [← HID_at]
  pointwise [PRE]

/-- Every window's block index at every point. -/
theorem idx_val : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![t.val, 0] :=
  (by decide +kernel : ∀ t : Fin grid0.N, _)

/-- The input, which is the residual also. -/
abbrev X (c : Dev nD) : FVec Ideal S32768x1024 .f32 := m ((c : Thread nD τ).loc main_arg0)
/-- The first weights. -/
abbrev W (c : Dev nD) : FVec Ideal S1024x5632 .f32 := m ((c : Thread nD τ).loc main_arg1)
/-- The second weights. -/
abbrev U (c : Dev nD) : FVec Ideal S2816x1024 .f32 := m ((c : Thread nD τ).loc main_arg2)
/-- The layer norm's gain. -/
abbrev G (c : Dev nD) : FVec Ideal S1024 .f32 := m ((c : Thread nD τ).loc main_arg3)
/-- The layer norm's offset. -/
abbrev B (c : Dev nD) : FVec Ideal S1024 .f32 := m ((c : Thread nD τ).loc main_arg4)

/-- The input's block at a point. -/
abbrev xb (c : Dev nD) (t : Fin cfg0.N) : FVec Ideal S512x1024 .f32 := iblk m c 0 t
/-- The first weights' block at a point. -/
abbrev wb (c : Dev nD) (t : Fin cfg0.N) : FVec Ideal S1024x5632 .bf16 := iblk m c 1 t

/-- A row of the input's block at point `t`. -/
theorem x_at (c : Dev nD) (t : Fin cfg0.N) (i : Fin 512) (k : Fin 1024) (r : Fin 32768) (h : t.val * 512 + i.val = r.val) :
    iblk m c 0 t (ix2 i k) = X m c (ix2 r k) := by
  blk_simp [iblk, idx_val t]
  blk_ext [idx_val t]

/-- The first weights' block is the whole of them. -/
theorem w_at (c : Dev nD) (t : Fin cfg0.N) (k : Fin 1024) (l : Fin 5632) :
    iblk m c 1 t (ix2 k l) = W m c (ix2 k l) := by
  blk_simp [iblk, idx_val t]
  entry_read
  pointwise
  blk_ext [idx_val t]

/-- The second weights' block is the whole of them. -/
theorem u_at (c : Dev nD) (t : Fin cfg0.N) (k : Fin 2816) (l : Fin 1024) :
    iblk m c 2 t (ix2 k l) = U m c (ix2 k l) := by
  blk_simp [iblk, idx_val t]
  entry_read
  pointwise
  blk_ext [idx_val t]

/-- The gain's block. -/
theorem g_at (c : Dev nD) (t : Fin cfg0.N) (k : Fin 1024) : iblk m c 3 t (ix2 0 k) = G m c (ix1 k) := by
  blk_simp [iblk, idx_val t]
  entry_read
  pointwise
  blk_ext [idx_val t]

/-- The offset's block. -/
theorem b_at (c : Dev nD) (t : Fin cfg0.N) (k : Fin 1024) : iblk m c 4 t (ix2 0 k) = B m c (ix1 k) := by
  blk_simp [iblk, idx_val t]
  entry_read
  pointwise
  blk_ext [idx_val t]

/-- The last payload on any blocks, one entry. -/
theorem pay_at (x : FVec Ideal S512x1024 .f32) (h : FVec Ideal S512x2816 .bf16) (u : FVec Ideal S2816x1024 .bf16)
    (g b : FVec Ideal S1x1024 .f32) (i : Fin 512) (n : Fin 1024) :
    (k0_pay17 (F := Ideal) x h u g b (ix2 i n) : EReal) = ln (fun k => Ideal.ofBits .f32 0x3FB504F3#32 * x (ix2 i k)
      + ∑ j : Fin 2816, (h (ix2 i j) : EReal) * u (ix2 j k)) (g (ix2 0 n)) (b (ix2 0 n)) n := by
  unfold ln mean
  pointwise [k0_pay17]

/-- The hidden entry from the blocks of point `t`. -/
theorem hid_at (c : Dev nD) (t : Fin cfg0.N) (i : Fin 512) (n : Fin 2816) (r : Fin 32768) (h : t.val * 512 + i.val = r.val) :
    swiglu (∑ k : Fin 1024, (xb m c t (ix2 i k) : EReal) * wb m c t (ix2 k ⟨n.val, by omega⟩))
      (∑ k : Fin 1024, (xb m c t (ix2 i k) : EReal) * wb m c t (ix2 k ⟨2816 + n.val, by omega⟩))
      = hid (fun k => X m c (ix2 r k)) (W m c) n := by
  unfold hid
  exact congrArg₂ swiglu
    (Fin.sum_fin_congr fun k => congrArg₂ (fun a b : EReal => a * b) (x_at m c t i k r h) (w_at m c t k _))
    (Fin.sum_fin_congr fun k => congrArg₂ (fun a b : EReal => a * b) (x_at m c t i k r h) (w_at m c t k _))

/-- The rows that a point stores. -/
theorem point_5 (c : Dev nD) (t : Fin cfg0.N) (i : Fin 512) (n : Fin 1024) (r : Fin 32768)
    (h : t.val * 512 + i.val = r.val) :
    outsAt0 m c t (ix2 i n)
      = ln (pre (fun k => X m c (ix2 r k)) (W m c) (U m c)) (G m c (ix1 n)) (B m c (ix1 n)) n := by
  unfold outsAt0
  frame_open
  simp (disch := decide) only [↓ View.readCov_skip, ↓ View.readCov_cons_toLoadRect, ↓ View.readCov_fill]
  frame_out
  refine (pay_at _ _ _ _ _ i n).trans ?_
  rw [g_at m c t n, b_at m c t n]
  refine congrArg (fun f : Fin 1024 → EReal => ln f _ _ n) (funext fun k => ?_)
  unfold pre
  refine congrArg₂ (fun a b : EReal => a + b) (congrArg (fun a : EReal => _ * a) (x_at m c t i k r h)) ?_
  refine Fin.sum_fin_congr fun j => congrArg₂ (fun a b : EReal => a * b) ?_ (u_at m c t j k)
  refine Eq.trans ?_ (hid_at m c t i j r h)
  rw [View.readCov_eq_canon']
  obtain ⟨y, hy, y0, y1⟩ : ∃ y : S512x2816.Idx, (Rect.unit (s := S512x2816) ![0, 0] ![512, 2816]
      inb_S512x2816_S512x2816_0_0).toLoadRect.idx (ix2 i j) = y ∧ (y 0 : ℕ) = i ∧ (y 1 : ℕ) = j :=
    ⟨_, rfl, by simp [LoadRect.idx], by simp [LoadRect.idx]⟩
  beta_reduce
  rw [hy]
  canon_tiles x hx
  all_goals
    open_payloads
    pointwise [swiglu]
    blk_point []

/-- The rows after the run are the reference's. -/
theorem final_5 (c : Dev nD) : (dats m 0 c).arrAt 5 cfg0.N
    = Cert.LayerNorm.norm (PRE (X m c) (W m c) (U m c)) (G m c) (B m c) := by
  refine (dats m 0 c).arrAt_eq_of_covers 5 _ (by decide +kernel) fun t hf y => ?_
  blk_simp
  rw [after0_5]
  idx_bounds
  rw [eq_ix2 y]
  refine (point_5 m c t (y 0) (y 1) ⟨t.val * 512 + (y 0 : ℕ), by omega⟩ rfl).trans ?_
  refine Eq.trans ?_ (show Cert.LayerNorm.norm (PRE (X m c) (W m c) (U m c)) (G m c) (B m c)
    (ix2 ⟨t.val * 512 + (y 0 : ℕ), by omega⟩ (y 1)) = _ by blk_ext [idx_val t])
  refine Eq.trans ?_ (Cert.LayerNorm.norm_at _ _ _ _ _).symm
  exact congrArg (fun f : Fin 1024 → EReal => ln f _ _ _) (funext fun k => (PRE_at _ _ _ _ k).symm)

end Cert.FfnIdeal.Value

end
-- ==== Proof.FfnSampValue.lean ====
/- The value of the feed-forward part over the decoding step: its 128 rows are one block, and its rows' definitions are the prompt's. -/
module

public import proofs.«01_k».proof.Proof.FfnValue
public import proofs.«01_k».proof.Proof.Gen.FfnSampIdeal.Value
public import proofs.«01_k».proof.Proof.Gen.FfnSampRefIdeal.Run
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.FfnSampIdeal.Value

open Cert.FfnSampIdeal Cert.FfnSampIdeal.Gen Cert.Common
open Cert.FfnIdeal.Value (swiglu hid pre)

variable (m : (ℓ : Loc nD τ sig) → Buf (Elt Ideal) ℓ)

section Reference

open Cert.FfnSampRefIdeal Cert.FfnSampRefIdeal.Gen

/-- The reference's product with the first weights: the gates, then the values to be gated. -/
abbrev UP (X : FVec Ideal S128x1024 .f32) (W : FVec Ideal S1024x5632 .f32) : FVec Ideal S128x5632 .f32 :=
  Host.dotGeneral dot_S128x1024_S1024x5632_S128x5632_1_0_0_1_n_n none X W

/-- The reference's gates. -/
abbrev GATE (X : FVec Ideal S128x1024 .f32) (W : FVec Ideal S1024x5632 .f32) : FVec Ideal S128x2816 .f32 :=
  extractStridedSlice S128x2816 ![0, 0] (UP X W) slices_S128x5632_S128x2816_0_0

/-- The reference's hidden array. -/
abbrev HID (X : FVec Ideal S128x1024 .f32) (W : FVec Ideal S1024x5632 .f32) : FVec Ideal S128x2816 .f32 :=
  mulf (mulf (GATE X W) (Host.divf
      (broadcastInDim S128x2816 ![] bcast_S_S128x2816 (constant S_ .f32 0x3F800000#32))
      (addf (broadcastInDim S128x2816 ![] bcast_S_S128x2816 (constant S_ .f32 0x3F800000#32))
        (Host.exp (Host.negf (GATE X W))))))
    (extractStridedSlice S128x2816 ![0, 2816] (UP X W) slices_S128x5632_S128x2816_0_2816)

/-- The reference's hidden entry is the prompt's, of its row. -/
theorem HID_at (X : FVec Ideal S128x1024 .f32) (W : FVec Ideal S1024x5632 .f32) (r : Fin 128) (n : Fin 2816) :
    HID X W (ix2 r n) = hid (fun k => X (ix2 r k)) W n := by
  unfold hid swiglu
  pointwise [HID]
  rfl

/-- The reference's sum of the residual and the second product, before the layer norm. -/
abbrev PRE (X : FVec Ideal S128x1024 .f32) (W : FVec Ideal S1024x5632 .f32) (U : FVec Ideal S2816x1024 .f32) :
    FVec Ideal S128x1024 .f32 :=
  addf (mulf (broadcastInDim S128x1024 ![] bcast_S_S128x1024 (constant S_ .f32 0x3FB504F3#32)) X)
    (Host.dotGeneral dot_S128x2816_S2816x1024_S128x1024_1_0_0_1_n_n none (HID X W) U)

/-- The reference's entry before the layer norm is the prompt's, of its row. -/
theorem PRE_at (X : FVec Ideal S128x1024 .f32) (W : FVec Ideal S1024x5632 .f32) (U : FVec Ideal S2816x1024 .f32)
    (r : Fin 128) (k : Fin 1024) : PRE X W U (ix2 r k) = pre (fun k => X (ix2 r k)) W U k := by
  unfold pre
  simp only [← HID_at]
  pointwise [PRE]

/-- The means of the rows of an array, one column. -/
abbrev means (T : FVec Ideal S128x1024 .f32) : FVec Ideal S128x1 .f32 :=
  Host.divf (broadcastInDim S128x1 ![0] bcast_S128_S128x1_0
    (Host.reduceAdd T (constant S_ .f32 0x00000000#32) reducesTo_S128x1024_S128_d1 h_S_))
    (broadcastInDim S128x1 ![] bcast_S_S128x1 (constant S_ .f32 0x44800000#32))

/-- An array less the means of its rows. -/
abbrev centred (T : FVec Ideal S128x1024 .f32) : FVec Ideal S128x1024 .f32 :=
  subf T (broadcastInDim S128x1024 ![0, 1] bcast_S128x1_S128x1024_0_1 (means T))

/-- The layer norm of the rows of an array. -/
abbrev norm (T : FVec Ideal S128x1024 .f32) (G B : FVec Ideal S1024 .f32) : FVec Ideal S128x1024 .f32 :=
  addf (mulf (mulf (centred T) (broadcastInDim S128x1024 ![0, 1] bcast_S128x1_S128x1024_0_1
      (Host.rsqrt (addf (means (mulf (centred T) (centred T)))
        (broadcastInDim S128x1 ![] bcast_S_S128x1 (constant S_ .f32 0x3727C5AC#32))))))
    (broadcastInDim S128x1024 ![0, 1] bcast_S1x1024_S128x1024_0_1 (broadcastInDim S1x1024 ![1] bcast_S1024_S1x1024_1 G)))
    (broadcastInDim S128x1024 ![0, 1] bcast_S1x1024_S128x1024_0_1 (broadcastInDim S1x1024 ![1] bcast_S1024_S1x1024_1 B))

/-- An entry of the layer norm. -/
theorem norm_at (T : FVec Ideal S128x1024 .f32) (G B : FVec Ideal S1024 .f32) (r : Fin 128) (n : Fin 1024) :
    norm T G B (ix2 r n) = ln (fun k => T (ix2 r k)) (G (ix1 n)) (B (ix1 n)) n := by
  unfold ln mean
  pointwise [norm]

end Reference

/-- Every window's block index at every point. -/
theorem idx_val : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] :=
  (by decide +kernel : ∀ t : Fin grid0.N, _)

/-- The input, which is the residual also. -/
abbrev X (c : Dev nD) : FVec Ideal S128x1024 .f32 := m ((c : Thread nD τ).loc main_arg0)
/-- The first weights. -/
abbrev W (c : Dev nD) : FVec Ideal S1024x5632 .f32 := m ((c : Thread nD τ).loc main_arg1)
/-- The second weights. -/
abbrev U (c : Dev nD) : FVec Ideal S2816x1024 .f32 := m ((c : Thread nD τ).loc main_arg2)
/-- The layer norm's gain. -/
abbrev G (c : Dev nD) : FVec Ideal S1024 .f32 := m ((c : Thread nD τ).loc main_arg3)
/-- The layer norm's offset. -/
abbrev B (c : Dev nD) : FVec Ideal S1024 .f32 := m ((c : Thread nD τ).loc main_arg4)

/-- The input's block at a point. -/
abbrev xb (c : Dev nD) (t : Fin cfg0.N) : FVec Ideal S128x1024 .f32 := iblk m c 0 t
/-- The first weights' block at a point. -/
abbrev wb (c : Dev nD) (t : Fin cfg0.N) : FVec Ideal S1024x5632 .bf16 := iblk m c 1 t

/-- A row of the input's block. -/
theorem x_at (c : Dev nD) (t : Fin cfg0.N) (i : Fin 128) (k : Fin 1024) :
    iblk m c 0 t (ix2 i k) = X m c (ix2 i k) := by
  blk_simp [iblk, idx_val t]
  blk_ext [idx_val t]

/-- The first weights' block is the whole of them. -/
theorem w_at (c : Dev nD) (t : Fin cfg0.N) (k : Fin 1024) (l : Fin 5632) :
    iblk m c 1 t (ix2 k l) = W m c (ix2 k l) := by
  blk_simp [iblk, idx_val t]
  entry_read
  pointwise
  blk_ext [idx_val t]

/-- The second weights' block is the whole of them. -/
theorem u_at (c : Dev nD) (t : Fin cfg0.N) (k : Fin 2816) (l : Fin 1024) :
    iblk m c 2 t (ix2 k l) = U m c (ix2 k l) := by
  blk_simp [iblk, idx_val t]
  entry_read
  pointwise
  blk_ext [idx_val t]

/-- The gain's block. -/
theorem g_at (c : Dev nD) (t : Fin cfg0.N) (k : Fin 1024) : iblk m c 3 t (ix2 0 k) = G m c (ix1 k) := by
  blk_simp [iblk, idx_val t]
  entry_read
  pointwise
  blk_ext [idx_val t]

/-- The offset's block. -/
theorem b_at (c : Dev nD) (t : Fin cfg0.N) (k : Fin 1024) : iblk m c 4 t (ix2 0 k) = B m c (ix1 k) := by
  blk_simp [iblk, idx_val t]
  entry_read
  pointwise
  blk_ext [idx_val t]

/-- The last payload on any blocks, one entry. -/
theorem pay_at (x : FVec Ideal S128x1024 .f32) (h : FVec Ideal S128x2816 .bf16) (u : FVec Ideal S2816x1024 .bf16)
    (g b : FVec Ideal S1x1024 .f32) (i : Fin 128) (n : Fin 1024) :
    (k0_pay17 (F := Ideal) x h u g b (ix2 i n) : EReal) = ln (fun k => Ideal.ofBits .f32 0x3FB504F3#32 * x (ix2 i k)
      + ∑ j : Fin 2816, (h (ix2 i j) : EReal) * u (ix2 j k)) (g (ix2 0 n)) (b (ix2 0 n)) n := by
  unfold ln mean
  pointwise [k0_pay17]

/-- The hidden entry from the blocks. -/
theorem hid_at (c : Dev nD) (t : Fin cfg0.N) (i : Fin 128) (n : Fin 2816) :
    swiglu (∑ k : Fin 1024, (xb m c t (ix2 i k) : EReal) * wb m c t (ix2 k ⟨n.val, by omega⟩))
      (∑ k : Fin 1024, (xb m c t (ix2 i k) : EReal) * wb m c t (ix2 k ⟨2816 + n.val, by omega⟩))
      = hid (fun k => X m c (ix2 i k)) (W m c) n := by
  unfold hid
  exact congrArg₂ swiglu
    (Fin.sum_fin_congr fun k => congrArg₂ (fun a b : EReal => a * b) (x_at m c t i k) (w_at m c t k _))
    (Fin.sum_fin_congr fun k => congrArg₂ (fun a b : EReal => a * b) (x_at m c t i k) (w_at m c t k _))

/-- The rows that a point stores. -/
theorem point_5 (c : Dev nD) (t : Fin cfg0.N) (i : Fin 128) (n : Fin 1024) :
    outsAt0 m c t (ix2 i n)
      = ln (pre (fun k => X m c (ix2 i k)) (W m c) (U m c)) (G m c (ix1 n)) (B m c (ix1 n)) n := by
  unfold outsAt0
  frame_open
  simp (disch := decide) only [↓ View.readCov_skip, ↓ View.readCov_cons_toLoadRect, ↓ View.readCov_fill]
  frame_out
  refine (pay_at _ _ _ _ _ i n).trans ?_
  rw [g_at m c t n, b_at m c t n]
  refine congrArg (fun f : Fin 1024 → EReal => ln f _ _ n) (funext fun k => ?_)
  unfold pre
  refine congrArg₂ (fun a b : EReal => a + b) (congrArg (fun a : EReal => _ * a) (x_at m c t i k)) ?_
  refine Fin.sum_fin_congr fun j => congrArg₂ (fun a b : EReal => a * b) ?_ (u_at m c t j k)
  refine Eq.trans ?_ (hid_at m c t i j)
  rw [View.readCov_eq_canon']
  obtain ⟨y, hy, y0, y1⟩ : ∃ y : S128x2816.Idx, (Rect.unit (s := S128x2816) ![0, 0] ![128, 2816]
      inb_S128x2816_S128x2816_0_0).toLoadRect.idx (ix2 i j) = y ∧ (y 0 : ℕ) = i ∧ (y 1 : ℕ) = j :=
    ⟨_, rfl, by simp [LoadRect.idx], by simp [LoadRect.idx]⟩
  beta_reduce
  rw [hy]
  canon_tiles x hx
  all_goals
    open_payloads
    pointwise [swiglu]
    blk_point []

/-- The rows after the run are the reference's. -/
theorem final_5 (c : Dev nD) : (dats m 0 c).arrAt 5 cfg0.N
    = norm (PRE (X m c) (W m c) (U m c)) (G m c) (B m c) := by
  refine (dats m 0 c).arrAt_eq_of_covers 5 _ (by decide +kernel) fun t hf y => ?_
  blk_simp
  rw [after0_5]
  idx_bounds
  rw [eq_ix2 y]
  refine (point_5 m c t (y 0) (y 1)).trans ?_
  refine Eq.trans ?_ (show norm (PRE (X m c) (W m c) (U m c)) (G m c) (B m c)
    (ix2 (y 0) (y 1)) = _ by blk_ext [idx_val t])
  refine Eq.trans ?_ (norm_at _ _ _ _ _).symm
  exact congrArg (fun f : Fin 1024 → EReal => ln f _ _ _) (funext fun k => (PRE_at _ _ _ _ k).symm)

end Cert.FfnSampIdeal.Value

end
-- ==== Proof.GlaValue.lean ====
/- The value of the gated linear attention's projections and log forget gates. -/
module

public import proofs.«01_k».proof.Proof.Common
public import proofs.«01_k».proof.Proof.Gen.GlaIdeal.Value
public import proofs.«01_k».proof.Proof.Gen.GlaRefIdeal.Run

@[expose] public section

set_option maxRecDepth 16384

noncomputable section

open Idealize.ShloMosaic Idealize.ShloMosaic.TcCoe Idealize.SL.Sem
open Idealize.ShloMosaic.Pipeline (Dat)
open scoped BigOperators

namespace Cert.GlaIdeal.Value

open Cert.GlaIdeal Cert.GlaIdeal.Gen Cert.Common

variable (m : (ℓ : Loc nD τ sig) → Buf (Elt Ideal) ℓ)

/-- The reference's whole product `x @ w_in`, before it is cut into five. -/
abbrev PROD (X : FVec Ideal Cert.GlaRefIdeal.S32768x1024 .f32) (W : FVec Ideal Cert.GlaRefIdeal.S1024x3088 .f32) :
    FVec Ideal Cert.GlaRefIdeal.S32768x3088 .f32 :=
  Host.dotGeneral Cert.GlaRefIdeal.dot_S32768x1024_S1024x3088_S32768x3088_1_0_0_1_n_n none X W

/-- The reference's queries, scaled. -/
abbrev REFq (X : FVec Ideal Cert.GlaRefIdeal.S32768x1024 .f32) (W : FVec Ideal Cert.GlaRefIdeal.S1024x3088 .f32) :
    FVec Ideal Cert.GlaRefIdeal.S32768x512 .f32 :=
  mulf (extractStridedSlice Cert.GlaRefIdeal.S32768x512 ![0, 0] (PROD X W)
      Cert.GlaRefIdeal.Gen.slices_S32768x3088_S32768x512_0_0)
    (broadcastInDim Cert.GlaRefIdeal.S32768x512 ![] Cert.GlaRefIdeal.Gen.bcast_S_S32768x512
      (constant Cert.GlaRefIdeal.S_ .f32 0x3DB504F3#32))

/-- The reference's keys. -/
abbrev REFk (X : FVec Ideal Cert.GlaRefIdeal.S32768x1024 .f32) (W : FVec Ideal Cert.GlaRefIdeal.S1024x3088 .f32) :
    FVec Ideal Cert.GlaRefIdeal.S32768x512 .f32 :=
  extractStridedSlice Cert.GlaRefIdeal.S32768x512 ![0, 512] (PROD X W)
    Cert.GlaRefIdeal.Gen.slices_S32768x3088_S32768x512_0_512

/-- The reference's values. -/
abbrev REFv (X : FVec Ideal Cert.GlaRefIdeal.S32768x1024 .f32) (W : FVec Ideal Cert.GlaRefIdeal.S1024x3088 .f32) :
    FVec Ideal Cert.GlaRefIdeal.S32768x1024 .f32 :=
  extractStridedSlice Cert.GlaRefIdeal.S32768x1024 ![0, 1024] (PROD X W)
    Cert.GlaRefIdeal.Gen.slices_S32768x3088_S32768x1024_0_1024

/-- The reference's output gates. -/
abbrev REFr (X : FVec Ideal Cert.GlaRefIdeal.S32768x1024 .f32) (W : FVec Ideal Cert.GlaRefIdeal.S1024x3088 .f32) :
    FVec Ideal Cert.GlaRefIdeal.S32768x1024 .f32 :=
  extractStridedSlice Cert.GlaRefIdeal.S32768x1024 ![0, 2048] (PROD X W)
    Cert.GlaRefIdeal.Gen.slices_S32768x3088_S32768x1024_0_2048

/-- The reference's forget logits, before the log of their sigmoid. -/
abbrev LOGIT (X : FVec Ideal Cert.GlaRefIdeal.S32768x1024 .f32) (W : FVec Ideal Cert.GlaRefIdeal.S1024x3088 .f32)
    (U : FVec Ideal Cert.GlaRefIdeal.S16x512 .f32) (B : FVec Ideal Cert.GlaRefIdeal.S512 .f32) :
    FVec Ideal Cert.GlaRefIdeal.S32768x512 .f32 :=
  addf (Host.dotGeneral Cert.GlaRefIdeal.dot_S32768x16_S16x512_S32768x512_1_0_0_1_n_n none
      (extractStridedSlice Cert.GlaRefIdeal.S32768x16 ![0, 3072] (PROD X W)
        Cert.GlaRefIdeal.Gen.slices_S32768x3088_S32768x16_0_3072) U)
    (broadcastInDim Cert.GlaRefIdeal.S32768x512 ![0, 1] Cert.GlaRefIdeal.Gen.bcast_S1x512_S32768x512_0_1
      (broadcastInDim Cert.GlaRefIdeal.S1x512 ![1] Cert.GlaRefIdeal.Gen.bcast_S512_S1x512_1 B))

/-- Zero in every entry. -/
abbrev ZERO : FVec Ideal Cert.GlaRefIdeal.S32768x512 .f32 :=
  broadcastInDim Cert.GlaRefIdeal.S32768x512 ![] Cert.GlaRefIdeal.Gen.bcast_S_S32768x512
    (constant Cert.GlaRefIdeal.S_ .f32 0x00000000#32)

/-- The reference's log of the sigmoid of an array, over 16: minus the log of the sum of the exponentials of 0 and of
    minus the array. -/
abbrev GATE (Z : FVec Ideal Cert.GlaRefIdeal.S32768x512 .f32) : FVec Ideal Cert.GlaRefIdeal.S32768x512 .f32 :=
  Host.divf (Host.negf (select (cmpf .une (subf (Host.negf Z) ZERO) (subf (Host.negf Z) ZERO))
      (addf (Host.negf Z) ZERO)
      (addf (maximumf (Host.negf Z) ZERO)
        (Host.log1p (Host.exp (Host.negf (Host.absf (subf (Host.negf Z) ZERO))))))))
    (broadcastInDim Cert.GlaRefIdeal.S32768x512 ![] Cert.GlaRefIdeal.Gen.bcast_S_S32768x512
      (constant Cert.GlaRefIdeal.S_ .f32 0x41800000#32))

/-- Every window's block index at every point. -/
theorem idx_val : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, _)

/-- The input. -/
abbrev X (c : Dev nD) : FVec Ideal S32768x1024 .f32 := m ((c : Thread nD τ).loc main_arg0)
/-- The weights. -/
abbrev W (c : Dev nD) : FVec Ideal S1024x3088 .f32 := m ((c : Thread nD τ).loc main_arg1)
/-- The gate's second weights. -/
abbrev U (c : Dev nD) : FVec Ideal S16x512 .f32 := m ((c : Thread nD τ).loc main_arg2)
/-- The gate's offset. -/
abbrev B (c : Dev nD) : FVec Ideal S512 .f32 := m ((c : Thread nD τ).loc main_arg3)

/-- The blocks of the arguments at a point. -/
abbrev xb (c : Dev nD) (t : Fin cfg0.N) : FVec Ideal S512x1024 .f32 := iblk m c 0 t
/-- The main weights' block. -/
abbrev wb (c : Dev nD) (t : Fin cfg0.N) : FVec Ideal S1024x3072 .bf16 := iblk m c 1 t

/-- A row of the input block at point `t` is a row of the input. -/
theorem x_at (c : Dev nD) (t : Fin cfg0.N) (i : Fin 512) (k : Fin 1024) (r : Fin 32768) (h : t.val * 512 + i.val = r.val) :
    iblk m c 0 t (ix2 i k) = X m c (ix2 r k) := by
  blk_simp [iblk, idx_val t]
  blk_ext [idx_val t]

/-- The four operands that the host prepares: the main weights, the gate's two padded weights, and its offset. -/
theorem host (c : Dev nD) : V m c main_v1 = truncf (F := Ideal) .bf16 (extractStridedSlice S1024x3072 ![0, 0] (W m c)
        slices_S1024x3088_S1024x3072_0_0) bitsLt_bf16_f32
    ∧ V m c main_v4 = truncf (F := Ideal) .bf16 (pad S1024x128 ![0, 0] ![0, 112] ![0, 0]
        (extractStridedSlice S1024x16 ![0, 3072] (W m c) slices_S1024x3088_S1024x16_0_3072)
        (sitofp (F := Ideal) .f32 (constantI S_ 32 0#32)) pads_S1024x16_S1024x128_000_01120 h_S_) bitsLt_bf16_f32
    ∧ V m c main_v6 = truncf (F := Ideal) .bf16 (pad S128x512 ![0, 0] ![112, 0] ![0, 0] (U m c)
        (sitofp (F := Ideal) .f32 (constantI S_ 32 0#32)) pads_S16x512_S128x512_01120_000 h_S_) bitsLt_bf16_f32
    ∧ V m c main_v7 = shapeCast S1x512 (B m c) shapeCasts_S512_S1x512 := by
  simp only [V, hostOps0, hostOps0_1, hostOps0_2, hostOps0_3, hostOps0_4, List.flatten_cons, List.flatten_nil,
    List.append_nil, List.cons_append, List.nil_append, StableHlo.TRef.unary, StableHlo.TRef.binary,
    StableHlo.TRef.toBuf, StableHlo.TRef.ofBuf, cast_eq]
  refine ⟨?_, ?_, ?_, ?_⟩ <;> after_results_simp
  rfl

/-- The main weights' block is the first 3072 columns of the weights. -/
theorem w_at (c : Dev nD) (t : Fin cfg0.N) (k : Fin 1024) (l : Fin 3072) :
    iblk m c 1 t (ix2 k l) = W m c (ix2 k ⟨l, by omega⟩) := by
  refine Eq.trans (show _ = V m c main_v1 (ix2 k l) by blk_simp [iblk, idx_val t]; blk_ext [idx_val t]) ?_
  rw [(host m c).1]
  pointwise
  blk_ext

/-- The gate's first weights: the last 16 columns of the weights, then zeros. -/
theorem low_at (c : Dev nD) (t : Fin cfg0.N) (k : Fin 1024) (l : Fin 128) (h : l.val < 16) :
    iblk m c 2 t (ix2 k l) = W m c (ix2 k ⟨3072 + l, by omega⟩) := by
  refine Eq.trans (show _ = V m c main_v4 (ix2 k l) by blk_simp [iblk, idx_val t]; blk_ext [idx_val t]) ?_
  rw [(host m c).2.1]
  pointwise
  exact dif_pos h

/-- The gate's second weights, followed by rows of zeros. -/
theorem up_at (c : Dev nD) (t : Fin cfg0.N) (k : Fin 128) (l : Fin 512) :
    iblk m c 3 t (ix2 k l) = if h : k.val < 16 then (U m c (ix2 ⟨k, h⟩ l) : EReal) else 0 := by
  refine Eq.trans (show _ = V m c main_v6 (ix2 k l) by blk_simp [iblk, idx_val t]; blk_ext [idx_val t]) ?_
  rw [(host m c).2.2.1]
  pointwise
  rw [show (FloatOps.sitofp FTy.f32 0#32 : Ideal .f32) = (0 : EReal) by simp [FloatOps.sitofp]]

/-- The offset's block. -/
theorem b_at (c : Dev nD) (t : Fin cfg0.N) (k : Fin 512) : iblk m c 4 t (ix2 0 k) = B m c (ix1 k) := by
  refine Eq.trans (show _ = V m c main_v7 (ix2 0 k) by blk_simp [iblk, idx_val t]; blk_ext [idx_val t]) ?_
  rw [(host m c).2.2.2]
  pointwise

/-- Column `l` of row `r` of the product. -/
def row (X : FVec Ideal S32768x1024 .f32) (W : FVec Ideal S1024x3088 .f32) (r : Fin 32768) (l : Fin 3088) : EReal :=
  ∑ k : Fin 1024, (X (ix2 r k) : EReal) * W (ix2 k l)

/-- The product of the blocks of point `t`, one entry. -/
theorem prod_at (c : Dev nD) (t : Fin cfg0.N) (i : Fin 512) (l : Fin 3072) (r : Fin 32768)
    (h : t.val * 512 + i.val = r.val) :
    (∑ k : Fin 1024, (xb m c t (ix2 i k) : EReal) * wb m c t (ix2 k l)) = row (X m c) (W m c) r ⟨l, by omega⟩ :=
  Fin.sum_fin_congr fun k => congrArg₂ (fun a b : EReal => a * b) (x_at m c t i k r h) (w_at m c t k l)

/-- The forget gate of a logit: the log of its sigmoid, over 16. -/
def gate (z : EReal) : EReal :=
  Ideal.div (min z 0 - Ideal.log (1 + Ideal.exp (0 - max z (-z)))) (Ideal.ofBits .f32 0x41800000#32)

/-- The gate's payload, one entry. -/
theorem pay_at (x : FVec Ideal S512x1024 .f32) (w : FVec Ideal S1024x128 .bf16) (u : FVec Ideal S128x512 .bf16)
    (b : FVec Ideal S1x512 .f32) (i : Fin 512) (n : Fin 512) :
    (k0_pay2 (F := Ideal) (k0_pay3 (F := Ideal) x) w u b (ix2 i n) : EReal) = gate ((∑ j : Fin 128,
      (∑ k : Fin 1024, (x (ix2 i k) : EReal) * w (ix2 k j)) * u (ix2 j n)) + b (ix2 0 n)) := by
  unfold gate
  pointwise [k0_pay2, k0_pay3]
  rfl

/-- The reference's gate is the same one: the smaller of a logit and 0 is minus the larger of their negations, and the
    distance of minus the logit from 0 is the logit's. -/
theorem GATE_at (Z : FVec Ideal Cert.GlaRefIdeal.S32768x512 .f32) (r : Fin 32768) (n : Fin 512) :
    GATE Z (ix2 r n) = gate (Z (ix2 r n)) := by
  unfold gate
  pointwise [GATE]
  refine congrArg (fun a : EReal => Ideal.div a _) ?_
  generalize (Z (ix2 r n) : EReal) = z
  rw [if_neg (not_not.mpr rfl)]
  show -(max (-z) 0 + Ideal.log (1 + Ideal.exp (-(max (-z) (- -z))))) = _
  rw [neg_neg, max_comm (-z) z, zero_sub]
  have hm : (0 : EReal) ≤ max (-z) 0 := le_max_right _ _
  have h1 : (0 : EReal) < 1 + Ideal.exp (-max z (-z)) := lt_of_lt_of_le zero_lt_one (le_add_of_nonneg_right (exp_nonneg _))
  rw [EReal.neg_add (Or.inl (ne_of_gt (lt_of_lt_of_le EReal.bot_lt_zero hm))) (Or.inr (log_ne_bot _ h1))]
  refine congrArg (fun a : EReal => a - _) ?_
  rcases le_total z 0 with h | h
  · rw [min_eq_left h, max_eq_left (by simpa using EReal.neg_le_neg_iff.mpr h), neg_neg]
  · rw [min_eq_right h, max_eq_right (by simpa using EReal.neg_le_neg_iff.mpr h), neg_zero]

/-- The reference's logit, one entry. -/
theorem LOGIT_at (X : FVec Ideal S32768x1024 .f32) (W : FVec Ideal S1024x3088 .f32) (U : FVec Ideal S16x512 .f32)
    (B : FVec Ideal S512 .f32) (r : Fin 32768) (n : Fin 512) :
    LOGIT X W U B (ix2 r n) = (∑ j : Fin 16, row X W r ⟨3072 + j, by omega⟩ * U (ix2 j n)) + B (ix1 n) := by
  unfold row
  pointwise [LOGIT]

/-- The queries that a point stores. -/
theorem point_5 (c : Dev nD) (t : Fin cfg0.N) (y) (r : Fin 32768) (h : t.val * 512 + (y 0 : ℕ) = r.val) (l : Fin 3072)
    (hl : (y 1 : ℕ) = l) :
    out0_5 (iblk m c 0 t) (iblk m c 1 t) (iblk m c 2 t) (iblk m c 3 t) (iblk m c 4 t) y
      = row (X m c) (W m c) r ⟨l, by omega⟩ * Ideal.ofBits .f32 0x3DB504F3#32 := by
  canon_tiles x hx
  all_goals
    open_payloads
    pointwise
    refine congrArg (fun a : EReal => a * _) ?_
    refine Eq.trans ?_ (prod_at m c t (x 0) l r (by omega))
    blk_point []

/-- The keys that a point stores. -/
theorem point_6 (c : Dev nD) (t : Fin cfg0.N) (y) (r : Fin 32768) (h : t.val * 512 + (y 0 : ℕ) = r.val) (l : Fin 3072)
    (hl : 512 + (y 1 : ℕ) = l) :
    out0_6 (iblk m c 0 t) (iblk m c 1 t) (iblk m c 2 t) (iblk m c 3 t) (iblk m c 4 t) y
      = row (X m c) (W m c) r ⟨l, by omega⟩ := by
  canon_tiles x hx
  all_goals
    open_payloads
    pointwise
    refine Eq.trans ?_ (prod_at m c t (x 0) l r (by omega))
    blk_point []

/-- The values that a point stores: two halves of 512 columns. -/
theorem point_7 (c : Dev nD) (t : Fin cfg0.N) (y) (r : Fin 32768) (h : t.val * 512 + (y 0 : ℕ) = r.val) (l : Fin 3072)
    (hl : 1024 + (y 1 : ℕ) = l) :
    out0_7 (iblk m c 0 t) (iblk m c 1 t) (iblk m c 2 t) (iblk m c 3 t) (iblk m c 4 t) y
      = row (X m c) (W m c) r ⟨l, by omega⟩ := by
  canon_tiles x hx
  all_goals
    open_payloads
    pointwise
    refine Eq.trans ?_ (prod_at m c t (x 0) l r (by omega))
    blk_point []

/-- The output gates that a point stores: two halves of 512 columns. -/
theorem point_8 (c : Dev nD) (t : Fin cfg0.N) (y) (r : Fin 32768) (h : t.val * 512 + (y 0 : ℕ) = r.val) (l : Fin 3072)
    (hl : 2048 + (y 1 : ℕ) = l) :
    out0_8 (iblk m c 0 t) (iblk m c 1 t) (iblk m c 2 t) (iblk m c 3 t) (iblk m c 4 t) y
      = row (X m c) (W m c) r ⟨l, by omega⟩ := by
  canon_tiles x hx
  all_goals
    open_payloads
    pointwise
    refine Eq.trans ?_ (prod_at m c t (x 0) l r (by omega))
    blk_point []

/-- A sum over 128 lanes, all but the first 16 of them zero. -/
theorem sum_lanes (f : Fin 128 → EReal) (h : ∀ j : Fin 128, 16 ≤ j.val → f j = 0) :
    ∑ j, f j = ∑ j : Fin 16, f ⟨j, by omega⟩ := by
  refine (Fin.sum_univ_add (a := 16) (b := 112) f).trans ?_
  rw [Finset.sum_eq_zero fun (j : Fin 112) _ => h (Fin.natAdd 16 j) (by simp), add_zero]
  rfl

/-- The forget gates that a point stores. -/
theorem point_9 (c : Dev nD) (t : Fin cfg0.N) (i n : Fin 512) (r : Fin 32768) (h : t.val * 512 + i.val = r.val) :
    out0_9 (iblk m c 0 t) (iblk m c 1 t) (iblk m c 2 t) (iblk m c 3 t) (iblk m c 4 t) (ix2 i n)
      = gate (LOGIT (X m c) (W m c) (U m c) (B m c) (ix2 r n)) := by
  unfold out0_9 k0_pay9 r0_0 r0_2 r0_10 r0_11 r0_12
  rw [View.canon_unit_zero (by decide), View.ld_unit_zero (by decide), View.ld_unit_zero (by decide),
    View.ld_unit_zero (by decide), View.ld_unit_zero (by decide)]
  refine (pay_at _ _ _ _ i n).trans (congrArg gate ?_)
  refine Eq.trans ?_ (LOGIT_at _ _ _ _ r n).symm
  rw [b_at m c t n]
  refine congrArg (fun a : EReal => a + _) ((sum_lanes _ fun j hj => ?_).trans ?_)
  · rw [up_at m c t j n, dif_neg (by omega)]
    exact mul_zero _
  · refine Fin.sum_fin_congr fun j => congrArg₂ (fun a b : EReal => a * b) ?_ ?_
    · exact Fin.sum_fin_congr fun k => congrArg₂ (fun a b : EReal => a * b) (x_at m c t i k r h) (low_at m c t k _ j.isLt)
    · exact (up_at m c t _ n).trans (dif_pos j.isLt)

/-- The queries after the run are the reference's. -/
theorem final_5 (c : Dev nD) : (dats m 0 c).arrAt 5 cfg0.N = REFq (X m c) (W m c) := by
  refine (dats m 0 c).arrAt_eq_of_covers 5 _ (by decide +kernel) fun t hf y => ?_
  blk_simp
  rw [after0_5]
  idx_bounds
  refine (point_5 m c t y ⟨t.val * 512 + (y 0 : ℕ), by omega⟩ rfl ⟨y 1, by omega⟩ rfl).trans ?_
  unfold row
  pointwise [REFq]
  blk_point [idx_val t]

/-- The keys after the run are the reference's. -/
theorem final_6 (c : Dev nD) : (dats m 0 c).arrAt 6 cfg0.N = REFk (X m c) (W m c) := by
  refine (dats m 0 c).arrAt_eq_of_covers 6 _ (by decide +kernel) fun t hf y => ?_
  blk_simp
  rw [after0_6]
  idx_bounds
  refine (point_6 m c t y ⟨t.val * 512 + (y 0 : ℕ), by omega⟩ rfl ⟨512 + y 1, by omega⟩ rfl).trans ?_
  unfold row
  pointwise [REFk]
  blk_point [idx_val t]

/-- The values after the run are the reference's. -/
theorem final_7 (c : Dev nD) : (dats m 0 c).arrAt 7 cfg0.N = REFv (X m c) (W m c) := by
  refine (dats m 0 c).arrAt_eq_of_covers 7 _ (by decide +kernel) fun t hf y => ?_
  blk_simp
  rw [after0_7]
  idx_bounds
  refine (point_7 m c t y ⟨t.val * 512 + (y 0 : ℕ), by omega⟩ rfl ⟨1024 + y 1, by omega⟩ rfl).trans ?_
  unfold row
  pointwise [REFv]
  blk_point [idx_val t]

/-- The output gates after the run are the reference's. -/
theorem final_8 (c : Dev nD) : (dats m 0 c).arrAt 8 cfg0.N = REFr (X m c) (W m c) := by
  refine (dats m 0 c).arrAt_eq_of_covers 8 _ (by decide +kernel) fun t hf y => ?_
  blk_simp
  rw [after0_8]
  idx_bounds
  refine (point_8 m c t y ⟨t.val * 512 + (y 0 : ℕ), by omega⟩ rfl ⟨2048 + y 1, by omega⟩ rfl).trans ?_
  unfold row
  pointwise [REFr]
  blk_point [idx_val t]

/-- The forget gates after the run are the reference's. -/
theorem final_9 (c : Dev nD) : (dats m 0 c).arrAt 9 cfg0.N = GATE (LOGIT (X m c) (W m c) (U m c) (B m c)) := by
  refine (dats m 0 c).arrAt_eq_of_covers 9 _ (by decide +kernel) fun t hf y => ?_
  blk_simp
  rw [after0_9]
  idx_bounds
  rw [eq_ix2 y]
  refine (point_9 m c t (y 0) (y 1) ⟨t.val * 512 + (y 0 : ℕ), by omega⟩ rfl).trans ?_
  refine Eq.trans ?_ (show GATE (LOGIT (X m c) (W m c) (U m c) (B m c))
    (ix2 ⟨t.val * 512 + (y 0 : ℕ), by omega⟩ (y 1)) = _ by blk_ext [idx_val t])
  exact (GATE_at _ _ _).symm

end Cert.GlaIdeal.Value

end
-- ==== Proof.AttnPoint.lean ====
module

public import proofs.«01_k».proof.Proof.Common
public import proofs.«01_k».proof.Proof.Gen.AttnIdeal.Value
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)
open scoped BigOperators

namespace Cert.AttnIdeal.Value

open Cert.AttnIdeal Cert.AttnIdeal.Gen Cert.Common

variable (m : (ℓ : Loc nD τ sig) → Buf (Elt Ideal) ℓ)

/-- The softmax of scores `s` averaging `v`: the weighted sum first, the division after it. -/
def soft {n : ℕ} (s v : Fin n → EReal) : EReal :=
  Ideal.div (∑ j, Ideal.exp (s j - Finset.univ.fold max (Ideal.ofBits .f32 4286578688#32) s) * v j)
    (∑ j, Ideal.exp (s j - Finset.univ.fold max (Ideal.ofBits .f32 4286578688#32) s))

/-- The kernel's validity bit of key `x` in chunk `k` of tile `w`. -/
def ok (w : BitVec 32) (k : Fin k0_t1_loop.trips) (x : Fin 576) : BitVec 1 :=
  IntOp.cmpi .sge (IntOp.addi (Scalar.addi (Scalar.muli (Scalar.subi w 2#32) 256#32)
    (Scalar.muli (Scf.iv 0#32 1#32 ↑k) 64#32)) (BitVec.ofNat 32 (x : ℕ))) 0#32

/-- Whether lane `l` belongs to the first head of a pair. -/
def low (l : Fin 128) : BitVec 1 := IntOp.cmpi .slt (BitVec.ofNat 32 (l : ℕ)) 64#32

/-- The kernel's masked scores of one head of a pair, over all 128 lanes. -/
def lanes (w : BitVec 32) (k : Fin k0_t1_loop.trips) (hd : Fin 128 → BitVec 1) (q : FVec Ideal S1x64x128 .bf16)
    (kk : FVec Ideal S576x128 .bf16) (b : FVec Ideal S1x64x576 .f32) (i : Fin 64) (x : Fin 576) : EReal :=
  Scalar.select (ok w k x)
    (∑ l : Fin 128, Scalar.select (hd l) ((q (ix3 0 i l) : EReal) * kk (ix2 x l)) (0 : EReal) + b (ix3 0 i x))
    (Named.named (F := Ideal) κ "mask" (φ := .f32) 4048155338#32 : EReal)

/-- What the kernel stores for one pair of heads in one chunk. -/
def pair (w : BitVec 32) (k : Fin k0_t1_loop.trips) (q : FVec Ideal S1x64x128 .bf16) (kk vv : FVec Ideal S576x128 .bf16)
    (b0 b1 : FVec Ideal S1x64x576 .f32) (i : Fin 64) (d : Fin 128) : EReal :=
  Scalar.select (low d) (soft (lanes w k low q kk b0 i) fun x => vv (ix2 x d))
    (soft (lanes w k (fun l => IntOp.xori (low l) 1#1) q kk b1 i) fun x => vv (ix2 x d))

theorem trips_eq : k0_t1_loop.trips = 4 := by decide +kernel

theorem low_eq : ∀ l : Fin 128, low l = if l.val < 64 then 1#1 else 0#1 := by decide +kernel

theorem high_eq : ∀ l : Fin 128, IntOp.xori (low l) 1#1 = if l.val < 64 then 0#1 else 1#1 := by decide +kernel

theorem ok_eq (T : ℕ) (hT : T < 64) (k : Fin k0_t1_loop.trips) (x : Fin 576) :
    ok (BitVec.ofNat 32 T) k x = if 512 ≤ T * 256 + 64 * k.val + x.val then 1#1 else 0#1 := by
  have hk : k.val < 4 := trips_eq ▸ k.isLt
  have hx := x.isLt
  have e : IntOp.addi (Scalar.addi (Scalar.muli (Scalar.subi (BitVec.ofNat 32 T) 2#32) 256#32)
      (Scalar.muli (Scf.iv 0#32 1#32 ↑k) 64#32)) (BitVec.ofNat 32 (x : ℕ)) = BitVec.ofNat 32 (T * 256 + 64 * k.val + x.val + 4294966784) := by
    apply BitVec.eq_of_toNat_eq
    simp [IntOp.addi, Scalar.addi, Scalar.muli, Scalar.subi, IntOp.muli, IntOp.subi, Scf.iv]
    omega
  have hz : 0 ≤ (BitVec.ofNat 32 (T * 256 + 64 * k.val + x.val + 4294966784)).toInt ↔ 512 ≤ T * 256 + 64 * k.val + x.val := by
    rw [BitVec.toInt_eq_toNat_cond, BitVec.toNat_ofNat]
    split <;> omega
  unfold ok
  rw [e]
  split <;> rename_i h
  · simp [IntOp.cmpi, BitVec.sle, hz.mpr h]
  · simp only [IntOp.cmpi, BitVec.sle, BitVec.toInt_zero, mt hz.mp h, decide_false]; rfl

/-- A sum over the lanes of one head is a sum over its 64 entries. -/
theorem sum_low (f : Fin 128 → EReal) :
    ∑ l, Scalar.select (low l) (f l) 0 = ∑ d : Fin 64, f ⟨64 * 0 + d.val, by omega⟩ := by
  rw [Fin.sum_univ_add (a := 64) (b := 64)]
  simp [low_eq, Scalar.select]
  rfl

theorem sum_high (f : Fin 128 → EReal) :
    ∑ l, Scalar.select (IntOp.xori (low l) 1#1) (f l) 0 = ∑ d : Fin 64, f ⟨64 * 1 + d.val, by omega⟩ := by
  rw [Fin.sum_univ_add (a := 64) (b := 64)]
  simp [high_eq, Scalar.select]
  rfl

theorem mask_bot : (Named.named (F := Ideal) κ "mask" (φ := .f32) 4048155338#32 : EReal) = ⊥ :=
  IdealRules.named_const.ideal_named_scalar κ "mask" _ _ rfl

/-- Entry `(r, n)` of the block a grid point of tile `T` writes, its queries being `Q`, its gathered keys and values
    `K` and `V` and its bias `B`. -/
def out (T : ℕ) (Q : Fin 256 → Fin 1024 → EReal) (K V : Fin 768 → Fin 1024 → EReal) (B : Fin 16 → Fin 64 → Fin 576 → EReal)
    (r : Fin 256) (n : Fin 1024) : EReal :=
  soft (fun j => if 512 ≤ T * 256 + r.val / 64 * 64 + j.val then
      (∑ d : Fin 64, Q r ⟨n.val / 64 * 64 + d.val, by omega⟩ * K ⟨r.val / 64 * 64 + j.val, by omega⟩ ⟨n.val / 64 * 64 + d.val, by omega⟩)
      + B ⟨n.val / 64, by omega⟩ ⟨r.val % 64, by omega⟩ j else ⊥)
    (fun j => V ⟨r.val / 64 * 64 + j.val, by omega⟩ n)

/-- One head's scores: head `hi` of pair `p`. -/
theorem lanes_eq (T : ℕ) (hT : T < 64) (k : Fin k0_t1_loop.trips) (p : ℕ) (hp : p < 8) (hi : ℕ) (h2 : hi < 2)
    (hd : Fin 128 → BitVec 1)
    (hs : ∀ f : Fin 128 → EReal, ∑ l, Scalar.select (hd l) (f l) 0 = ∑ d : Fin 64, f ⟨64 * hi + d.val, by omega⟩)
    (Q : Fin 256 → Fin 1024 → EReal) (K : Fin 768 → Fin 1024 → EReal) (B : Fin 16 → Fin 64 → Fin 576 → EReal)
    (q : FVec Ideal S1x64x128 .bf16) (kk : FVec Ideal S576x128 .bf16) (b : FVec Ideal S1x64x576 .f32)
    (i : Fin 64) (r : Fin 256) (n : Fin 1024) (hr : r.val = 64 * k.val + i.val) (hn : n.val / 64 = 2 * p + hi)
    (hq : ∀ l : Fin 128, q (ix3 0 i l) = Q r ⟨128 * p + l.val, by omega⟩)
    (hk : ∀ (j : Fin 576) (l : Fin 128), kk (ix2 j l) = K ⟨r.val / 64 * 64 + j.val, by omega⟩ ⟨128 * p + l.val, by omega⟩)
    (hb : ∀ j : Fin 576, b (ix3 0 i j) = B ⟨2 * p + hi, by omega⟩ i j) (j : Fin 576) :
    lanes (BitVec.ofNat 32 T) k hd q kk b i j = if 512 ≤ T * 256 + r.val / 64 * 64 + j.val then
      (∑ d : Fin 64, Q r ⟨n.val / 64 * 64 + d.val, by omega⟩ * K ⟨r.val / 64 * 64 + j.val, by omega⟩ ⟨n.val / 64 * 64 + d.val, by omega⟩)
      + B ⟨n.val / 64, by omega⟩ ⟨r.val % 64, by omega⟩ j else ⊥ := by
  have hk4 : k.val < 4 := trips_eq ▸ k.isLt
  have ei : (⟨r.val % 64, by omega⟩ : Fin 64) = i := Fin.ext (by show r.val % 64 = i.val; omega)
  have er : r.val / 64 * 64 = 64 * k.val := by omega
  have e (d : Fin 64) : (⟨128 * p + (64 * hi + d.val), by omega⟩ : Fin 1024) = ⟨n.val / 64 * 64 + d.val, by omega⟩ :=
    Fin.ext (by show 128 * p + (64 * hi + d.val) = n.val / 64 * 64 + d.val; omega)
  have eb : (⟨2 * p + hi, by omega⟩ : Fin 16) = ⟨n.val / 64, by omega⟩ := Fin.ext hn.symm
  unfold lanes
  rw [hs, ok_eq T hT, ← er, mask_bot, hb, ei, eb]
  simp only [hq, hk, e]
  split <;> rfl

/-- A pair's payload is two heads of the block. -/
theorem pair_eq (T : ℕ) (hT : T < 64) (k : Fin k0_t1_loop.trips) (p : ℕ) (hp : p < 8)
    (Q : Fin 256 → Fin 1024 → EReal) (K V : Fin 768 → Fin 1024 → EReal) (B : Fin 16 → Fin 64 → Fin 576 → EReal)
    (q : FVec Ideal S1x64x128 .bf16) (kk vv : FVec Ideal S576x128 .bf16) (b0 b1 : FVec Ideal S1x64x576 .f32)
    (i : Fin 64) (d : Fin 128) (r : Fin 256) (n : Fin 1024) (hr : r.val = 64 * k.val + i.val) (hn : n.val = 128 * p + d.val)
    (hq : ∀ l : Fin 128, q (ix3 0 i l) = Q r ⟨128 * p + l.val, by omega⟩)
    (hk : ∀ (j : Fin 576) (l : Fin 128), kk (ix2 j l) = K ⟨r.val / 64 * 64 + j.val, by omega⟩ ⟨128 * p + l.val, by omega⟩)
    (hv : ∀ (j : Fin 576) (l : Fin 128), vv (ix2 j l) = V ⟨r.val / 64 * 64 + j.val, by omega⟩ ⟨128 * p + l.val, by omega⟩)
    (hb0 : ∀ j : Fin 576, b0 (ix3 0 i j) = B ⟨2 * p + 0, by omega⟩ i j)
    (hb1 : ∀ j : Fin 576, b1 (ix3 0 i j) = B ⟨2 * p + 1, by omega⟩ i j) :
    pair (BitVec.ofNat 32 T) k q kk vv b0 b1 i d = out T Q K V B r n := by
  have en : (⟨128 * p + d.val, by omega⟩ : Fin 1024) = n := Fin.ext hn.symm
  unfold pair out
  rw [low_eq]
  split <;> rename_i hd <;> simp only [hv, en]
  · rw [show (lanes (BitVec.ofNat 32 T) k low q kk b0 i) = _ from
      funext (lanes_eq T hT k p hp 0 (by decide) low sum_low Q K B q kk b0 i r n hr (by omega) hq hk hb0)]
    rfl
  · rw [show (lanes (BitVec.ofNat 32 T) k (fun l => IntOp.xori (low l) 1#1) q kk b1 i) = _ from
      funext (lanes_eq T hT k p hp 1 (by decide) _ sum_high Q K B q kk b1 i r n hr (by omega) hq hk hb1)]
    rfl

/-- The queries, the gathered keys and values and the bias of one grid point, by coordinates. -/
abbrev qOf (c : Dev nD) (t : Fin cfg0.N) (r : Fin 256) (n : Fin 1024) : EReal := iblk m c 0 t (ix3 0 r n)
abbrev bOf (c : Dev nD) (t : Fin cfg0.N) (h : Fin 16) (i : Fin 64) (j : Fin 576) : EReal := iblk m c 7 t (ix3 h i j)
abbrev byRow (K : S768x1024.Idx → EReal) (r : Fin 768) (n : Fin 1024) : EReal := K (ix2 r n)

/-- An index is told by its coordinates. -/
theorem at2 {a b : ℕ} (u : (⟨2, ![a, b]⟩ : Shape).Idx) (i : Fin a) (j : Fin b) (h0 : (u 0).val = i.val) (h1 : (u 1).val = j.val) :
    u = ix2 i j := by
  rw [eq_ix2 u, Fin.ext h0, Fin.ext h1]
theorem at3 {a b c : ℕ} (u : (⟨3, ![a, b, c]⟩ : Shape).Idx) (i : Fin a) (j : Fin b) (l : Fin c) (h0 : (u 0).val = i.val)
    (h1 : (u 1).val = j.val) (h2 : (u 2).val = l.val) : u = ix3 i j l := by
  rw [eq_ix3 u, Fin.ext h0, Fin.ext h1, Fin.ext h2]

theorem tile_val : ∀ t : Fin cfg0.N, (grid0.coords t 1 : ℕ) = t.val % 64 := by decide +kernel

/-- One pair's payload is its part of the block, the loads at the pair's offsets. -/
theorem block (c : Dev nD) (t : Fin cfg0.N) (K V : S768x1024.Idx → EReal) (k : Fin k0_t1_loop.trips) (p : ℕ) (hp : p < 8)
    (oq : Fin 3 → ℕ) (ok : Fin 2 → ℕ) (o0 o1 : Fin 3 → ℕ)
    (hoq : ∀ a, oq a + S1x64x128.size a ≤ S1x256x1024.size a) (hok : ∀ a, ok a + S576x128.size a ≤ S768x1024.size a)
    (ho0 : ∀ a, o0 a + S1x64x576.size a ≤ S16x64x576.size a) (ho1 : ∀ a, o1 a + S1x64x576.size a ≤ S16x64x576.size a)
    (eq : oq = ![0, 64 * k.val, 128 * p]) (ek : ok = ![64 * k.val, 128 * p]) (e0 : o0 = ![2 * p + 0, 0, 0]) (e1 : o1 = ![2 * p + 1, 0, 0])
    (x : S1x64x128.Idx) (y : S1x256x1024.Idx) (hy : y = (Rect.unit (s := S1x256x1024) oq S1x64x128.size hoq).emb x) :
    pair (BitVec.ofNat 32 (grid0.coords t 1 : ℕ)) k
      (View.readAt (Elt Ideal) (ms0_0 t).view (Rect.unit (s := S1x256x1024) oq S1x64x128.size hoq).toLoadRect ((hs0_0 t).unread (iblk m c 0 t)))
      (View.readAt (Elt Ideal) scM0_0.view (Rect.unit (s := S768x1024) ok S576x128.size hok).toLoadRect K)
      (View.readAt (Elt Ideal) scM0_1.view (Rect.unit (s := S768x1024) ok S576x128.size hok).toLoadRect V)
      (View.readAt (Elt Ideal) (ms0_7 t).view (Rect.unit (s := S16x64x576) o0 S1x64x576.size ho0).toLoadRect ((hs0_7 t).unread (iblk m c 7 t)))
      (View.readAt (Elt Ideal) (ms0_7 t).view (Rect.unit (s := S16x64x576) o1 S1x64x576.size ho1).toLoadRect ((hs0_7 t).unread (iblk m c 7 t)))
      (x 1) (x 2)
      = out (t.val % 64) (qOf m c t) (byRow K) (byRow V) (bOf m c t) (y 1) (y 2) := by
  subst eq ek e0 e1 hy
  have hk4 : k.val < 4 := trips_eq ▸ k.isLt
  have h1 : (x 1).val < 64 := (x 1).isLt
  have h2 : (x 2).val < 128 := (x 2).isLt
  have et : (grid0.coords t 1 : ℕ) = t.val % 64 := tile_val t
  rw [et]
  refine pair_eq (t.val % 64) (by omega) k p hp _ _ _ _ _ _ _ _ _ _ _ _ _ ?_ ?_ ?_ ?_ ?_ ?_ ?_
  · show 64 * k.val + 1 * (x 1).val = _; omega
  · show 128 * p + 1 * (x 2).val = _; omega
  · intro l
    refine (congrFun ((hs0_0 t).read_unread _) _).trans (congrArg (iblk m c 0 t) (at3 _ _ _ _ ?_ ?_ ?_))
    · rfl
    · show 64 * k.val + 1 * (x 1).val = 64 * k.val + 1 * (x 1).val; rfl
    · show 128 * p + 1 * l.val = 128 * p + l.val; omega
  · intro j l
    refine congrArg K (at2 _ _ _ ?_ ?_)
    · show 64 * k.val + 1 * j.val = (64 * k.val + 1 * (x 1).val) / 64 * 64 + j.val; omega
    · show 128 * p + 1 * l.val = 128 * p + l.val; omega
  · intro j l
    refine congrArg V (at2 _ _ _ ?_ ?_)
    · show 64 * k.val + 1 * j.val = (64 * k.val + 1 * (x 1).val) / 64 * 64 + j.val; omega
    · show 128 * p + 1 * l.val = 128 * p + l.val; omega
  all_goals
    intro j
    refine (congrFun ((hs0_7 t).read_unread _) _).trans (congrArg (iblk m c 7 t) (at3 _ _ _ _ ?_ ?_ ?_))
    · rfl
    · show 0 + 1 * (x 1).val = (x 1).val; omega
    · show 0 + 1 * j.val = j.val; omega

/-- The offsets of pair `p` at trip `k`, in the query block and in the gathered keys and values. -/
def qAt : Fin 8 → Fin k0_t1_loop.trips → Fin 3 → ℕ :=
  ![k0_off1, k0_off3, k0_off5, k0_off7, k0_off9, k0_off11, k0_off13, k0_off15]
def kAt : Fin 8 → Fin k0_t1_loop.trips → Fin 2 → ℕ :=
  ![k0_off2, k0_off4, k0_off6, k0_off8, k0_off10, k0_off12, k0_off14, k0_off16]
theorem qAt_eq : ∀ p k, qAt p k = ![0, 64 * k.val, 128 * p.val] := by decide +kernel
theorem kAt_eq : ∀ p k, kAt p k = ![64 * k.val, 128 * p.val] := by decide +kernel

/-- The last reshape of pair 4's payload. -/
theorem pay24_at (v : FVec Ideal S64x128 .bf16) (a : Fin 1) (i : Fin 64) (d : Fin 128) :
    (k0_pay24 (F := Ideal) v (ix3 a i d) : EReal) = v (ix2 i d) := by
  pointwise [k0_pay24]

theorem tripPieces (c : Dev nD) (t : Fin 128) (K V : S768x1024.Idx → EReal) (k : Fin k0_t1_loop.trips) :
    View.PiecesOf (Val := Elt Ideal) (e := .bf16) (fun y => out (t.val % 64) (qOf m c t) (byRow K) (byRow V) (bOf m c t) (y 1) (y 2))
      (tripL_k0_t1 (F := Ideal) Variants.none c none (grid0.coords t) (ms0_0 t) (hs0_0 t)
      (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) scM0_0 (Memref.isWhole_whole _) scM0_1 (Memref.isWhole_whole _)
      (BitVec.ofNat 32 (grid0.coords t 1 : ℕ)) (iota Kind.tc S1x576 32 [1] iota_S1x576_d1_w32)
      ((hs0_0 t).unread (iblk m c 0 t)) ((hs0_7 t).unread (iblk m c 7 t)) K V k) := by
  unfold tripL_k0_t1 trip_k0_t1
  frame_open
  refine ⟨fun x => ?_, fun x => ?_, fun x => ?_, fun x => ?_, fun x => ?_, fun x => ?_, fun x => ?_, fun x => ?_, trivial⟩
  case refine_8 =>
    refine Eq.trans ?_ (block m c t K V k 0 (by decide) (k0_off1 k) (k0_off2 k) ![0, 0, 0] ![1, 0, 0]
      (k0_off1_inb k) (k0_off2_inb k) inb_S16x64x576_S1x64x576_0_0_0 inb_S16x64x576_S1x64x576_1_0_0 (qAt_eq 0 k) (kAt_eq 0 k) rfl rfl x _ rfl)
    obtain ⟨a, i, d, rfl⟩ : ∃ a i d, x = ix3 a i d := ⟨_, _, _, eq_ix3 x⟩
    pointwise [k0_pay2, k0_pay4, k0_pay8, k0_pay5, k0_pay6, k0_pay7]
    rfl
  case refine_7 =>
    refine Eq.trans ?_ (block m c t K V k 1 (by decide) (k0_off3 k) (k0_off4 k) ![2, 0, 0] ![3, 0, 0]
      (k0_off3_inb k) (k0_off4_inb k) inb_S16x64x576_S1x64x576_2_0_0 inb_S16x64x576_S1x64x576_3_0_0 (qAt_eq 1 k) (kAt_eq 1 k) rfl rfl x _ rfl)
    obtain ⟨a, i, d, rfl⟩ : ∃ a i d, x = ix3 a i d := ⟨_, _, _, eq_ix3 x⟩
    pointwise [k0_pay2, k0_pay4, k0_pay11, k0_pay9, k0_pay10]
    rfl
  case refine_6 =>
    refine Eq.trans ?_ (block m c t K V k 2 (by decide) (k0_off5 k) (k0_off6 k) ![4, 0, 0] ![5, 0, 0]
      (k0_off5_inb k) (k0_off6_inb k) inb_S16x64x576_S1x64x576_4_0_0 inb_S16x64x576_S1x64x576_5_0_0 (qAt_eq 2 k) (kAt_eq 2 k) rfl rfl x _ rfl)
    obtain ⟨a, i, d, rfl⟩ : ∃ a i d, x = ix3 a i d := ⟨_, _, _, eq_ix3 x⟩
    pointwise [k0_pay2, k0_pay4, k0_pay15, k0_pay12, k0_pay13, k0_pay14]
    rfl
  case refine_5 =>
    refine Eq.trans ?_ (block m c t K V k 3 (by decide) (k0_off7 k) (k0_off8 k) ![6, 0, 0] ![7, 0, 0]
      (k0_off7_inb k) (k0_off8_inb k) inb_S16x64x576_S1x64x576_6_0_0 inb_S16x64x576_S1x64x576_7_0_0 (qAt_eq 3 k) (kAt_eq 3 k) rfl rfl x _ rfl)
    obtain ⟨a, i, d, rfl⟩ : ∃ a i d, x = ix3 a i d := ⟨_, _, _, eq_ix3 x⟩
    pointwise [k0_pay2, k0_pay4, k0_pay20, k0_pay16, k0_pay17, k0_pay18, k0_pay19]
    rfl
  case refine_4 =>
    refine Eq.trans ?_ (block m c t K V k 4 (by decide) (k0_off9 k) (k0_off10 k) ![8, 0, 0] ![9, 0, 0]
      (k0_off9_inb k) (k0_off10_inb k) inb_S16x64x576_S1x64x576_8_0_0 inb_S16x64x576_S1x64x576_9_0_0 (qAt_eq 4 k) (kAt_eq 4 k) rfl rfl x _ rfl)
    obtain ⟨a, i, d, rfl⟩ : ∃ a i d, x = ix3 a i d := ⟨_, _, _, eq_ix3 x⟩
    dsimp only
    rw [pay24_at]
    pointwise [k0_pay2, k0_pay4, k0_pay21, k0_pay22, k0_pay23]
    rfl
  case refine_3 =>
    refine Eq.trans ?_ (block m c t K V k 5 (by decide) (k0_off11 k) (k0_off12 k) ![10, 0, 0] ![11, 0, 0]
      (k0_off11_inb k) (k0_off12_inb k) inb_S16x64x576_S1x64x576_10_0_0 inb_S16x64x576_S1x64x576_11_0_0 (qAt_eq 5 k) (kAt_eq 5 k) rfl rfl x _ rfl)
    obtain ⟨a, i, d, rfl⟩ : ∃ a i d, x = ix3 a i d := ⟨_, _, _, eq_ix3 x⟩
    pointwise [k0_pay2, k0_pay4, k0_pay28, k0_pay25, k0_pay26, k0_pay27]
    rfl
  case refine_2 =>
    refine Eq.trans ?_ (block m c t K V k 6 (by decide) (k0_off13 k) (k0_off14 k) ![12, 0, 0] ![13, 0, 0]
      (k0_off13_inb k) (k0_off14_inb k) inb_S16x64x576_S1x64x576_12_0_0 inb_S16x64x576_S1x64x576_13_0_0 (qAt_eq 6 k) (kAt_eq 6 k) rfl rfl x _ rfl)
    obtain ⟨a, i, d, rfl⟩ : ∃ a i d, x = ix3 a i d := ⟨_, _, _, eq_ix3 x⟩
    pointwise [k0_pay2, k0_pay4, k0_pay31, k0_pay29, k0_pay30]
    rfl
  case refine_1 =>
    refine Eq.trans ?_ (block m c t K V k 7 (by decide) (k0_off15 k) (k0_off16 k) ![14, 0, 0] ![15, 0, 0]
      (k0_off15_inb k) (k0_off16_inb k) inb_S16x64x576_S1x64x576_14_0_0 inb_S16x64x576_S1x64x576_15_0_0 (qAt_eq 7 k) (kAt_eq 7 k) rfl rfl x _ rfl)
    obtain ⟨a, i, d, rfl⟩ : ∃ a i d, x = ix3 a i d := ⟨_, _, _, eq_ix3 x⟩
    pointwise [k0_pay2, k0_pay4, k0_pay3, k0_pay32, k0_pay33, k0_pay34, k0_pay35, k0_pay36]
    rfl

/-- All the pieces that the four trips store at grid point `t`, the gathered keys and values being `K` and `V`. -/
abbrev pb (c : Dev nD) (t : Fin cfg0.N) (K V : S768x1024.Idx → EReal) (n : ℕ) : List (View.Piece (Elt Ideal) S1x256x1024 .bf16) :=
  pb_k0_t1 (F := Ideal) Variants.none c none (grid0.coords t) (ms0_0 t) (hs0_0 t)
      (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) scM0_0 (Memref.isWhole_whole _) scM0_1 (Memref.isWhole_whole _)
      (BitVec.ofNat 32 (grid0.coords t 1 : ℕ)) (iota Kind.tc S1x576 32 [1] iota_S1x576_d1_w32)
      ((hs0_0 t).unread (iblk m c 0 t)) ((hs0_7 t).unread (iblk m c 7 t)) K V n

theorem pbPieces (c : Dev nD) (t : Fin cfg0.N) (K V : S768x1024.Idx → EReal) (n : ℕ) (hn : n ≤ k0_t1_loop.trips) :
    ∀ p ∈ pb m c t K V n, ∀ x : p.1.shape.Idx, p.2 x
      = (fun y : S1x256x1024.Idx => out (t.val % 64) (qOf m c t) (byRow K) (byRow V) (bOf m c t) (y 1) (y 2)) (p.1.emb x) := by
  induction n with
  | zero => intro p hp; exact absurd hp (List.not_mem_nil)
  | succ n ih =>
    intro p hp
    rw [pb, pb_k0_t1_succ (k := ⟨n, hn⟩)] at hp
    rcases List.mem_append.mp hp with h | h
    · exact (tripPieces m c t K V ⟨n, hn⟩).mem p h
    · exact ih (by omega) p h

theorem pbCover (c : Dev nD) (t : Fin cfg0.N) (K V : S768x1024.Idx → EReal) (y : S1x256x1024.Idx) :
    ∃ p ∈ pb m c t K V (Scf.trips 0#32 (Scalar.addi 0#32 4#32) 1#32), y ∈ p.1.set :=
  View.cover_of_tiledL (pb m c t K V (Scf.trips 0#32 (Scalar.addi 0#32 4#32) 1#32)) S1x64x128.size (by sl_kernel_rfl) y

/-- Three blocks of 256 rows, one below the other. -/
def rows3 (x1 x2 x3 : S1x256x1024.Idx → EReal) (r : Fin 768) (n : Fin 1024) : EReal :=
  (if r.val < 256 then x1 else if r.val < 512 then x2 else x3) (ix3 0 ⟨r.val % 256, by omega⟩ n)

theorem stack {x1 x2 x3 : S1x256x1024.Idx → EReal} {w1 w2 w3 : S256x1024.Idx → EReal} {sig : RefSig} {κ : Kind} {sp : Space} (v : View sig κ sp S768x1024 .bf16) (f : v.ty.Contents (Elt Ideal))
    (h1 : ∀ (i : Fin 256) (n : Fin 1024), w1 (ix2 i n) = x1 (ix3 0 i n)) (h2 : ∀ (i : Fin 256) (n : Fin 1024), w2 (ix2 i n) = x2 (ix3 0 i n))
    (h3 : ∀ (i : Fin 256) (n : Fin 1024), w3 (ix2 i n) = x3 (ix3 0 i n)) (r : Fin 768) (n : Fin 1024) :
    v.read (Elt Ideal) (v.writes (Elt Ideal) f [⟨Rect.unit (s := S768x1024) ![512, 0] ![256, 1024] inb_S768x1024_S256x1024_512_0, w3⟩,
      ⟨Rect.unit (s := S768x1024) ![256, 0] ![256, 1024] inb_S768x1024_S256x1024_256_0, w2⟩,
      ⟨Rect.unit (s := S768x1024) ![0, 0] ![256, 1024] inb_S768x1024_S256x1024_0_0, w1⟩]) (ix2 r n) = rows3 x1 x2 x3 r n := by
  have hr := r.isLt
  have skip (o : ℕ) (ho : ∀ a, ![o, 0] a + ![256, 1024] a ≤ S768x1024.size a) (w : S256x1024.Idx → EReal) L
      (h : r.val < o ∨ o + 256 ≤ r.val) := View.read_writes_cons_rows_of_not_mem (Val := Elt Ideal) (o := o) (W := 256) (size := ![256, 1024])
        v f ho w L (ix2 r n) rfl rfl h
  have hit (o : ℕ) (ho : ∀ a, ![o, 0] a + ![256, 1024] a ≤ S768x1024.size a) (w : S256x1024.Idx → EReal) L
      (h : r.val = o + r.val % 256) := View.read_writes_cons_rows_of_mem (Val := Elt Ideal) (o := o) (size := ![256, 1024])
        v f ho w L (ix2 r n) (ix2 (⟨r.val % 256, by omega⟩ : Fin 256) n) rfl h rfl
  unfold rows3
  by_cases ha : r.val < 256
  · rw [if_pos ha]
    exact (skip 512 _ _ _ (.inl (by omega))).trans ((skip 256 _ _ _ (.inl ha)).trans ((hit 0 _ _ _ (by omega)).trans (h1 _ _)))
  · rw [if_neg ha]
    by_cases hb : r.val < 512
    · rw [if_pos hb]
      exact (skip 512 _ _ _ (.inl hb)).trans ((hit 256 _ _ _ (by omega)).trans (h2 _ _))
    · rw [if_neg hb]
      exact (hit 512 _ _ _ (by omega)).trans (h3 _ _)

/-- The four trips' pieces read back. -/
theorem canonPb (c : Dev nD) (t : Fin cfg0.N) (K V : S768x1024.Idx → EReal) (y : S1x256x1024.Idx) :
    View.canon (pb m c t K V (Scf.trips 0#32 (Scalar.addi 0#32 4#32) 1#32)) y
      = out (t.val % 64) (qOf m c t) (byRow K) (byRow V) (bOf m c t) (y 1) (y 2) :=
  View.canon_apply_of_pieces (fun y : S1x256x1024.Idx => out (t.val % 64) (qOf m c t) (byRow K) (byRow V) (bOf m c t) (y 1) (y 2)) _
    (pbPieces m c t K V _ (by decide +kernel)) y (pbCover m c t K V y)

/-- Reading a whole buffer reads its contents. -/
theorem read0 (f : (View.whole cc0_scratch0 : View sig .tc .vmem S768x1024 .bf16).ty.Contents (Elt Ideal)) (r : Fin 768) (n : Fin 1024) :
    byRow f r n = (View.whole cc0_scratch0).read (Elt Ideal) f (ix2 r n) := rfl
theorem read1 (f : (View.whole cc0_scratch1 : View sig .tc .vmem S768x1024 .bf16).ty.Contents (Elt Ideal)) (r : Fin 768) (n : Fin 1024) :
    byRow f r n = (View.whole cc0_scratch1).read (Elt Ideal) f (ix2 r n) := rfl

/-- The reshapes of the gathered blocks, one entry. -/
theorem rows_at (v : FVec Ideal S1x256x1024 .bf16) (i : Fin 256) (n : Fin 1024) :
    ((k0_pay37 (F := Ideal) v (ix2 i n) : EReal) = v (ix3 0 i n) ∧ (k0_pay39 (F := Ideal) v (ix2 i n) : EReal) = v (ix3 0 i n)
      ∧ (k0_pay41 (F := Ideal) v (ix2 i n) : EReal) = v (ix3 0 i n))
    ∧ (k0_pay38 (F := Ideal) v (ix2 i n) : EReal) = v (ix3 0 i n) ∧ (k0_pay40 (F := Ideal) v (ix2 i n) : EReal) = v (ix3 0 i n)
      ∧ (k0_pay1 (F := Ideal) v (ix2 i n) : EReal) = v (ix3 0 i n) := by
  refine ⟨⟨?_, ?_, ?_⟩, ?_, ?_, ?_⟩ <;> pointwise [k0_pay1, k0_pay37, k0_pay38, k0_pay39, k0_pay40, k0_pay41]

theorem point (c : Dev nD) (t : Fin cfg0.N) (y : S1x256x1024.Idx) :
    outsAt0 m c t y = out (t.val % 64) (qOf m c t) (rows3 (iblk m c 1 t) (iblk m c 2 t) (iblk m c 3 t))
      (rows3 (iblk m c 4 t) (iblk m c 5 t) (iblk m c 6 t)) (bOf m c t) (y 1) (y 2) := by
  unfold outsAt0
  frame_open
  simp (disch := decide) only [↓ View.readCov_skip, ↓ View.readCov_cons_toLoadRect, ↓ View.readCov_fill]
  frame_out
  refine (canonPb m c t _ _ y).trans ?_
  refine congrArg₂ (fun K V => out (t.val % 64) (qOf m c t) K V (bOf m c t) (y 1) (y 2)) (funext fun r => funext fun n => ?_)
    (funext fun r => funext fun n => ?_)
  · refine (read0 _ r n).trans ?_
    exact stack (View.whole cc0_scratch0) _ (fun i n => (rows_at _ i n).1.1) (fun i n => (rows_at _ i n).1.2.1)
      (fun i n => (rows_at _ i n).1.2.2) r n
  · refine (read1 _ r n).trans ?_
    exact stack (View.whole cc0_scratch1) _ (fun i n => (rows_at _ i n).2.1) (fun i n => (rows_at _ i n).2.2.1)
      (fun i n => (rows_at _ i n).2.2.2) r n

end Cert.AttnIdeal.Value

end
-- ==== Proof.AttnRef.lean ====
/- The reference of the windowed attention, entry by entry. -/
module

public import proofs.«01_k».proof.Proof.Common
public import proofs.«01_k».proof.Proof.Gen.AttnRefIdeal.Run

@[expose] public section

set_option maxRecDepth 16384

noncomputable section

open Idealize.ShloMosaic Idealize.ShloMosaic.TcCoe Idealize.SL.Sem
open scoped BigOperators

namespace Cert.AttnRef

open Cert.AttnRefIdeal Cert.AttnRefIdeal.Gen Cert.Common

/-- The number of each key of each chunk, 512 rows of padding counted first. -/
abbrev keys : IVec S256x576 32 :=
  addi (broadcastInDim S256x576 ![0, 1] bcast_S256x1_S256x576_0_1 (muli (broadcastInDim S256x1 ![0] bcast_S256_S256x1_0 (iotaInDim S256 32 0))
    (broadcastInDim S256x1 ![] bcast_S_S256x1 (constantI S_ 32 64#32))))
    (broadcastInDim S256x576 ![0, 1] bcast_S1x576_S256x576_0_1 (broadcastInDim S1x576 ![1] bcast_S576_S1x576_1 (iotaInDim S576 32 0)))

/-- The same numbers as the lookup of rows has them. -/
abbrev rows : IVec S256x576x1 32 :=
  broadcastInDim S256x576x1 ![0, 1] bcast_S256x576_S256x576x1_0_1
    (select (cmpi .slt keys (broadcastInDim S256x576 ![] bcast_S_S256x576 (constantI S_ 32 0#32)))
      (addi keys (broadcastInDim S256x576 ![] bcast_S_S256x576 (constantI S_ 32 16896#32))) keys)

/-- The keys or the values that each chunk sees, the heads apart. -/
abbrev window (X : FVec Ideal S2x16384x1024 .bf16) : FVec Ideal S2x256x576x16x64 .f32 :=
  Host.gather gather_S2x16896x16x64_S256x576x1_S2x256x576x16x64_034_1_n_n_1_2_211664
    (pad S2x16896x16x64 ![0, 512, 0, 0] ![0, 0, 0, 0] ![0, 0, 0, 0]
      (shapeCast _ (extf .f32 X bitsLt_bf16_f32) shapeCasts_S2x16384x1024_S2x16384x16x64) (sitofp .f32 (constantI S_ 32 0#32))
      pads_S2x16384x16x64_S2x16896x16x64_000_51200_000_000 h_S_) rows

/-- How far each query of a chunk is from each key, kept within the table. -/
abbrev dist : IVec S64x576 32 :=
  addi (minsi (broadcastInDim S64x576 ![] bcast_S_S64x576 (id (constantI S_ 32 128#32)))
    (maxsi (broadcastInDim S64x576 ![] bcast_S_S64x576 (id (constantI S_ 32 4294967168#32)))
      (subi (broadcastInDim S64x576 ![0, 1] bcast_S64x1_S64x576_0_1 (broadcastInDim S64x1 ![0] bcast_S64_S64x1_0 (iotaInDim S64 32 0)))
        (broadcastInDim S64x576 ![0, 1] bcast_S1x576_S64x576_0_1 (broadcastInDim S1x576 ![1] bcast_S576_S1x576_1
          (subi (iotaInDim S576 32 0) (broadcastInDim S576 ![] bcast_S_S576 (constantI S_ 32 512#32))))))))
    (broadcastInDim S64x576 ![] bcast_S_S64x576 (constantI S_ 32 128#32))

/-- The distance bias: a head's entry of the table for each query and key of a chunk. -/
def bias (tbl : FVec Ideal S257x16 .f32) : FVec Ideal S16x64x576 .f32 :=
  transpose S16x64x576 [2, 0, 1] (Host.gather gather_S257x16_S64x576x1_S64x576x16_2_0_n_n_0_2_116 tbl
    (broadcastInDim S64x576x1 ![0, 1] bcast_S64x576_S64x576x1_0_1
      (select (cmpi .slt dist (broadcastInDim S64x576 ![] bcast_S_S64x576 (constantI S_ 32 0#32)))
        (addi dist (broadcastInDim S64x576 ![] bcast_S_S64x576 (constantI S_ 32 257#32))) dist)))
    transposes_S64x576x16_S16x64x576_2_0_1

/-- The masked scores. -/
abbrev scores (Q K : FVec Ideal S2x16384x1024 .bf16) (tbl : FVec Ideal S257x16 .f32) : FVec Ideal S2x256x16x64x576 .f32 :=
  select (broadcastInDim S2x256x16x64x576 ![0, 1, 2, 3, 4] bcast_S1x256x1x1x576_S2x256x16x64x576_0_1_2_3_4
    (broadcastInDim S1x256x1x1x576 ![1, 4] bcast_S256x576_S1x256x1x1x576_1_4
      (cmpi .sge keys (broadcastInDim S256x576 ![] bcast_S_S256x576 (constantI S_ 32 512#32)))))
    (addf (Host.dotGeneral dot_S2x256x64x16x64_S2x256x576x16x64_S2x256x16x64x576_4_4_2_2_013_013 none
      (shapeCast _ (shapeCast _ (extf .f32 Q bitsLt_bf16_f32) shapeCasts_S2x16384x1024_S2x16384x16x64) shapeCasts_S2x16384x16x64_S2x256x64x16x64)
      (window K))
      (broadcastInDim S2x256x16x64x576 ![0, 1, 2, 3, 4] bcast_S1x1x16x64x576_S2x256x16x64x576_0_1_2_3_4
        (broadcastInDim S1x1x16x64x576 ![2, 3, 4] bcast_S16x64x576_S1x1x16x64x576_2_3_4 (bias tbl))))
    (broadcastInDim S2x256x16x64x576 ![] bcast_S_S2x256x16x64x576 (id (constant S_ .f32 0xFF800000#32)))

/-- The greatest score of each row. -/
def tops (S : FVec Ideal S2x256x16x64x576 .f32) : FVec Ideal S2x256x16x64 .f32 :=
  Host.reduce FloatOps.maximumf S (constant S_ .f32 0xFF800000#32) reducesTo_S2x256x16x64x576_S2x256x16x64_d4 h_S_

/-- The exponentials of scores less a number for each row. -/
abbrev exps (S : FVec Ideal S2x256x16x64x576 .f32) (T : FVec Ideal S2x256x16x64 .f32) : FVec Ideal S2x256x16x64x576 .f32 :=
  Host.exp (subf S (broadcastInDim S2x256x16x64x576 ![0, 1, 2, 3, 4] bcast_S2x256x16x64x1_S2x256x16x64x576_0_1_2_3_4
    (broadcastInDim S2x256x16x64x1 ![0, 1, 2, 3] bcast_S2x256x16x64_S2x256x16x64x1_0_1_2_3
      (maximumf (broadcastInDim S2x256x16x64 ![] bcast_S_S2x256x16x64 (constant S_ .f32 0xFF800000#32)) T))))

/-- The weights, each row's sum one. -/
abbrev weights (E : FVec Ideal S2x256x16x64x576 .f32) : FVec Ideal S2x256x16x64x576 .f32 :=
  Host.divf E (broadcastInDim S2x256x16x64x576 ![0, 1, 2, 3, 4] bcast_S2x256x16x64x1_S2x256x16x64x576_0_1_2_3_4
    (broadcastInDim S2x256x16x64x1 ![0, 1, 2, 3] bcast_S2x256x16x64_S2x256x16x64x1_0_1_2_3
      (Host.reduceAdd E (constant S_ .f32 0x00000000#32) reducesTo_S2x256x16x64x576_S2x256x16x64_d4 h_S_)))

/-- The averages of the values. -/
abbrev average (V : FVec Ideal S2x256x576x16x64 .f32) (W : FVec Ideal S2x256x16x64x576 .f32) : FVec Ideal S2x16384x1024 .bf16 :=
  truncf .bf16 (shapeCast _ (transpose S2x256x64x16x64 [0, 1, 4, 2, 3]
    (Host.dotGeneral dot_S2x256x576x16x64_S2x256x16x64x576_S2x256x16x64x64_2_4_4_3_013_012 none V W)
    transposes_S2x256x16x64x64_S2x256x64x16x64_0_1_4_2_3) shapeCasts_S2x256x64x16x64_S2x16384x1024) bitsLt_bf16_f32

/-- The reference. -/
abbrev attn (Q K V : FVec Ideal S2x16384x1024 .bf16) (tbl : FVec Ideal S257x16 .f32) : FVec Ideal S2x16384x1024 .bf16 :=
  average (window V) (weights (exps (scores Q K tbl) (tops (scores Q K tbl))))

theorem res_eq (m : (ℓ : Loc nD τ sig) → Buf (Elt Ideal) ℓ) (c : Dev nD) :
    Cert.AttnRefIdeal.Value.res_out0 m c = attn (m ((c.tc : Thread nD τ).loc main_arg0)) (m ((c.tc : Thread nD τ).loc main_arg1))
      (m ((c.tc : Thread nD τ).loc main_arg2)) (m ((c.tc : Thread nD τ).loc main_arg3)) := rfl

theorem avg_at (V : FVec Ideal S2x256x576x16x64 .f32) (W : FVec Ideal S2x256x16x64x576 .f32) (b : Fin 2) (r : Fin 16384) (n : Fin 1024) :
    average V W (ix3 b r n) = ∑ j : Fin 576, V (ix5 b ⟨r.val / 64, by omega⟩ j ⟨n.val / 64, by omega⟩ ⟨n.val % 64, by omega⟩)
      * W (ix5 b ⟨r.val / 64, by omega⟩ ⟨n.val / 64, by omega⟩ ⟨r.val % 64, by omega⟩ j) := by
  pointwise [average]

theorem weights_at (E : FVec Ideal S2x256x16x64x576 .f32) (b : Fin 2) (C : Fin 256) (h : Fin 16) (i : Fin 64) (j : Fin 576) :
    weights E (ix5 b C h i j) = Ideal.div (E (ix5 b C h i j)) (∑ j : Fin 576, E (ix5 b C h i j)) := by
  pointwise [weights]

theorem bits_bot : Ideal.ofBits .f32 4286578688#32 = ⊥ := by
  simp [Ideal.ofBits, Ideal.ieee]

theorem tops_at (S : FVec Ideal S2x256x16x64x576 .f32) (b : Fin 2) (C : Fin 256) (h : Fin 16) (i : Fin 64) :
    tops S (ix4 b C h i) = Finset.univ.fold max (Ideal.ofBits .f32 4286578688#32) fun j => S (ix5 b C h i j) := by
  have hr : S2x256x16x64x576.Reduces [4] S2x256x16x64 := by decide
  have e : ∀ k : Fin 576, hr.lift (ix4 b C h i) k = ix5 b C h i k := fun k => by
    funext a
    refine Fin.ext ?_
    refine (Shape.Reduces.lift_val hr (ix4 b C h i) k a).trans ?_
    match a with
    | ⟨0, _⟩ => rfl
    | ⟨1, _⟩ => rfl
    | ⟨2, _⟩ => rfl
    | ⟨3, _⟩ => rfl
    | ⟨4, _⟩ => rfl
  unfold tops
  refine (Host.reduce_eq_fold_single (FloatOps.maximumf (F := Ideal) (φ := .f32)) S _ _ hr _ _).trans ?_
  exact congrArg (Finset.fold max (Ideal.ofBits .f32 4286578688#32) · Finset.univ) (funext fun k => congrArg S (e k))

theorem exps_at (S : FVec Ideal S2x256x16x64x576 .f32) (T : FVec Ideal S2x256x16x64 .f32) (b : Fin 2) (C : Fin 256) (h : Fin 16) (i : Fin 64) (j : Fin 576) :
    exps S T (ix5 b C h i j) = Ideal.exp (S (ix5 b C h i j) - T (ix4 b C h i)) := by
  pointwise [exps]
  rw [bits_bot, max_eq_right bot_le]

theorem scores_at (Q K : FVec Ideal S2x16384x1024 .bf16) (tbl : FVec Ideal S257x16 .f32) (b : Fin 2) (C : Fin 256) (h : Fin 16) (i : Fin 64) (j : Fin 576) :
    scores Q K tbl (ix5 b C h i j) = if 512 ≤ C.val * 64 + j.val then
      (∑ d : Fin 64, Q (ix3 b ⟨C.val * 64 + i.val, by omega⟩ ⟨h.val * 64 + d.val, by omega⟩) * window K (ix5 b C j h d)) + bias tbl (ix3 h i j)
      else ⊥ := by
  have e : IntOp.addi (IntOp.muli (BitVec.ofNat 32 C.val) 64#32) (BitVec.ofNat 32 j.val) = BitVec.ofNat 32 (C.val * 64 + j.val) := by
    apply BitVec.eq_of_toNat_eq
    simp [IntOp.addi, IntOp.muli]
  have hz : (512#32).toInt ≤ (BitVec.ofNat 32 (C.val * 64 + j.val)).toInt ↔ 512 ≤ C.val * 64 + j.val := by
    rw [BitVec.toInt_eq_toNat_cond, BitVec.toInt_eq_toNat_cond, BitVec.toNat_ofNat]
    simp only [BitVec.toNat_ofNat]
    split <;> split <;> omega
  pointwise [scores]
  rw [e]
  split <;> rename_i hc
  · rw [show IntOp.cmpi .sge (BitVec.ofNat 32 (C.val * 64 + j.val)) 512#32 = 1#1 by simp only [IntOp.cmpi, BitVec.sle, hz.mpr hc, decide_true]; rfl]
    rfl
  · rw [show IntOp.cmpi .sge (BitVec.ofNat 32 (C.val * 64 + j.val)) 512#32 = 0#1 by simp only [IntOp.cmpi, BitVec.sle, mt hz.mp hc, decide_false]; rfl]
    exact bits_bot

/-- A lookup of rows, one entry. -/
theorem gather_at (X : FVec Ideal S2x16896x16x64 .f32) (I : IVec S256x576x1 32) (b : Fin 2) (C : Fin 256) (j : Fin 576) (h : Fin 16) (d : Fin 64) :
    Host.gather gather_S2x16896x16x64_S256x576x1_S2x256x576x16x64_034_1_n_n_1_2_211664 X I (ix5 b C j h d)
      = X (ix4 b ⟨min (I (ix3 C j 0)).toInt.toNat 16895, by omega⟩ h d) := by
  let g := gather_S2x16896x16x64_S256x576x1_S2x256x576x16x64_034_1_n_n_1_2_211664
  have hb : ∀ a, a ∉ g.operandBatchingDims := fun a => List.not_mem_nil
  have hk : ∀ a : Fin 4, a ≠ 1 → g.start (ix5 b C j h d) I a = 0 := fun a ha => by
    unfold GatherDims.start; exact dif_neg (show a ∉ g.startIndexMap from fun hm => ha (List.mem_singleton.mp hm))
  have hs : ∀ a : Fin 4, a ≠ 1 → a ∈ g.sKept := fun a ha =>
    (g.mem_sKept a).2 ⟨fun hm => ha (List.mem_singleton.mp hm), hb a⟩
  have ho : ∀ (a : Fin 4) (ha : a ≠ 1), g.offCoord (ix5 b C j h d) a
      = (ix5 b C j h d (g.offsetDims[g.sKept.idxOf a]'(by rw [g.offset_length]; exact List.idxOf_lt_length_iff.2 (hs a ha)))).val :=
    fun a ha => by unfold GatherDims.offCoord; rw [dif_pos (hs a ha)]
  unfold Host.gather
  refine congrArg X (funext fun a => Fin.ext ?_)
  show g.start (ix5 b C j h d) I a + g.batchCoord (ix5 b C j h d) a + g.offCoord (ix5 b C j h d) a = _
  rw [g.batchCoord_eq_zero _ _ (hb a), Nat.add_zero]
  match a with
  | ⟨0, _⟩ => exact (congrArg₂ (· + ·) (hk 0 (by decide)) (ho 0 (by decide))).trans (Nat.zero_add _)
  | ⟨1, _⟩ =>
    show g.start (ix5 b C j h d) I 1 + g.offCoord (ix5 b C j h d) 1 = _
    rw [g.offCoord_eq_zero _ _ (fun h => ((g.mem_sKept _).mp h).1 (List.mem_singleton.mpr rfl)), Nat.add_zero]
    unfold GatherDims.start
    rw [dif_pos (show (1 : Fin 4) ∈ g.startIndexMap from List.mem_singleton.mpr rfl)]
    have hsi : g.siIdx (ix5 b C j h d) ⟨List.idxOf (1 : Fin 4) g.startIndexMap,
        List.idxOf_lt_length_iff.2 (List.mem_singleton.mpr rfl)⟩ = ix3 C j 0 := by
      funext b; refine Fin.ext ?_
      match b with
      | ⟨0, _⟩ => rfl
      | ⟨1, _⟩ => rfl
      | ⟨2, _⟩ => rfl
    rw [hsi]
    rfl
  | ⟨2, _⟩ => exact (congrArg₂ (· + ·) (hk 2 (by decide)) (ho 2 (by decide))).trans (Nat.zero_add _)
  | ⟨3, _⟩ => exact (congrArg₂ (· + ·) (hk 3 (by decide)) (ho 3 (by decide))).trans (Nat.zero_add _)

theorem rows_at (C : Fin 256) (j : Fin 576) : rows (ix3 C j 0) = BitVec.ofNat 32 (C.val * 64 + j.val) := by
  have e : IntOp.addi (IntOp.muli (BitVec.ofNat 32 C.val) 64#32) (BitVec.ofNat 32 j.val) = BitVec.ofNat 32 (C.val * 64 + j.val) := by
    apply BitVec.eq_of_toNat_eq
    simp [IntOp.addi, IntOp.muli]
  have hz : ¬ (BitVec.ofNat 32 (C.val * 64 + j.val)).toInt < (0#32).toInt := by
    rw [BitVec.toInt_eq_toNat_cond, BitVec.toNat_ofNat, BitVec.toInt_zero]
    split <;> omega
  pointwise [rows]
  rw [e, show IntOp.cmpi .slt (BitVec.ofNat 32 (C.val * 64 + j.val)) 0#32 = 0#1 by
    simp only [IntOp.cmpi, BitVec.slt, hz, decide_false]; rfl]
  rfl

/-- The padded rows, one entry. -/
theorem pad_at (X : FVec Ideal S2x16384x1024 .bf16) (b : Fin 2) (r : Fin 16896) (h : Fin 16) (d : Fin 64) :
    pad S2x16896x16x64 ![0, 512, 0, 0] ![0, 0, 0, 0] ![0, 0, 0, 0]
      (shapeCast _ (extf .f32 X bitsLt_bf16_f32) shapeCasts_S2x16384x1024_S2x16384x16x64) (sitofp (F := Ideal) .f32 (constantI S_ 32 0#32))
      pads_S2x16384x16x64_S2x16896x16x64_000_51200_000_000 h_S_ (ix4 b r h d) =
    if hr : 512 ≤ r.val then X (ix3 b ⟨r.val - 512, by omega⟩ ⟨h.val * 64 + d.val, by omega⟩) else (0 : EReal) := by
  pointwise
  rw [show FloatOps.sitofp (F := Ideal) FTy.f32 0#32 = (0 : EReal) by simp [FloatOps.sitofp]]
  by_cases hr : 512 ≤ r.val
  · rw [dif_pos hr, dif_pos ⟨hr, by omega⟩]
  · rw [dif_neg hr, dif_neg fun hc => hr hc.1]

theorem window_at (X : FVec Ideal S2x16384x1024 .bf16) (b : Fin 2) (C : Fin 256) (j : Fin 576) (h : Fin 16) (d : Fin 64) :
    window X (ix5 b C j h d) = if hr : 512 ≤ C.val * 64 + j.val then
      X (ix3 b ⟨C.val * 64 + j.val - 512, by omega⟩ ⟨h.val * 64 + d.val, by omega⟩) else (0 : EReal) := by
  have e : min (rows (ix3 C j 0)).toInt.toNat 16895 = C.val * 64 + j.val := by
    rw [rows_at, BitVec.toInt_eq_toNat_cond, BitVec.toNat_ofNat]
    split <;> omega
  refine (gather_at _ _ b C j h d).trans ?_
  rw [show (⟨min (rows (ix3 C j 0)).toInt.toNat 16895, by omega⟩ : Fin 16896) = ⟨C.val * 64 + j.val, by omega⟩ from Fin.ext e]
  exact pad_at X b _ h d

/-- The score of key `j` of a query's chunk: no weight before the first row. -/
def score (Q K : S2x16384x1024.Idx → EReal) (B : S16x64x576.Idx → EReal) (b : Fin 2) (r : Fin 16384) (n : Fin 1024) (j : Fin 576) : EReal :=
  if h : 512 ≤ r.val / 64 * 64 + j.val then
    (∑ d : Fin 64, Q (ix3 b r ⟨n.val / 64 * 64 + d.val, by omega⟩)
      * K (ix3 b ⟨r.val / 64 * 64 + j.val - 512, by omega⟩ ⟨n.val / 64 * 64 + d.val, by omega⟩))
      + B (ix3 ⟨n.val / 64, by omega⟩ ⟨r.val % 64, by omega⟩ j)
  else ⊥

/-- The value of key `j` of a query's chunk: none before the first row. -/
def value (V : S2x16384x1024.Idx → EReal) (b : Fin 2) (r : Fin 16384) (n : Fin 1024) (j : Fin 576) : EReal :=
  if h : 512 ≤ r.val / 64 * 64 + j.val then V (ix3 b ⟨r.val / 64 * 64 + j.val - 512, by omega⟩ n) else 0

theorem score_eq (Q K : FVec Ideal S2x16384x1024 .bf16) (tbl : FVec Ideal S257x16 .f32) (b : Fin 2) (r : Fin 16384) (n : Fin 1024) (j : Fin 576) :
    scores Q K tbl (ix5 b ⟨r.val / 64, by omega⟩ ⟨n.val / 64, by omega⟩ ⟨r.val % 64, by omega⟩ j) = score Q K (bias tbl) b r n j := by
  rw [scores_at]
  unfold score
  by_cases h : 512 ≤ r.val / 64 * 64 + j.val
  · rw [dif_pos h, if_pos h]
    refine congrArg (fun a : EReal => a + _) (Finset.sum_congr rfl fun d _ => ?_)
    rw [window_at, dif_pos h]
    refine congrArg₂ (fun a b : EReal => a * b) (congrArg Q ?_) rfl
    exact congrArg (ix3 b · _) (Fin.ext (by show r.val / 64 * 64 + r.val % 64 = r.val; omega))
  · rw [dif_neg h, if_neg h]

/-- The reference, one entry. -/
theorem attn_at (Q K V : FVec Ideal S2x16384x1024 .bf16) (tbl : FVec Ideal S257x16 .f32) (b : Fin 2) (r : Fin 16384) (n : Fin 1024) :
    attn Q K V tbl (ix3 b r n) = ∑ j : Fin 576, value V b r n j *
      Ideal.div (Ideal.exp (score Q K (bias tbl) b r n j - Finset.univ.fold max ⊥ (score Q K (bias tbl) b r n)))
        (∑ j : Fin 576, Ideal.exp (score Q K (bias tbl) b r n j - Finset.univ.fold max ⊥ (score Q K (bias tbl) b r n))) := by
  have hs := fun j => score_eq Q K tbl b r n j
  have ht : tops (scores Q K tbl) (ix4 b ⟨r.val / 64, by omega⟩ ⟨n.val / 64, by omega⟩ ⟨r.val % 64, by omega⟩)
      = Finset.univ.fold max ⊥ (score Q K (bias tbl) b r n) := by
    rw [tops_at, bits_bot]
    exact congrArg (Finset.fold max ⊥ · Finset.univ) (funext hs)
  have he : ∀ j, exps (scores Q K tbl) (tops (scores Q K tbl)) (ix5 b ⟨r.val / 64, by omega⟩ ⟨n.val / 64, by omega⟩ ⟨r.val % 64, by omega⟩ j)
      = Ideal.exp (score Q K (bias tbl) b r n j - Finset.univ.fold max ⊥ (score Q K (bias tbl) b r n)) := fun j => by
    rw [exps_at, ht, hs j]
  refine (avg_at _ _ b r n).trans (Finset.sum_congr rfl fun j _ => congrArg₂ (fun a b : EReal => a * b) ?_ ?_)
  · rw [window_at]
    unfold value
    by_cases h : 512 ≤ r.val / 64 * 64 + j.val
    · rw [dif_pos h, dif_pos h]
      exact congrArg (fun x => V (ix3 b _ x)) (Fin.ext (by show n.val / 64 * 64 + n.val % 64 = n.val; omega))
    · rw [dif_neg h, dif_neg h]
  · rw [weights_at, he j]
    exact congrArg (Ideal.div _) (Finset.sum_congr rfl fun j _ => he j)

/-- Every entry of the bias is an entry of the table. -/
theorem bias_mem (tbl : FVec Ideal S257x16 .f32) (y : S16x64x576.Idx) : ∃ u, bias tbl y = tbl u := ⟨_, rfl⟩

end Cert.AttnRef

end
-- ==== Proof.AttnValue.lean ====
/- The attention's result over whole arrays, and the reference's beside it. -/
module

public import proofs.«01_k».proof.Proof.AttnPoint
public import proofs.«01_k».proof.Proof.AttnRef
public import proofs.«01_k».proof.Proof.Gen.AttnRefIdeal.Run

@[expose] public section

set_option maxRecDepth 16384

noncomputable section

open Idealize.ShloMosaic Idealize.ShloMosaic.TcCoe Idealize.SL.Sem
open Idealize.ShloMosaic.Pipeline (Dat)
open scoped BigOperators

namespace Cert.AttnIdeal.Value

open Cert.AttnIdeal Cert.AttnIdeal.Gen Cert.Common

variable (m : (ℓ : Loc nD τ sig) → Buf (Elt Ideal) ℓ)

/-- The arguments of the call. -/
abbrev Qa (c : Dev nD) : S2x16384x1024.Idx → EReal := m ((c.tc : Thread nD τ).loc main_arg0)
abbrev Ka (c : Dev nD) : S2x16384x1024.Idx → EReal := m ((c.tc : Thread nD τ).loc main_arg1)
abbrev Va (c : Dev nD) : S2x16384x1024.Idx → EReal := m ((c.tc : Thread nD τ).loc main_arg2)
abbrev Ta (c : Dev nD) : S257x16.Idx → EReal := m ((c.tc : Thread nD τ).loc main_arg3)

theorem idx_val : ∀ t : Fin cfg0.N, (win0_0.index t = ![t.val / 64, t.val % 64, 0] ∧ win0_1.index t = ![t.val / 64, t.val % 64 - 2, 0]
    ∧ win0_2.index t = ![t.val / 64, t.val % 64 - 1, 0] ∧ win0_3.index t = ![t.val / 64, t.val % 64, 0])
    ∧ win0_4.index t = ![t.val / 64, t.val % 64 - 2, 0] ∧ win0_5.index t = ![t.val / 64, t.val % 64 - 1, 0]
    ∧ win0_6.index t = ![t.val / 64, t.val % 64, 0] ∧ win0_7.index t = ![0, 0, 0] ∧ win0_8.index t = ![t.val / 64, t.val % 64, 0] := by
  decide +kernel

theorem q_at (c : Dev nD) (t : Fin cfg0.N) (i : Fin 256) (n : Fin 1024) (b : Fin 2) (r : Fin 16384)
    (hb : t.val / 64 = b.val) (hr : t.val % 64 * 256 + i.val = r.val) : iblk m c 0 t (ix3 0 i n) = Qa m c (ix3 b r n) := by
  blk_simp [iblk, idx_val t]
  blk_ext [idx_val t]

theorem k_at (c : Dev nD) (t : Fin cfg0.N) (i : Fin 256) (n : Fin 1024) (b : Fin 2) (r : Fin 16384)
    (hb : t.val / 64 = b.val) :
    (((t.val % 64 - 2) * 256 + i.val = r.val → iblk m c 1 t (ix3 0 i n) = Ka m c (ix3 b r n))
    ∧ ((t.val % 64 - 1) * 256 + i.val = r.val → iblk m c 2 t (ix3 0 i n) = Ka m c (ix3 b r n))
    ∧ (t.val % 64 * 256 + i.val = r.val → iblk m c 3 t (ix3 0 i n) = Ka m c (ix3 b r n)))
    ∧ ((t.val % 64 - 2) * 256 + i.val = r.val → iblk m c 4 t (ix3 0 i n) = Va m c (ix3 b r n))
    ∧ ((t.val % 64 - 1) * 256 + i.val = r.val → iblk m c 5 t (ix3 0 i n) = Va m c (ix3 b r n))
    ∧ (t.val % 64 * 256 + i.val = r.val → iblk m c 6 t (ix3 0 i n) = Va m c (ix3 b r n)) := by
  refine ⟨⟨fun hr => ?_, fun hr => ?_, fun hr => ?_⟩, fun hr => ?_, fun hr => ?_, fun hr => ?_⟩
  all_goals
    blk_simp [iblk, idx_val t]
    blk_ext [idx_val t]

theorem host (c : Dev nD) : V m c main_v19 = Cert.AttnRef.bias (Ta m c) := by
  simp only [V, hostOps0, hostOps0_1, hostOps0_2, List.flatten_cons, List.flatten_nil,
    List.append_nil, List.cons_append, List.nil_append, StableHlo.TRef.unary, StableHlo.TRef.binary,
    StableHlo.TRef.toBuf, StableHlo.TRef.ofBuf, cast_eq]
  after_results_simp
  rfl

theorem bias_at (c : Dev nD) (t : Fin cfg0.N) (h : Fin 16) (i : Fin 64) (j : Fin 576) :
    iblk m c 7 t (ix3 h i j) = Cert.AttnRef.bias (Ta m c) (ix3 h i j) := by
  refine Eq.trans (show _ = V m c main_v19 (ix3 h i j) by blk_simp [iblk, idx_val t]; blk_ext [idx_val t]) ?_
  rw [host]

theorem coe_sum {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- Dividing each weight by their sum before the product with the values, or the whole product after it, is the same
    where the scores are numbers or no weight at all; what a key without weight holds does not matter. -/
theorem soft_eq {n : ℕ} (s v v' : Fin n → EReal) (hs : ∀ j, s j ≠ ⊤) (i : Fin n) (hi : s i ≠ ⊥) (hv : ∀ j, s j ≠ ⊥ → v j = v' j) :
    soft s v = ∑ j, v' j * Ideal.div (Ideal.exp (s j - Finset.univ.fold max ⊥ s))
      (∑ j, Ideal.exp (s j - Finset.univ.fold max ⊥ s)) := by
  have hb : Ideal.ofBits .f32 4286578688#32 = ⊥ := Cert.AttnRef.bits_bot
  unfold soft
  rw [hb]
  have hM : Finset.univ.fold max ⊥ s = Finset.univ.sup s := rfl
  have htop : Finset.univ.fold max ⊥ s ≠ ⊤ := by
    rw [hM]; exact ((Finset.sup_lt_iff bot_lt_top).mpr fun j _ => lt_top_iff_ne_top.mpr (hs j)).ne
  have hbot : Finset.univ.fold max ⊥ s ≠ ⊥ := by
    rw [hM]; exact fun h => hi (le_bot_iff.mp (h ▸ Finset.le_sup (Finset.mem_univ i)))
  generalize Finset.univ.fold max ⊥ s = M at htop hbot
  lift M to ℝ using ⟨htop, hbot⟩
  have he : ∀ j, ∃ e : ℝ, Ideal.exp (s j - M) = (e : EReal) ∧ 0 ≤ e ∧ (s j ≠ ⊥ → 0 < e) ∧ (s j = ⊥ → e = 0) := fun j => by
    by_cases h : s j = ⊥
    · exact ⟨0, by rw [h, EReal.bot_sub, Ideal.exp_bot]; rfl, le_rfl, fun hc => absurd h hc, fun _ => rfl⟩
    · have hj := hs j
      generalize s j = x at h hj
      lift x to ℝ using ⟨hj, h⟩
      exact ⟨Real.exp (x - M), by rw [← EReal.coe_sub, Ideal.exp_coe], (Real.exp_pos _).le, fun _ => Real.exp_pos _, fun hc => absurd hc h⟩
  choose e he h0 hp hz using he
  have hL : (∑ j, (e j : EReal)) = ((∑ j, e j : ℝ) : EReal) := coe_sum _ _
  have hLp : 0 < ∑ j, e j := Finset.sum_pos' (fun j _ => h0 j) ⟨i, Finset.mem_univ i, hp i hi⟩
  simp only [he]
  rw [hL, Ideal.div_coe hLp.ne']
  simp only [Ideal.div_coe hLp.ne']
  rw [sum_mul_const _ _ _ (by exact_mod_cast (one_div_pos.mpr hLp).le) (EReal.coe_ne_top _)]
  refine Finset.sum_congr rfl fun j _ => ?_
  by_cases h : s j = ⊥
  · rw [hz j h]; simp
  · rw [hv j h, mul_comm (e j : EReal), mul_assoc]

/-- A row of the three blocks of keys is a row of all keys, where there is one. -/
theorem kRows_at (c : Dev nD) (t : Fin cfg0.N) (i : Fin 768) (n : Fin 1024) (b : Fin 2) (r : Fin 16384)
    (hb : t.val / 64 = b.val) (hr : t.val % 64 * 256 + i.val = r.val + 512) :
    rows3 (iblk m c 1 t) (iblk m c 2 t) (iblk m c 3 t) i n = Ka m c (ix3 b r n)
      ∧ rows3 (iblk m c 4 t) (iblk m c 5 t) (iblk m c 6 t) i n = Va m c (ix3 b r n) := by
  obtain ⟨⟨k0, k1, k2⟩, v0, v1, v2⟩ := k_at m c t ⟨i.val % 256, by omega⟩ n b r hb
  unfold rows3
  by_cases h0 : i.val < 256
  · rw [if_pos h0, if_pos h0]
    exact ⟨k0 (by show (t.val % 64 - 2) * 256 + i.val % 256 = _; omega), v0 (by show (t.val % 64 - 2) * 256 + i.val % 256 = _; omega)⟩
  · rw [if_neg h0, if_neg h0]
    by_cases h1 : i.val < 512
    · rw [if_pos h1, if_pos h1]
      exact ⟨k1 (by show (t.val % 64 - 1) * 256 + i.val % 256 = _; omega), v1 (by show (t.val % 64 - 1) * 256 + i.val % 256 = _; omega)⟩
    · rw [if_neg h1, if_neg h1]
      exact ⟨k2 (by show t.val % 64 * 256 + i.val % 256 = _; omega), v2 (by show t.val % 64 * 256 + i.val % 256 = _; omega)⟩

/-- Every score is a number or no weight at all. -/
theorem score_ne_top (Q K : S2x16384x1024.Idx → EReal) (B : S16x64x576.Idx → EReal) (hQ : ∀ x, Q x ≠ ⊤ ∧ Q x ≠ ⊥) (hK : ∀ x, K x ≠ ⊤ ∧ K x ≠ ⊥)
    (hB : ∀ x, B x ≠ ⊤ ∧ B x ≠ ⊥) (b : Fin 2) (r : Fin 16384) (n : Fin 1024) (j : Fin 576) :
    Cert.AttnRef.score Q K B b r n j ≠ ⊤ ∧ (512 ≤ r.val / 64 * 64 + j.val → Cert.AttnRef.score Q K B b r n j ≠ ⊥) := by
  unfold Cert.AttnRef.score
  lift Q to S2x16384x1024.Idx → ℝ using hQ
  lift K to S2x16384x1024.Idx → ℝ using hK
  lift B to S16x64x576.Idx → ℝ using hB
  split
  · simp only [← EReal.coe_mul, coe_sum, ← EReal.coe_add]
    exact ⟨EReal.coe_ne_top _, fun _ => EReal.coe_ne_bot _⟩
  · exact ⟨bot_ne_top, fun h => absurd h ‹_›⟩

/-- What a grid point stores is the reference's entry, on numbers. -/
theorem entry (c : Dev nD) (hQ : ∀ x, Qa m c x ≠ ⊤ ∧ Qa m c x ≠ ⊥) (hK : ∀ x, Ka m c x ≠ ⊤ ∧ Ka m c x ≠ ⊥)
    (hT : ∀ x, Ta m c x ≠ ⊤ ∧ Ta m c x ≠ ⊥) (t : Fin cfg0.N) (i : Fin 256) (n : Fin 1024) (b : Fin 2) (r : Fin 16384)
    (hb : t.val / 64 = b.val) (hr : t.val % 64 * 256 + i.val = r.val) :
    out (t.val % 64) (qOf m c t) (rows3 (iblk m c 1 t) (iblk m c 2 t) (iblk m c 3 t)) (rows3 (iblk m c 4 t) (iblk m c 5 t) (iblk m c 6 t))
      (bOf m c t) i n = Cert.AttnRef.attn (Qa m c) (Ka m c) (Va m c) (Ta m c) (ix3 b r n) := by
  have hB : ∀ x, Cert.AttnRef.bias (Ta m c) x ≠ ⊤ ∧ Cert.AttnRef.bias (Ta m c) x ≠ ⊥ := fun x => by
    obtain ⟨u, hu⟩ := Cert.AttnRef.bias_mem (Ta m c) x
    rw [hu]; exact hT u
  have hsc := score_ne_top (Qa m c) (Ka m c) (Cert.AttnRef.bias (Ta m c)) hQ hK hB b r n
  refine Eq.trans ?_ (Cert.AttnRef.attn_at (Qa m c) (Ka m c) (Va m c) (Ta m c) b r n).symm
  have hs : (fun j : Fin 576 => if 512 ≤ t.val % 64 * 256 + i.val / 64 * 64 + j.val then
      (∑ d : Fin 64, qOf m c t i ⟨n.val / 64 * 64 + d.val, by omega⟩
        * rows3 (iblk m c 1 t) (iblk m c 2 t) (iblk m c 3 t) ⟨i.val / 64 * 64 + j.val, by omega⟩ ⟨n.val / 64 * 64 + d.val, by omega⟩)
        + bOf m c t ⟨n.val / 64, by omega⟩ ⟨i.val % 64, by omega⟩ j else ⊥)
      = Cert.AttnRef.score (Qa m c) (Ka m c) (Cert.AttnRef.bias (Ta m c)) b r n := funext fun j => by
    unfold Cert.AttnRef.score
    by_cases h : 512 ≤ r.val / 64 * 64 + j.val
    · rw [dif_pos h, if_pos (by omega)]
      refine congrArg₂ (fun a b : EReal => a + b) (Finset.sum_congr rfl fun d _ => congrArg₂ (fun a b : EReal => a * b) ?_ ?_) ?_
      · exact q_at m c t i _ b r hb hr
      · exact (kRows_at m c t _ _ b ⟨r.val / 64 * 64 + j.val - 512, by omega⟩ hb (by show t.val % 64 * 256 + (i.val / 64 * 64 + j.val) = r.val / 64 * 64 + j.val - 512 + 512; omega)).1
      · exact (bias_at m c t _ _ j).trans (congrArg (fun x => Cert.AttnRef.bias (Ta m c) (ix3 _ x j)) (Fin.ext (by show i.val % 64 = r.val % 64; omega)))
    · rw [dif_neg h, if_neg (by omega)]
  unfold out
  rw [hs]
  refine soft_eq _ _ _ (fun j => (hsc j).1) ⟨512, by omega⟩ ((hsc _).2 (by show 512 ≤ r.val / 64 * 64 + 512; omega)) fun j hj => ?_
  have h : 512 ≤ r.val / 64 * 64 + j.val := by
    by_contra h
    exact hj (by unfold Cert.AttnRef.score; rw [dif_neg h])
  unfold Cert.AttnRef.value
  rw [dif_pos h]
  exact (kRows_at m c t _ _ b ⟨r.val / 64 * 64 + j.val - 512, by omega⟩ hb (by show t.val % 64 * 256 + (i.val / 64 * 64 + j.val) = r.val / 64 * 64 + j.val - 512 + 512; omega)).2

/-- The result after the run is the reference's, on numbers. -/
theorem final_8 (c : Dev nD) (hQ : ∀ x, Qa m c x ≠ ⊤ ∧ Qa m c x ≠ ⊥) (hK : ∀ x, Ka m c x ≠ ⊤ ∧ Ka m c x ≠ ⊥)
    (hT : ∀ x, Ta m c x ≠ ⊤ ∧ Ta m c x ≠ ⊥) :
    (dats m 0 c).arrAt 8 cfg0.N = Cert.AttnRef.attn (Qa m c) (Ka m c) (Va m c) (Ta m c) := by
  refine (dats m 0 c).arrAt_eq_of_covers 8 _ (by decide +kernel) fun t hf y => ?_
  blk_simp
  rw [after0_8]
  idx_bounds
  refine (point m c t y).trans ?_
  refine (entry m c hQ hK hT t (y 1) (y 2) ⟨t.val / 64, by omega⟩ ⟨t.val % 64 * 256 + (y 1 : ℕ), by omega⟩ rfl rfl).trans ?_
  generalize Cert.AttnRef.attn (Qa m c) (Ka m c) (Va m c) (Ta m c) = A
  blk_ext [idx_val t]

end Cert.AttnIdeal.Value

end
-- ==== Proof.StepPoint.lean ====
/- The recurrence on the decoding step: one block's results, entry by entry. -/
module

public import proofs.«01_k».proof.Proof.Common
public import proofs.«01_k».proof.Proof.Gen.StepIdeal.Value
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)
open scoped BigOperators

namespace Cert.StepIdeal.Value

open Cert.StepIdeal Cert.StepIdeal.Gen Cert.Common

theorem row_slices (j : Fin 16) : S16x128.Slices ![j.val, 0] S1x128 := by revert j; decide
theorem col_slices (n : ℕ) (h : n < 16) : S256x16.Slices ![16 * n, 0] S16x16 :=
  (show ∀ j : Fin 16, S256x16.Slices ![16 * j.val, 0] S16x16 by decide) ⟨n, h⟩

/-- The queries of one head scaled for their products with key `j`. -/
def piece (q b : FVec Ideal S16x128 .f32) (j : Fin 16) : FVec Ideal S16x128 .f32 :=
  mulf q (exp (minimumf (subf b (broadcastTo S16x128 (extractStridedSlice S1x128 ![j.val, 0] b (row_slices j)) broadcasts_S1x128_S16x128))
    (broadcast S16x128 (Scalar.ofBits .f32 0x00000000#32))))

/-- The products of one head's scaled queries, 16 blocks of 16 rows, with its keys. -/
def stacked (q b : FVec Ideal S16x128 .f32) : FVec Ideal S256x128 .f32 :=
  concatenate S256x128 0 (List.ofFn fun j : Fin 16 => (⟨S16x128, piece q b j⟩ : (s : Shape) × FVec Ideal s .f32))
    concatenates_S16x128_S16x128_S16x128_S16x128_S16x128_S16x128_S16x128_S16x128_S16x128_S16x128_S16x128_S16x128_S16x128_S16x128_S16x128_S16x128_S256x128_d0

/-- The pieces' products with the keys. -/
def products (q b : FVec Ideal S16x128 .f32) (k : FVec Ideal S16x128 .bf16) : FVec Ideal S256x16 .f32 :=
  matmul dot_S256x128_S16x128_S256x16_1_1_0_0_n_n none
    (truncf .bf16 (stacked q b) bitsLt_bf16_f32) k (constant S256x16 .f32 0x00000000#32)

/-- Column `j` taken from block `j`, for the first `n` columns. -/
def chosen (res : FVec Ideal S256x16 .f32) : (n : ℕ) → n ≤ 16 → FVec Ideal S16x16 .f32
  | 0, _ => broadcast S16x16 (Scalar.ofBits .f32 0x00000000#32)
  | n + 1, h => select (cmpi .eq (iota .tc S16x16 32 [1] iota_S16x16_d1_w32) (broadcast S16x16 (BitVec.ofNat 32 n)))
      (extractStridedSlice S16x16 ![16 * n, 0] res (col_slices n h)) (chosen res n (by omega))

/-- One head's new values: the weights below the diagonal times the values, and the scaled queries times the old state. -/
def headOut (q b : FVec Ideal S16x128 .f32) (k : FVec Ideal S16x128 .bf16) (qs : FVec Ideal S16x128 .f32)
    (v : FVec Ideal S1x16x256 .f32) (st : FVec Ideal S1x1x256x128 .f32) : FVec Ideal S16x256 .f32 :=
  addf (matmul dot_S16x16_S16x256_S16x256_1_0_0_1_n_n none
      (truncf .bf16 (select (cmpi .sle (iota .tc S16x16 32 [1] iota_S16x16_d1_w32)
          (addi (broadcast S16x16 0#32) (iota .tc S16x16 32 [0] iota_S16x16_d0_w32)))
        (chosen (products q b k) 16 le_rfl) (broadcast S16x16 (Scalar.ofBits .f32 0x00000000#32))) bitsLt_bf16_f32)
      (truncf .bf16 (shapeCast S16x256 v shapeCasts_S1x16x256_S16x256) bitsLt_bf16_f32) (constant S16x256 .f32 0x00000000#32))
    (matmul dot_S16x128_S256x128_S16x256_1_1_0_0_n_n none (truncf .bf16 qs bitsLt_bf16_f32)
      (truncf .bf16 (shapeCast S256x128 st shapeCasts_S1x1x256x128_S256x128) bitsLt_bf16_f32) (constant S16x256 .f32 0x00000000#32))

/-- One head's rows, normalized, scaled and gated. -/
def gated (o : FVec Ideal S16x256 .f32) (gain : FVec Ideal S1x256 .f32) (r : FVec Ideal S1x16x256 .f32) : FVec Ideal S1x16x256 .bf16 :=
  shapeCast S1x16x256 (truncf .bf16 (mulf (mulf (mulf o (broadcastTo S16x256 (rsqrt (addf (divf (shapeCast S16x1
      (multiReduction .add [1] S16 (mulf o o) 0x00000000#32 reduces_S16x256_S16 (.inl rfl) rfl) shapeCasts_S16_S16x1)
      (broadcast S16x1 (Scalar.ofBits .f32 0x43800000#32))) (broadcast S16x1 (Scalar.ofBits .f32 0x358637BD#32)))) broadcasts_S16x1_S16x256))
    (broadcastTo S16x256 (shapeCast S1x256 gain shapeCasts_S1x256_S1x256) broadcasts_S1x256_S16x256))
    (mulf (shapeCast S16x256 r shapeCasts_S1x16x256_S16x256) (logistic (shapeCast S16x256 r shapeCasts_S1x16x256_S16x256)))) bitsLt_bf16_f32)
    shapeCasts_S16x256_S1x16x256

/-- The four heads' columns of the projections. -/
theorem head_slices (h : Fin 4) : S16x512.Slices ![0, 128 * h.val] S16x128 := by revert h; decide
theorem head_slice (h : Fin 4) : S1x512.Slices ![0, 128 * h.val] S1x128 := by revert h; decide

/-- One head's columns of the output block. -/
def headRows (h : Fin 4) (q k g : FVec Ideal S1x16x512 .f32) (v r : FVec Ideal S1x16x256 .f32)
    (st : FVec Ideal S1x1x256x128 .f32) (gain : FVec Ideal S1x256 .f32) : FVec Ideal S1x16x256 .bf16 :=
  gated (headOut (extractStridedSlice S16x128 ![0, 128 * h.val] (k0_pay4 q) (head_slices h))
    (extractStridedSlice S16x128 ![0, 128 * h.val] (k0_pay6 k0_pay3 g) (head_slices h))
    (extractStridedSlice S16x128 ![0, 128 * h.val] (k0_pay11 k) (head_slices h))
    (extractStridedSlice S16x128 ![0, 128 * h.val] (k0_pay8 k0_pay3 q g) (head_slices h)) v st) gain r

/-- One head's new state. -/
def headState (h : Fin 4) (k g : FVec Ideal S1x16x512 .f32) (v : FVec Ideal S1x16x256 .f32)
    (st : FVec Ideal S1x1x256x128 .f32) : FVec Ideal S1x1x256x128 .f32 :=
  shapeCast S1x1x256x128 (addf (mulf (shapeCast S256x128 st shapeCasts_S1x1x256x128_S256x128)
      (broadcastTo S256x128 (extractStridedSlice S1x128 ![0, 128 * h.val] (k0_pay10 k0_pay3 g) (head_slice h)) broadcasts_S1x128_S256x128))
    (matmul dot_S16x256_S16x128_S256x128_0_0_1_1_n_n none
      (truncf .bf16 (shapeCast S16x256 v shapeCasts_S1x16x256_S16x256) bitsLt_bf16_f32)
      (extractStridedSlice S16x128 ![0, 128 * h.val] (k0_pay9 k0_pay3 k g) (head_slices h)) (constant S256x128 .f32 0x00000000#32)))
    shapeCasts_S256x128_S1x1x256x128

/-- The weight of key `c` for query `i`: their product, each lane decayed from `c` to `i`. -/
def weight {n : ℕ} (q k b : Fin n → Fin 128 → EReal) (i c : Fin n) : EReal :=
  ∑ d, q i d * Ideal.exp (min (b i d - b c d) 0) * k c d

/-- Whether one small position comes before another, as the kernel tests it. -/
theorem cmp_le : ∀ c i : Fin 16, IntOp.cmpi .sle (BitVec.ofNat 32 c.val) (IntOp.addi 0#32 (BitVec.ofNat 32 i.val)) = if c.val ≤ i.val then 1#1 else 0#1 := by
  decide +kernel
theorem cmp_eq : ∀ c n : Fin 16, IntOp.cmpi .eq (BitVec.ofNat 32 c.val) (BitVec.ofNat 32 n.val) = if c.val = n.val then 1#1 else 0#1 := by
  decide +kernel

theorem piece_at (q b : FVec Ideal S16x128 .f32) (j i : Fin 16) (d : Fin 128) :
    (piece q b j (ix2 i d) : EReal) = q (ix2 i d) * Ideal.exp (min (b (ix2 i d) - b (ix2 j d)) (0 : EReal)) := by
  unfold piece
  pointwise []

theorem stacked_at (q b : FVec Ideal S16x128 .f32) (c i : Fin 16) (d : Fin 128) :
    (stacked q b (ix2 ⟨16 * c.val + i.val, by omega⟩ d) : EReal)
      = q (ix2 i d) * Ideal.exp (min (b (ix2 i d) - b (ix2 c d)) (0 : EReal)) := by
  refine Eq.trans (concatenate_ofFn_apply (t := S256x128) (0 : Fin S256x128.rank) (fun j : Fin 16 => (piece q b j : S16x128.Idx → EReal)) _ rfl 16 rfl _ c
    (show (16 * c.val + i.val) / 16 = c.val by omega) (ix2 i d) (show i.val = (16 * c.val + i.val) % 16 by omega) fun a ha => ?_) (piece_at q b c i d)
  match a with
  | ⟨0, _⟩ => exact absurd rfl ha
  | ⟨1, _⟩ => rfl

theorem products_at (q b : FVec Ideal S16x128 .f32) (k : FVec Ideal S16x128 .bf16) (c i : Fin 16) :
    (products q b k (ix2 ⟨16 * c.val + i.val, by omega⟩ c) : EReal)
      = weight (fun i d => q (ix2 i d)) (fun i d => k (ix2 i d)) (fun i d => b (ix2 i d)) i c := by
  unfold products
  pointwise [stacked_at]
  rfl

theorem chosen_at (res : FVec Ideal S256x16 .f32) (i c : Fin 16) : ∀ (n : ℕ) (h : n ≤ 16),
    (chosen res n h (ix2 i c) : EReal) = if c.val < n then res (ix2 ⟨16 * c.val + i.val, by omega⟩ c) else 0
  | 0, h => by
    unfold chosen
    pointwise []
    simp
  | n + 1, h => by
    unfold chosen
    pointwise []
    rw [cmp_eq c ⟨n, h⟩, chosen_at res i c n]
    by_cases hc : c.val = n
    · subst hc
      simp [Scalar.select]
    · simp [Scalar.select, hc, show c.val < n + 1 ↔ c.val < n by omega]

theorem headOut_at (q b : FVec Ideal S16x128 .f32) (k : FVec Ideal S16x128 .bf16) (qs : FVec Ideal S16x128 .f32)
    (v : FVec Ideal S1x16x256 .f32) (st : FVec Ideal S1x1x256x128 .f32) (i : Fin 16) (e : Fin 256) :
    (headOut q b k qs v st (ix2 i e) : EReal)
      = (∑ c : Fin 16, (if c.val ≤ i.val then weight (fun i d => q (ix2 i d)) (fun i d => k (ix2 i d)) (fun i d => b (ix2 i d)) i c else 0)
          * v (ix3 0 c e)) + ∑ d : Fin 128, (qs (ix2 i d) : EReal) * st (ix4 0 0 e d) := by
  unfold headOut
  pointwise []
  refine congrArg (fun a : EReal => a + _) (Finset.sum_congr rfl fun c _ => ?_)
  rw [cmp_le, chosen_at, if_pos c.isLt, products_at]
  by_cases hc : c.val ≤ i.val <;> simp [Scalar.select, hc]

/-- One entry of a head's row `o`, normalized, scaled by `gain` and gated by `r`. -/
def gate (o : Fin 256 → EReal) (gain r : EReal) (e : Fin 256) : EReal :=
  o e * Ideal.rsqrt (Ideal.div (∑ x, o x * o x) (Ideal.ofBits .f32 0x43800000#32) + Ideal.ofBits .f32 0x358637BD#32) * gain
    * (r * Ideal.logistic r)

theorem gated_at (o : FVec Ideal S16x256 .f32) (gain : FVec Ideal S1x256 .f32) (r : FVec Ideal S1x16x256 .f32) (i : Fin 16) (e : Fin 256) :
    (gated o gain r (ix3 0 i e) : EReal) = gate (fun e => o (ix2 i e)) (gain (ix2 0 e)) (r (ix3 0 i e)) e := by
  unfold gated
  pointwise []
  rfl

/-- The running sum of `g` up to and including position `i`. -/
def run {n : ℕ} (g : Fin n → EReal) (i : Fin n) : EReal := ∑ j, if j.val ≤ i.val then g j else 0

theorem tri_at (i j : Fin 16) : (k0_pay3 (F := Ideal) (ix2 i j) : EReal) = if j.val ≤ i.val then 1 else 0 := by
  pointwise [k0_pay3]
  have key : ∀ i j : Fin 16, IntOp.andi (IntOp.cmpi .sle (BitVec.ofNat 32 j.val) (BitVec.ofNat 32 i.val))
        (IntOp.cmpi .sge (BitVec.ofNat 32 j.val)
          (IntOp.muli
            (Scalar.select
              (IntOp.andi
                (IntOp.cmpi .ne
                  (IntOp.subi (BitVec.setWidth 32 (IntOp.cmpi .sgt (BitVec.ofNat 32 i.val) 0#32))
                    (BitVec.setWidth 32 (IntOp.cmpi .slt (BitVec.ofNat 32 i.val) 0#32)))
                  (Scalar.subi (Scalar.extui (Scalar.cmpi .sgt 16#32 0#32))
                    (Scalar.extui (Scalar.cmpi .slt 16#32 0#32))))
                (IntOp.cmpi .ne (IntOp.remsi .vector (BitVec.ofNat 32 i.val) 16#32) 0#32))
              (IntOp.subi (IntOp.divsi .vector (BitVec.ofNat 32 i.val) 16#32) 1#32)
              (IntOp.divsi .vector (BitVec.ofNat 32 i.val) 16#32))
            16#32)) = if j.val ≤ i.val then 1#1 else 0#1 := by decide +kernel
  rw [key]
  by_cases h : j.val ≤ i.val <;> simp [Scalar.select, h]

theorem pay6_at (g : FVec Ideal S1x16x512 .f32) (hg : ∀ i, (g i : EReal) - g i = 0) (i : Fin 16) (l : Fin 512) :
    (k0_pay6 (F := Ideal) k0_pay3 g (ix2 i l) : EReal) = run (fun j => g (ix3 0 j l)) i := by
  unfold k0_pay6
  pointwise [tri_at]
  simp [hg, run]

theorem headState_at (h : Fin 4) (k g : FVec Ideal S1x16x512 .f32) (hg : ∀ i, (g i : EReal) - g i = 0) (v : FVec Ideal S1x16x256 .f32)
    (st : FVec Ideal S1x1x256x128 .f32) (e : Fin 256) (d : Fin 128) (l : Fin 512) (hl : 128 * h.val + d.val = l.val) :
    (headState h k g v st (ix4 0 0 e d) : EReal)
      = st (ix4 0 0 e d) * Ideal.exp (run (fun j => g (ix3 0 j l)) 15) + ∑ j : Fin 16, v (ix3 0 j e)
          * (k (ix3 0 j l) * Ideal.exp (run (fun j => g (ix3 0 j l)) 15 - run (fun j => g (ix3 0 j l)) j)) := by
  unfold headState
  pointwise [k0_pay9, k0_pay10, k0_pay5, k0_pay7]
  simp only [hl, Fin.eta, pay6_at g hg]

theorem run_le {n : ℕ} (g : Fin n → EReal) (hg : ∀ j, g j ≤ 0) {c i : Fin n} (h : c.val ≤ i.val) : run g i - run g c ≤ 0 :=
  EReal.sub_nonpos.mpr (Finset.sum_le_sum fun j _ => by
    by_cases h1 : j.val ≤ c.val
    · simp [h1, h1.trans h]
    · by_cases h2 : j.val ≤ i.val <;> simp [h1, h2, hg])

/-- How much row `c` of the keys counts for row `i` of the queries, both having decayed by `g`. -/
def decayed (q k g : Fin 16 → Fin 128 → EReal) (i c : Fin 16) : EReal :=
  ∑ d, q i d * Ideal.exp (run (fun j => g j d) i - run (fun j => g j d) c) * k c d

/-- One row of a head's output before it is normalized. -/
def mixed (q k g : Fin 16 → Fin 128 → EReal) (v : Fin 16 → Fin 256 → EReal) (st : Fin 256 → Fin 128 → EReal) (i : Fin 16) (e : Fin 256) : EReal :=
  (∑ c : Fin 16, (if c.val ≤ i.val then decayed q k g i c else 0) * v c e) + ∑ d, q i d * Ideal.exp (run (fun j => g j d) i) * st e d

theorem weight_eq (q k g : Fin 16 → Fin 128 → EReal) (hg : ∀ j d, g j d ≤ 0) (i c : Fin 16) (h : c.val ≤ i.val) :
    weight q k (fun i d => run (fun j => g j d) i) i c = decayed q k g i c :=
  Finset.sum_congr rfl fun d _ => by rw [min_eq_left (run_le _ (fun j => hg j d) h)]

theorem headRows_at (h : Fin 4) (q k g : FVec Ideal S1x16x512 .f32) (hg : ∀ i, (g i : EReal) - g i = 0) (h0 : ∀ i, (g i : EReal) ≤ 0)
    (v r : FVec Ideal S1x16x256 .f32) (st : FVec Ideal S1x1x256x128 .f32) (gain : FVec Ideal S1x256 .f32) (i : Fin 16) (e : Fin 256) :
    (headRows h q k g v r st gain (ix3 0 i e) : EReal)
      = gate (mixed (fun i d => q (ix3 0 i ⟨128 * h.val + d.val, by omega⟩)) (fun i d => k (ix3 0 i ⟨128 * h.val + d.val, by omega⟩))
          (fun i d => g (ix3 0 i ⟨128 * h.val + d.val, by omega⟩)) (fun c e => v (ix3 0 c e)) (fun e d => st (ix4 0 0 e d)) i)
          (gain (ix2 0 e)) (r (ix3 0 i e)) e := by
  unfold headRows
  rw [gated_at]
  simp only [headOut_at]
  pointwise [k0_pay4, k0_pay8, k0_pay11, k0_pay5]
  simp only [pay6_at g hg]
  refine congrArg (gate · _ _ e) (funext fun e => congrArg (· + _) (Finset.sum_congr rfl fun c _ => ?_))
  by_cases hc : c.val ≤ i.val
  · rw [if_pos hc, if_pos hc]
    exact congrArg (· * _) (weight_eq _ _ (fun i d => g (ix3 0 i ⟨128 * h.val + d.val, by omega⟩)) (fun j d => h0 _) i c hc)
  · rw [if_neg hc, if_neg hc]

/-- One entry of a batch's output: a head's mixed row, normalized, scaled and gated. -/
def stepOut (q k g : Fin 16 → Fin 512 → EReal) (v r : Fin 16 → Fin 1024 → EReal) (st : Fin 4 → Fin 256 → Fin 128 → EReal)
    (gain : Fin 1024 → EReal) (i : Fin 16) (h : Fin 4) (e : Fin 256) : EReal :=
  gate (mixed (fun i d => q i ⟨128 * h.val + d.val, by omega⟩) (fun i d => k i ⟨128 * h.val + d.val, by omega⟩)
      (fun i d => g i ⟨128 * h.val + d.val, by omega⟩) (fun c e => v c ⟨256 * h.val + e.val, by omega⟩) (st h) i)
    (gain ⟨256 * h.val + e.val, by omega⟩) (r i ⟨256 * h.val + e.val, by omega⟩) e

/-- One entry of a batch's new state. -/
def stepState (k g : Fin 16 → Fin 512 → EReal) (v : Fin 16 → Fin 1024 → EReal) (st : Fin 4 → Fin 256 → Fin 128 → EReal)
    (h : Fin 4) (e : Fin 256) (d : Fin 128) : EReal :=
  st h e d * Ideal.exp (run (fun j => g j ⟨128 * h.val + d.val, by omega⟩) 15) + ∑ j : Fin 16, v j ⟨256 * h.val + e.val, by omega⟩
    * (k j ⟨128 * h.val + d.val, by omega⟩ * Ideal.exp (run (fun j => g j ⟨128 * h.val + d.val, by omega⟩) 15
        - run (fun j => g j ⟨128 * h.val + d.val, by omega⟩) j))

/-- The outputs of all the batches. -/
def outOf (q k g : S8x16x512.Idx → EReal) (v r : S8x16x1024.Idx → EReal) (st : S8x4x128x256.Idx → EReal) (w : S1024.Idx → EReal) :
    S8x16x1024.Idx → EReal := fun j =>
  stepOut (fun i l => q (ix3 (j 0) i l)) (fun i l => k (ix3 (j 0) i l)) (fun i l => g (ix3 (j 0) i l)) (fun i l => v (ix3 (j 0) i l))
    (fun i l => r (ix3 (j 0) i l)) (fun h e d => st (ix4 (j 0) h d e)) (fun l => w (ix1 l)) (j 1)
    ⟨(j 2).val / 256, by have h2 : (j 2).val < 1024 := (j 2).isLt; omega⟩ ⟨(j 2).val % 256, by omega⟩

/-- The new states of all the batches. -/
def stateOf (k g : S8x16x512.Idx → EReal) (v : S8x16x1024.Idx → EReal) (st : S8x4x128x256.Idx → EReal) : S8x4x256x128.Idx → EReal := fun j =>
  stepState (fun i l => k (ix3 (j 0) i l)) (fun i l => g (ix3 (j 0) i l)) (fun i l => v (ix3 (j 0) i l)) (fun h e d => st (ix4 (j 0) h d e))
    (j 1) (j 2) (j 3)

end Cert.StepIdeal.Value

end
-- ==== Proof.StepRef.lean ====
/- The reference of the recurrence on the decoding step, entry by entry. -/
module

public import proofs.«01_k».proof.Proof.StepPoint
public import proofs.«01_k».proof.Proof.Gen.StepRefIdeal.Run

@[expose] public section

set_option maxRecDepth 16384

noncomputable section

open Idealize.ShloMosaic Idealize.ShloMosaic.TcCoe Idealize.SL.Sem
open scoped BigOperators

namespace Cert.StepRef

open Cert.StepRefIdeal Cert.StepRefIdeal.Gen Cert.StepIdeal.Value Cert.Common

/-- Adding a list's values one after the other adds their sum. -/
theorem foldl_sum {α : Type} (F : α → EReal) : ∀ (l : List α) (v : EReal), l.foldl (fun r n => r + F n) v = v + (l.map F).sum
  | [], v => by simp
  | a :: l, v => by simp [foldl_sum F l, add_assoc]

/-- A window that ends at a position, over a row padded below, sums the row up to that position. -/
theorem window_sum (f : Fin 16 → EReal) (t : Fin 16) :
    ∑ n : Fin 16, (if h : 15 ≤ t.val + n.val then f ⟨t.val + n.val - 15, by omega⟩ else 0) = run f t := by
  unfold run
  refine Fintype.sum_equiv (Equiv.addRight (t + 1)) _ _ fun n => ?_
  have e : ((Equiv.addRight (t + 1)) n).val = (n.val + (t.val + 1) % 16) % 16 := by
    simp [Fin.val_add, add_assoc]
  by_cases h : 15 ≤ t.val + n.val
  · rw [dif_pos h, if_pos (by omega)]
    exact congrArg f (Fin.ext (by rw [e]; simp only; omega))
  · rw [dif_neg h, if_neg (by omega)]

theorem symm_at : ∀ (n : Fin (⟨4, ![1, 16, 1, 1]⟩ : Shape).numel) (a : Fin 4),
    ((⟨4, ![1, 16, 1, 1]⟩ : Shape).rowMajor.symm n a).val = if a = 1 then n.val else 0 := by
  decide +kernel

/-- The reference's running sum, one entry. -/
theorem cum_at (x : FVec Ideal S8x16x4x128 .f32) (b : Fin 8) (t : Fin 16) (h : Fin 4) (d : Fin 128) :
    (Host.reduceWindowAdd ![1, 16, 1, 1] ![1, 1, 1, 1] ![0, 15, 0, 0] ![0, 0, 0, 0] x (broadcastInDim S_ ![] bcast_S_S_ (constant S_ .f32 0x00000000#32))
      reduceWindows_S8x16x4x128_S8x16x4x128_w1s1p0_0_w16s1p15_0_w1s1p0_0_w1s1p0_0 h_S_ (ix4 b t h d) : EReal)
      = run (fun s => x (ix4 b s h d)) t := by
  have hi : ((broadcastInDim S_ ![] bcast_S_S_ (constant S_ .f32 0x00000000#32) : FVec Ideal S_ .f32) (Shape.Idx.first h_S_) : EReal) = 0 := by
    simp [broadcastInDim, constant, Ideal.ofBits, Ideal.ieee]
  rw [← window_sum]
  refine (foldl_sum _ _ _).trans ?_
  refine (congrArg₂ (fun a b : EReal => a + b) hi (Fin.sum_univ_def _).symm).trans ((zero_add _).trans ?_)
  refine Finset.sum_congr rfl fun n _ => ?_
  have e (a : Fin 4) := symm_at n a
  have hn : n.val < 16 := n.isLt
  by_cases hc : 15 ≤ t.val + n.val
  · rw [dif_pos hc, dif_pos]
    · refine congrArg x (funext fun a => Fin.ext ?_)
      match a with
      | 0 => exact (congrArg (fun z => b.val * 1 + z - 0) (e 0)).trans (by simp)
      | 1 => exact (congrArg (fun z => t.val * 1 + z - 15) (e 1)).trans (by simp)
      | 2 => exact (congrArg (fun z => h.val * 1 + z - 0) (e 2)).trans (by simp)
      | 3 => exact (congrArg (fun z => d.val * 1 + z - 0) (e 3)).trans (by simp)
    · intro a
      match a with
      | 0 => have := e 0; simp at this; constructor <;> simp [this, ix4]
      | 1 => have := e 1; simp at this; constructor <;> simp [this, ix4] <;> omega
      | 2 => have := e 2; simp at this; constructor <;> simp [this, ix4]
      | 3 => have := e 3; simp at this; constructor <;> simp [this, ix4]
  · rw [dif_neg hc, dif_neg]
    · exact hi
    · intro h0
      have h1 := (h0 1).1
      have e1 := e 1
      simp at e1
      simp [e1, ix4] at h1
      omega

theorem swap128 (a d : ℕ) (h : a * 128 + d < 512) : (⟨a * 128 + d, h⟩ : Fin 512) = ⟨128 * a + d, by omega⟩ := Fin.ext (by simp only; omega)
theorem swap256 (a d : ℕ) (h : a * 256 + d < 1024) : (⟨a * 256 + d, h⟩ : Fin 1024) = ⟨256 * a + d, by omega⟩ := Fin.ext (by simp only; omega)

/-- The running sums of the gates, by batch, position, head and channel. -/
def sums (g : FVec Ideal S8x16x512 .f32) : FVec Ideal S8x16x4x128 .f32 := fun j =>
  run (fun s => g (ix3 (j 0) s ⟨128 * (j 2).val + (j 3).val, by
    have h2 : (j 2).val < 4 := (j 2).isLt
    have h3 : (j 3).val < 128 := (j 3).isLt
    omega⟩)) (j 1)

theorem sums_at (g : FVec Ideal S8x16x512 .f32) (b : Fin 8) (t : Fin 16) (h : Fin 4) (d : Fin 128) :
    (sums g (ix4 b t h d) : EReal) = run (fun s => g (ix3 b s ⟨128 * h.val + d.val, by omega⟩)) t := rfl

/-- The reference's running sums are those. -/
theorem sums_eq (g : FVec Ideal S8x16x512 .f32) :
    (Host.reduceWindowAdd ![1, 16, 1, 1] ![1, 1, 1, 1] ![0, 15, 0, 0] ![0, 0, 0, 0] (shapeCast S8x16x4x128 g shapeCasts_S8x16x512_S8x16x4x128)
        (broadcastInDim S_ ![] bcast_S_S_ (constant S_ .f32 0x00000000#32))
      reduceWindows_S8x16x4x128_S8x16x4x128_w1s1p0_0_w16s1p15_0_w1s1p0_0_w1s1p0_0 h_S_) = sums g := by
  refine funext fun j => ?_
  rw [eq_ix4 j]
  refine (cum_at _ _ _ _ _).trans (Eq.trans ?_ (sums_at g _ _ _ _).symm)
  refine congrArg (run · _) (funext fun s => ?_)
  pointwise []
  exact congrArg (fun l => g (ix3 _ s l)) (swap128 _ _ _)

/-- The reference's test of the order of two positions. -/
theorem cmp_ge : ∀ i c : Fin 16, Scalar.select (IntOp.cmpi .sge (IntOp.addi (BitVec.ofNat 32 i.val) 0#32) (BitVec.ofNat 32 c.val)) 1#1 0#1
    = if c.val ≤ i.val then 1#1 else 0#1 := by
  decide +kernel

/-- The reference's row of a head before it is normalized. -/
def mixedRef (q k g : Fin 16 → Fin 128 → EReal) (v : Fin 16 → Fin 256 → EReal) (st : Fin 256 → Fin 128 → EReal) (i : Fin 16) (e : Fin 256) : EReal :=
  (∑ c : Fin 16, v c e * ∑ d, q i d * k c d * Ideal.exp (Scalar.select (if c.val ≤ i.val then 1#1 else 0#1)
      (run (fun j => g j d) i - run (fun j => g j d) c) (Ideal.ofBits .f32 0xFF800000#32)))
    + ∑ d, st e d * (q i d * Ideal.exp (run (fun j => g j d) i))

theorem mixedRef_eq (q k g v st i) : mixedRef q k g v st i = mixed q k g v st i := by
  funext e
  have hb : Ideal.ofBits .f32 0xFF800000#32 = ⊥ := by simp [Ideal.ofBits, Ideal.ieee]
  unfold mixedRef mixed decayed
  refine congrArg₂ (fun a b : EReal => a + b) (Finset.sum_congr rfl fun c _ => ?_) (Finset.sum_congr rfl fun d _ => mul_comm _ _)
  rw [mul_comm]
  refine congrArg (fun a : EReal => a * _) ?_
  by_cases hc : c.val ≤ i.val
  · rw [if_pos hc, if_pos hc]
    exact Finset.sum_congr rfl fun d _ => mul_right_comm _ _ _
  · rw [if_neg hc, if_neg hc, hb]
    exact Finset.sum_eq_zero fun d _ => by simp [Scalar.select, Ideal.exp_bot]

variable (m : (ℓ : Loc nD τ sig) → Buf (Elt Ideal) ℓ)

/-- The reference's arguments. -/
abbrev Q (c : Dev nD) : S8x16x512.Idx → EReal := m (c.tc.loc main_arg0)
abbrev K (c : Dev nD) : S8x16x512.Idx → EReal := m (c.tc.loc main_arg1)
abbrev G (c : Dev nD) : S8x16x512.Idx → EReal := m (c.tc.loc main_arg2)
abbrev V (c : Dev nD) : S8x16x1024.Idx → EReal := m (c.tc.loc main_arg3)
abbrev R (c : Dev nD) : S8x16x1024.Idx → EReal := m (c.tc.loc main_arg4)
abbrev S (c : Dev nD) : S8x4x128x256.Idx → EReal := m (c.tc.loc main_arg5)
abbrev W (c : Dev nD) : S1024.Idx → EReal := m (c.tc.loc main_arg6)

theorem out_at (c : Dev nD) (b : Fin 8) (i : Fin 16) (n : Fin 1024) : Value.res_main_v58 (F := Ideal) m c (ix3 b i n)
    = stepOut (fun i l => Q m c (ix3 b i l)) (fun i l => K m c (ix3 b i l)) (fun i l => G m c (ix3 b i l)) (fun i l => V m c (ix3 b i l))
        (fun i l => R m c (ix3 b i l)) (fun h e d => S m c (ix4 b h d e)) (fun l => W m c (ix1 l)) i ⟨n.val / 256, by omega⟩ ⟨n.val % 256, by omega⟩ := by
  unfold Value.res_main_v58
  rw [sums_eq]
  pointwise [cmp_ge, sums_at]
  simp only [swap128, swap256]
  unfold stepOut
  have hn : (⟨256 * (n.val / 256) + n.val % 256, by omega⟩ : Fin 1024) = n := Fin.ext (by simp only; omega)
  simp only [← mixedRef_eq]
  unfold gate mixedRef
  simp only [hn]
  rfl

/-- The reference's new states, over its running sums. -/
def NEWSTATE (k g : FVec Ideal S8x16x512 .f32) (v : FVec Ideal S8x16x1024 .f32) (st : FVec Ideal S8x4x128x256 .f32) : FVec Ideal S8x4x256x128 .f32 :=
  transpose S8x4x256x128 [0, 1, 3, 2] (addf (mulf st (broadcastInDim S8x4x128x256 ![0, 1, 2, 3]
  bcast_S8x4x128x1_S8x4x128x256_0_1_2_3 (broadcastInDim S8x4x128x1 ![0, 1, 2] bcast_S8x4x128_S8x4x128x1_0_1_2 (Host.exp (shapeCast _
  (extractStridedSlice S8x1x4x128 ![0, 15, 0, 0] (sums g) slices_S8x16x4x128_S8x1x4x128_0_15_0_0) shapeCasts_S8x1x4x128_S8x4x128)))))
  (Host.dotGeneral (φ₁ := .f32) (φ₂ := .f32) dot_S8x16x4x128_S8x16x4x256_S8x4x128x256_1_1_3_3_02_02 none (mulf (shapeCast _ k shapeCasts_S8x16x512_S8x16x4x128) (Host.exp (subf (broadcastInDim S8x16x4x128 ![0, 1, 2, 3] bcast_S8x1x4x128_S8x16x4x128_0_1_2_3
  (broadcastInDim S8x1x4x128 ![0, 2, 3] bcast_S8x4x128_S8x1x4x128_0_2_3 (shapeCast _ (extractStridedSlice S8x1x4x128 ![0, 15, 0, 0] (sums g)
  slices_S8x16x4x128_S8x1x4x128_0_15_0_0) shapeCasts_S8x1x4x128_S8x4x128))) (sums g)))) (shapeCast _ v
  shapeCasts_S8x16x1024_S8x16x4x256))) transposes_S8x4x128x256_S8x4x256x128_0_1_3_2

/-- One entry of them. -/
theorem state_at (k g : FVec Ideal S8x16x512 .f32) (v : FVec Ideal S8x16x1024 .f32) (st : FVec Ideal S8x4x128x256 .f32) (b : Fin 8) (h : Fin 4) (e : Fin 256) (d : Fin 128) :
    NEWSTATE k g v st (ix4 b h e d)
    = stepState (fun i l => k (ix3 b i l)) (fun i l => g (ix3 b i l)) (fun i l => v (ix3 b i l)) (fun h e d => st (ix4 b h d e)) h e d := by
  unfold NEWSTATE
  pointwise [sums_at]
  simp only [swap128, swap256]
  unfold stepState
  exact congrArg (fun a : EReal => _ + a) (Finset.sum_congr rfl fun j _ => mul_comm _ _)

/-- The reference's outputs. -/
theorem out_eq (c : Dev nD) : Value.res_main_v58 (F := Ideal) m c = outOf (Q m c) (K m c) (G m c) (V m c) (R m c) (S m c) (W m c) := by
  funext j
  rw [eq_ix3 j]
  exact out_at m c _ _ _

/-- The reference's new states. -/
theorem state_eq (k g : FVec Ideal S8x16x512 .f32) (v : FVec Ideal S8x16x1024 .f32) (st : FVec Ideal S8x4x128x256 .f32) :
    (transpose S8x4x256x128 [0, 1, 3, 2] (addf (mulf st (broadcastInDim S8x4x128x256 ![0, 1, 2, 3]
    bcast_S8x4x128x1_S8x4x128x256_0_1_2_3 (broadcastInDim S8x4x128x1 ![0, 1, 2] bcast_S8x4x128_S8x4x128x1_0_1_2 (Host.exp (shapeCast _
    (extractStridedSlice S8x1x4x128 ![0, 15, 0, 0] (Host.reduceWindowAdd ![1, 16, 1, 1] ![1, 1, 1, 1] ![0, 15, 0, 0] ![0, 0, 0, 0] (shapeCast _ g shapeCasts_S8x16x512_S8x16x4x128) (broadcastInDim S_ ![] bcast_S_S_ (constant S_ .f32 0x00000000#32))
    reduceWindows_S8x16x4x128_S8x16x4x128_w1s1p0_0_w16s1p15_0_w1s1p0_0_w1s1p0_0 h_S_) slices_S8x16x4x128_S8x1x4x128_0_15_0_0)
    shapeCasts_S8x1x4x128_S8x4x128))))) (Host.dotGeneral (φ₁ := .f32) (φ₂ := .f32) dot_S8x16x4x128_S8x16x4x256_S8x4x128x256_1_1_3_3_02_02 none (mulf
    (shapeCast _ k shapeCasts_S8x16x512_S8x16x4x128) (Host.exp (subf (broadcastInDim S8x16x4x128 ![0, 1, 2, 3]
    bcast_S8x1x4x128_S8x16x4x128_0_1_2_3 (broadcastInDim S8x1x4x128 ![0, 2, 3] bcast_S8x4x128_S8x1x4x128_0_2_3 (shapeCast _ (extractStridedSlice
    S8x1x4x128 ![0, 15, 0, 0] (Host.reduceWindowAdd ![1, 16, 1, 1] ![1, 1, 1, 1] ![0, 15, 0, 0] ![0, 0, 0, 0] (shapeCast _ g shapeCasts_S8x16x512_S8x16x4x128) (broadcastInDim S_ ![] bcast_S_S_ (constant S_ .f32 0x00000000#32))
    reduceWindows_S8x16x4x128_S8x16x4x128_w1s1p0_0_w16s1p15_0_w1s1p0_0_w1s1p0_0 h_S_) slices_S8x16x4x128_S8x1x4x128_0_15_0_0)
    shapeCasts_S8x1x4x128_S8x4x128))) (Host.reduceWindowAdd ![1, 16, 1, 1] ![1, 1, 1, 1] ![0, 15, 0, 0] ![0, 0, 0, 0] (shapeCast _ g shapeCasts_S8x16x512_S8x16x4x128) (broadcastInDim S_ ![] bcast_S_S_ (constant S_ .f32 0x00000000#32))
    reduceWindows_S8x16x4x128_S8x16x4x128_w1s1p0_0_w16s1p15_0_w1s1p0_0_w1s1p0_0 h_S_)))) (shapeCast _ v
    shapeCasts_S8x16x1024_S8x16x4x256))) transposes_S8x4x128x256_S8x4x256x128_0_1_3_2 : FVec Ideal S8x4x256x128 .f32)
      = stateOf k g v st := by
  rw [sums_eq]
  refine (show _ = NEWSTATE k g v st from rfl).trans (funext fun j => ?_)
  rw [eq_ix4 j]
  exact state_at k g v st _ _ _ _

end Cert.StepRef
end
-- ==== Proof.StepValue.lean ====
/- The value of the recurrence on the decoding step. -/
module

public import proofs.«01_k».proof.Proof.StepPoint

@[expose] public section

set_option maxRecDepth 16384

noncomputable section

open Idealize.ShloMosaic Idealize.ShloMosaic.TcCoe Idealize.SL.Sem
open Idealize.ShloMosaic.Pipeline (Dat)
open scoped BigOperators

namespace Cert.StepIdeal.Value

open Cert.StepIdeal Cert.StepIdeal.Gen Cert.Common

variable (m : (ℓ : Loc nD τ sig) → Buf (Elt Ideal) ℓ)

/-- The blocks at a point, by row and column. -/
abbrev q3 (x : S1x16x512.Idx → EReal) (i : Fin 16) (l : Fin 512) : EReal := x (ix3 0 i l)
abbrev v3 (x : S1x16x1024.Idx → EReal) (i : Fin 16) (l : Fin 1024) : EReal := x (ix3 0 i l)
abbrev s4 (x : S1x4x256x128.Idx → EReal) (h : Fin 4) (e : Fin 256) (d : Fin 128) : EReal := x (ix4 0 h e d)
abbrev g2 (x : S1x1024.Idx → EReal) (l : Fin 1024) : EReal := x (ix2 0 l)

/-- The forget gates' block at a point. -/
abbrev gb (c : Dev nD) (t : Fin cfg0.N) : S1x16x512.Idx → EReal := iblk m c 2 t

theorem state_piece (h : Fin 4) (x1 x2 : S1x16x512.Idx → EReal) (hg : ∀ i, x2 i - x2 i = 0) (x3 : S1x16x1024.Idx → EReal) (x5 : S1x4x256x128.Idx → EReal)
    (ov : Fin 3 → ℕ) (hov : ov = ![0, 0, 256 * h.val]) (iv) (os) (hos : os = ![0, h.val, 0, 0]) (is)
    (x : S1x1x256x128.Idx) :
    headState h x1 x2 (View.ld (Val := Elt Ideal) (S := S1x16x1024) (e' := .f32) x3 (Rect.unit (s := S1x16x1024) ov ![1, 16, 256] iv))
        (View.ld (Val := Elt Ideal) (S := S1x4x256x128) (e' := .f32) (k0_pay2 (F := Ideal) x5) (Rect.unit (s := S1x4x256x128) os ![1, 1, 256, 128] is)) x
      = stepState (q3 x1) (q3 x2) (v3 x3) (s4 x5) h (x 2) (x 3) := by
  subst hov hos
  obtain ⟨a, b, e, d, rfl⟩ : ∃ a b e d, x = ix4 a b e d := ⟨_, _, _, _, eq_ix4 x⟩
  obtain rfl : a = 0 := Subsingleton.elim _ _
  obtain rfl : b = 0 := Subsingleton.elim _ _
  refine (headState_at h _ _ hg _ _ e d ⟨128 * h.val + d.val, by omega⟩ rfl).trans ?_
  unfold stepState
  pointwise [k0_pay2]

theorem rows_piece (h : Fin 4) (x0 x1 x2 : S1x16x512.Idx → EReal) (hg : ∀ i, x2 i - x2 i = 0) (h0 : ∀ i, x2 i ≤ 0) (x3 x4 : S1x16x1024.Idx → EReal) (x5 : S1x4x256x128.Idx → EReal)
    (x6 : S1x1024.Idx → EReal)
    (ov : Fin 3 → ℕ) (hov : ov = ![0, 0, 256 * h.val]) (iv iw) (os) (hos : os = ![0, h.val, 0, 0]) (is) (og) (hog : og = ![0, 256 * h.val]) (ig)
    (x : S1x16x256.Idx) :
    headRows h x0 x1 x2 (View.ld (Val := Elt Ideal) (S := S1x16x1024) (e' := .f32) x3 (Rect.unit (s := S1x16x1024) ov ![1, 16, 256] iv))
        (View.ld (Val := Elt Ideal) (S := S1x16x1024) (e' := .f32) x4 (Rect.unit (s := S1x16x1024) ov ![1, 16, 256] iw))
        (View.ld (Val := Elt Ideal) (S := S1x4x256x128) (e' := .f32) (k0_pay2 (F := Ideal) x5) (Rect.unit (s := S1x4x256x128) os ![1, 1, 256, 128] is))
        (View.ld (Val := Elt Ideal) (S := S1x1024) (e' := .f32) x6 (Rect.unit (s := S1x1024) og ![1, 256] ig)) x
      = stepOut (q3 x0) (q3 x1) (q3 x2) (v3 x3) (v3 x4) (s4 x5) (g2 x6) (x 1) h (x 2) := by
  subst hov hos hog
  obtain ⟨a, i, e, rfl⟩ : ∃ a i e, x = ix3 a i e := ⟨_, _, _, eq_ix3 x⟩
  obtain rfl : a = 0 := Subsingleton.elim _ _
  refine (headRows_at h _ _ _ hg h0 _ _ _ _ i e).trans ?_
  unfold stepOut gate mixed
  pointwise [k0_pay2]

/-- Four stores that are blocks of `G` and cover it, over an earlier one. -/
theorem canon_four (G : S1x4x256x128.Idx → EReal) (w1 w2 w3 w4 : S1x1x256x128.Idx → EReal) (w0 : S1x4x256x128.Idx → EReal)
    (h : ∀ (i : Fin 4) (x : S1x1x256x128.Idx), ![w1, w2, w3, w4] i x = G (ix4 0 i (x 2) (x 3))) (y : S1x4x256x128.Idx) :
    View.canon (Val := Elt Ideal) (e := .f32)
      [⟨Rect.unit (s := S1x4x256x128) ![0, 3, 0, 0] ![1, 1, 256, 128] inb_S1x4x256x128_S1x1x256x128_0_3_0_0, w4⟩,
       ⟨Rect.unit (s := S1x4x256x128) ![0, 2, 0, 0] ![1, 1, 256, 128] inb_S1x4x256x128_S1x1x256x128_0_2_0_0, w3⟩,
       ⟨Rect.unit (s := S1x4x256x128) ![0, 1, 0, 0] ![1, 1, 256, 128] inb_S1x4x256x128_S1x1x256x128_0_1_0_0, w2⟩,
       ⟨Rect.unit (s := S1x4x256x128) ![0, 0, 0, 0] ![1, 1, 256, 128] inb_S1x4x256x128_S1x1x256x128_0_0_0_0, w1⟩,
       ⟨Rect.unit (s := S1x4x256x128) ![0, 0, 0, 0] ![1, 4, 256, 128] inb_S1x4x256x128_S1x4x256x128_0_0_0_0, w0⟩] y = G y := by
  refine View.canon_append_of_piecesOf (Val := Elt Ideal) (e := .f32) G [_] [_, _, _, _]
    ⟨fun x => (h 3 x).trans (congrArg G ?_), fun x => (h 2 x).trans (congrArg G ?_), fun x => (h 1 x).trans (congrArg G ?_),
      fun x => (h 0 x).trans (congrArg G ?_), trivial⟩ y (View.cover_of_tiledL (s := S1x4x256x128) _ ![1, 1, 256, 128] (by sl_kernel_rfl) y)
  all_goals blk_ext []

/-- Coordinates that agree name the same entry of the new state. -/
theorem stepState_congr {k g v st h e d} {h' : Fin 4} {e' : Fin 256} {d' : Fin 128} (hh : h'.val = h.val) (he : e'.val = e.val) (hd : d'.val = d.val) :
    stepState k g v st h e d = stepState k g v st h' e' d' := by
  rw [Fin.ext hh, Fin.ext he, Fin.ext hd]

/-- Coordinates that agree name the same entry of the output. -/
theorem stepOut_congr {q k g v r st gain i h e} {i' : Fin 16} {h' : Fin 4} {e' : Fin 256} (hi : i'.val = i.val) (hh : h'.val = h.val) (he : e'.val = e.val) :
    stepOut q k g v r st gain i h e = stepOut q k g v r st gain i' h' e' := by
  rw [Fin.ext hi, Fin.ext hh, Fin.ext he]

theorem point_8 (c : Dev nD) (t : Fin cfg0.N) (y : S1x4x256x128.Idx) (hg : ∀ i, gb m c t i - gb m c t i = 0) :
    (outsAt0 m c t).2 y = stepState (q3 (iblk m c 1 t)) (q3 (iblk m c 2 t)) (v3 (iblk m c 3 t)) (s4 (iblk m c 5 t)) (y 1) (y 2) (y 3) := by
  unfold outsAt0
  frame_open
  simp (disch := decide) only [↓ View.readCov_skip, ↓ View.readCov_cons_toLoadRect, ↓ View.readCov_fill]
  frame_out
  refine canon_four (fun y => stepState (q3 (iblk m c 1 t)) (q3 (iblk m c 2 t)) (v3 (iblk m c 3 t)) (s4 (iblk m c 5 t)) (y 1) (y 2) (y 3))
    _ _ _ _ _ (fun i x => ?_) y
  match i with
  | 3 => exact (congrFun (show _ = headState 3 (iblk m c 1 t) (iblk m c 2 t) _ _ from rfl) x).trans (state_piece 3 _ _ hg _ _ _ rfl _ _ rfl _ x)
  | 2 => exact (congrFun (show _ = headState 2 (iblk m c 1 t) (iblk m c 2 t) _ _ from rfl) x).trans (state_piece 2 _ _ hg _ _ _ rfl _ _ rfl _ x)
  | 1 => exact (congrFun (show _ = headState 1 (iblk m c 1 t) (iblk m c 2 t) _ _ from rfl) x).trans (state_piece 1 _ _ hg _ _ _ rfl _ _ rfl _ x)
  | 0 => exact (congrFun (show _ = headState 0 (iblk m c 1 t) (iblk m c 2 t) _ _ from rfl) x).trans (state_piece 0 _ _ hg _ _ _ rfl _ _ rfl _ x)

theorem point_7 (c : Dev nD) (t : Fin cfg0.N) (y : S1x16x1024.Idx) (hg : ∀ i, gb m c t i - gb m c t i = 0) (h0 : ∀ i, gb m c t i ≤ 0) :
    (outsAt0 m c t).1 y = stepOut (q3 (iblk m c 0 t)) (q3 (iblk m c 1 t)) (q3 (iblk m c 2 t)) (v3 (iblk m c 3 t)) (v3 (iblk m c 4 t)) (s4 (iblk m c 5 t))
      (g2 (iblk m c 6 t)) (y 1) ⟨(y 2).val / 256, by have := (y 2).isLt; change _ < 1024 at this; omega⟩ ⟨(y 2).val % 256, by omega⟩ := by
  unfold outsAt0
  frame_open
  simp (disch := decide) only [↓ View.readCov_skip, ↓ View.readCov_cons_toLoadRect, ↓ View.readCov_fill]
  frame_out
  canon_tiles y hy
  · refine (congrFun (show _ = headRows 3 (iblk m c 0 t) (iblk m c 1 t) (iblk m c 2 t) _ _ _ _ from rfl) y).trans ?_
    exact (rows_piece 3 _ _ _ hg h0 _ _ _ _ _ rfl _ _ _ rfl _ _ rfl _ y).trans (stepOut_congr hy1 (by simp only [hy2]; omega) (by simp only [hy2]; omega))
  · refine (congrFun (show _ = headRows 2 (iblk m c 0 t) (iblk m c 1 t) (iblk m c 2 t) _ _ _ _ from rfl) y).trans ?_
    exact (rows_piece 2 _ _ _ hg h0 _ _ _ _ _ rfl _ _ _ rfl _ _ rfl _ y).trans (stepOut_congr hy1 (by simp only [hy2]; omega) (by simp only [hy2]; omega))
  · refine (congrFun (show _ = headRows 1 (iblk m c 0 t) (iblk m c 1 t) (iblk m c 2 t) _ _ _ _ from rfl) y).trans ?_
    exact (rows_piece 1 _ _ _ hg h0 _ _ _ _ _ rfl _ _ _ rfl _ _ rfl _ y).trans (stepOut_congr hy1 (by simp only [hy2]; omega) (by simp only [hy2]; omega))
  · refine (congrFun (show _ = headRows 0 (iblk m c 0 t) (iblk m c 1 t) (iblk m c 2 t) _ _ _ _ from rfl) y).trans ?_
    exact (rows_piece 0 _ _ _ hg h0 _ _ _ _ _ rfl _ _ _ rfl _ _ rfl _ y).trans (stepOut_congr hy1 (by simp only [hy2]; omega) (by simp only [hy2]; omega))

/-- Where each window's block lies at a point. -/
theorem idx_val : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0, 0] ∧ win0_6.index t = ![0, 0]
    ∧ win0_7.index t = ![t.val, 0, 0] ∧ win0_8.index t = ![t.val, 0, 0, 0] :=
  (by decide +kernel : ∀ t : Fin grid0.N, _)

/-- The kernel's arguments. -/
abbrev Qa (c : Dev nD) : S8x16x512.Idx → EReal := m (c.tc.loc main_arg0)
abbrev Ka (c : Dev nD) : S8x16x512.Idx → EReal := m (c.tc.loc main_arg1)
abbrev Ga (c : Dev nD) : S8x16x512.Idx → EReal := m (c.tc.loc main_arg2)
abbrev Va (c : Dev nD) : S8x16x1024.Idx → EReal := m (c.tc.loc main_arg3)
abbrev Ra (c : Dev nD) : S8x16x1024.Idx → EReal := m (c.tc.loc main_arg4)
abbrev Sa (c : Dev nD) : S8x4x128x256.Idx → EReal := m (c.tc.loc main_arg5)
abbrev Wa (c : Dev nD) : S1024.Idx → EReal := m (c.tc.loc main_arg6)

/-- The rows of the blocks at a point are those of its batch. -/
theorem q_at (c : Dev nD) (t : Fin cfg0.N) : q3 (iblk m c 0 t) = fun i l => Qa m c (ix3 t i l) := by
  funext i l
  blk_simp [q3, iblk, idx_val t]
  blk_ext [idx_val t]
theorem k_at (c : Dev nD) (t : Fin cfg0.N) : q3 (iblk m c 1 t) = fun i l => Ka m c (ix3 t i l) := by
  funext i l
  blk_simp [q3, iblk, idx_val t]
  blk_ext [idx_val t]
theorem g_at (c : Dev nD) (t : Fin cfg0.N) : q3 (iblk m c 2 t) = fun i l => Ga m c (ix3 t i l) := by
  funext i l
  blk_simp [q3, iblk, idx_val t]
  blk_ext [idx_val t]
theorem v_at (c : Dev nD) (t : Fin cfg0.N) : v3 (iblk m c 3 t) = fun i l => Va m c (ix3 t i l) := by
  funext i l
  blk_simp [v3, iblk, idx_val t]
  blk_ext [idx_val t]
theorem r_at (c : Dev nD) (t : Fin cfg0.N) : v3 (iblk m c 4 t) = fun i l => Ra m c (ix3 t i l) := by
  funext i l
  blk_simp [v3, iblk, idx_val t]
  blk_ext [idx_val t]

/-- The old state's block, transposed. -/
theorem s_at (c : Dev nD) (t : Fin cfg0.N) : s4 (iblk m c 5 t) = fun h e d => Sa m c (ix4 t h d e) := by
  funext h e d
  blk_simp [s4, iblk, idx_val t]
  entry_read
  pointwise []
  blk_ext [idx_val t]
theorem w_at (c : Dev nD) (t : Fin cfg0.N) : g2 (iblk m c 6 t) = fun l => Wa m c (ix1 l) := by
  funext l
  blk_simp [g2, iblk, idx_val t]
  entry_read
  pointwise []
  blk_ext [idx_val t]

/-- A property of all the forget gates holds of those of a block. -/
theorem gb_all (P : EReal → Prop) (c : Dev nD) (t : Fin cfg0.N) (h : ∀ x, P (Ga m c x)) (i : S1x16x512.Idx) : P (gb m c t i) := by
  obtain ⟨a, j, l, rfl⟩ : ∃ a j l, i = ix3 a j l := ⟨_, _, _, eq_ix3 i⟩
  obtain rfl : a = 0 := Subsingleton.elim _ _
  rw [show gb m c t (ix3 0 j l) = Ga m c (ix3 t j l) from congrFun (congrFun (g_at m c t) j) l]
  exact h _

/-- The new states after the run are the reference's, where the forget gates are numbers. -/
theorem final_8 (c : Dev nD) (hg : ∀ x, Ga m c x - Ga m c x = 0) :
    (dats m 0 c).arrAt 8 cfg0.N = stateOf (Ka m c) (Ga m c) (Va m c) (Sa m c) := by
  refine (dats m 0 c).arrAt_eq_of_covers 8 _ (by decide +kernel) fun t hf y => ?_
  blk_simp
  rw [after0_8]
  idx_bounds
  refine (point_8 m c t y (gb_all m (fun z => z - z = 0) c t hg)).trans ?_
  rw [k_at, g_at, v_at, s_at]
  refine (show _ = stateOf (Ka m c) (Ga m c) (Va m c) (Sa m c) (ix4 t (y 1) (y 2) (y 3)) from rfl).trans ?_
  generalize stateOf (Ka m c) (Ga m c) (Va m c) (Sa m c) = A
  blk_ext [idx_val t]

/-- The outputs after the run are the reference's, where the forget gates are numbers and not positive. -/
theorem final_7 (c : Dev nD) (hg : ∀ x, Ga m c x - Ga m c x = 0) (h0 : ∀ x, Ga m c x ≤ 0) :
    (dats m 0 c).arrAt 7 cfg0.N = outOf (Qa m c) (Ka m c) (Ga m c) (Va m c) (Ra m c) (Sa m c) (Wa m c) := by
  refine (dats m 0 c).arrAt_eq_of_covers 7 _ (by decide +kernel) fun t hf y => ?_
  blk_simp
  rw [after0_7]
  idx_bounds
  refine (point_7 m c t y (gb_all m (fun z => z - z = 0) c t hg) (gb_all m (fun z => z ≤ 0) c t h0)).trans ?_
  rw [q_at, k_at, g_at, v_at, r_at, s_at, w_at]
  refine (show _ = outOf (Qa m c) (Ka m c) (Ga m c) (Va m c) (Ra m c) (Sa m c) (Wa m c) (ix3 t (y 1) (y 2)) from rfl).trans ?_
  generalize outOf (Qa m c) (Ka m c) (Ga m c) (Va m c) (Ra m c) (Sa m c) (Wa m c) = A
  blk_ext [idx_val t]

end Cert.StepIdeal.Value

end
-- ==== Proof.AttnSampPoint.lean ====
/- What one grid point of the decoding step's attention stores. -/
module

public import proofs.«01_k».proof.Proof.Common
public import proofs.«01_k».proof.Proof.AttnPoint
public import proofs.«01_k».proof.Proof.Gen.AttnSampIdeal.Value

@[expose] public section

set_option maxRecDepth 16384

noncomputable section

open Idealize.ShloMosaic Idealize.ShloMosaic.TcCoe Idealize.SL.Sem
open Idealize.ShloMosaic.Pipeline (Dat)
open scoped BigOperators

namespace Cert.AttnSampIdeal.Value

open Cert.AttnSampIdeal Cert.AttnSampIdeal.Gen Cert.Common
open Cert.AttnIdeal.Value (soft low sum_low sum_high low_eq high_eq)

/-- Which lanes belong to the first head of a pair, and which to the second. -/
def lo : IVec S16x128 1 := cmpi .slt (iota .tc S16x128 32 [1] iota_S16x128_d1_w32) (broadcast S16x128 64#32)
def hi : IVec S16x128 1 := xori lo (constantI S16x128 1 1#1)

/-- The queries of one head of a pair, the other's lanes zero. -/
def half (hd : IVec S16x128 1) (q : FVec Ideal S1x16x128 .f32) : FVec Ideal S16x128 .bf16 :=
  select hd (truncf .bf16 (shapeCast S16x128 q shapeCasts_S1x16x128_S16x128) bitsLt_bf16_f32) (broadcast S16x128 (Scalar.ofBits .bf16 0x0000#16))

/-- The scores of the cached keys, and of the new ones. -/
def old (q : FVec Ideal S16x128 .bf16) (k : FVec Ideal S1x512x128 .f32) (b : FVec Ideal S1x16x512 .f32) : FVec Ideal S16x512 .f32 :=
  addf (matmul dot_S16x128_S512x128_S16x512_1_1_0_0_n_n none q
    (truncf .bf16 (shapeCast S512x128 k shapeCasts_S1x512x128_S512x128) bitsLt_bf16_f32) (constant S16x512 .f32 0x00000000#32))
    (shapeCast S16x512 b shapeCasts_S1x16x512_S16x512)
def fresh (q : FVec Ideal S16x128 .bf16) (k : FVec Ideal S1x16x128 .f32) (b : FVec Ideal S1x16x16 .f32) : FVec Ideal S16x16 .f32 :=
  addf (matmul dot_S16x128_S16x128_S16x16_1_1_0_0_n_n none q
    (truncf .bf16 (shapeCast S16x128 k shapeCasts_S1x16x128_S16x128) bitsLt_bf16_f32) (constant S16x16 .f32 0x00000000#32))
    (shapeCast S16x16 b shapeCasts_S1x16x16_S16x16)

/-- The greatest score of each row. -/
def top (sc : FVec Ideal S16x512 .f32) (sn : FVec Ideal S16x16 .f32) : FVec Ideal S16x1 .f32 :=
  maximumf (shapeCast S16x1 (multiReduction .maximumf [1] S16 sc 0xFF800000#32 reduces_S16x512_S16 (.inl rfl) rfl) shapeCasts_S16_S16x1)
    (shapeCast S16x1 (multiReduction .maximumf [1] S16 sn 0xFF800000#32 reduces_S16x16_S16 (.inl rfl) rfl) shapeCasts_S16_S16x1)

/-- The exponentials of both parts' scores. -/
def expOld (sc : FVec Ideal S16x512 .f32) (sn : FVec Ideal S16x16 .f32) : FVec Ideal S16x512 .f32 :=
  exp (subf sc (broadcastTo S16x512 (top sc sn) broadcasts_S16x1_S16x512))
def expNew (sc : FVec Ideal S16x512 .f32) (sn : FVec Ideal S16x16 .f32) : FVec Ideal S16x16 .f32 :=
  exp (subf sn (broadcastTo S16x16 (top sc sn) broadcasts_S16x1_S16x16))

/-- The weighted mean of both parts' values. -/
def mean (sc : FVec Ideal S16x512 .f32) (sn : FVec Ideal S16x16 .f32) (vc : FVec Ideal S1x512x128 .f32) (vn : FVec Ideal S1x16x128 .f32) :
    FVec Ideal S16x128 .f32 :=
  divf (addf (matmul dot_S16x512_S512x128_S16x128_1_0_0_1_n_n none (truncf .bf16 (expOld sc sn) bitsLt_bf16_f32)
      (truncf .bf16 (shapeCast S512x128 vc shapeCasts_S1x512x128_S512x128) bitsLt_bf16_f32) (constant S16x128 .f32 0x00000000#32))
    (matmul dot_S16x16_S16x128_S16x128_1_0_0_1_n_n none (truncf .bf16 (expNew sc sn) bitsLt_bf16_f32)
      (truncf .bf16 (shapeCast S16x128 vn shapeCasts_S1x16x128_S16x128) bitsLt_bf16_f32) (constant S16x128 .f32 0x00000000#32)))
    (broadcastTo S16x128 (addf
      (shapeCast S16x1 (multiReduction .add [1] S16 (expOld sc sn) 0x00000000#32 reduces_S16x512_S16 (.inl rfl) rfl) shapeCasts_S16_S16x1)
      (shapeCast S16x1 (multiReduction .add [1] S16 (expNew sc sn) 0x00000000#32 reduces_S16x16_S16 (.inl rfl) rfl) shapeCasts_S16_S16x1))
      broadcasts_S16x1_S16x128)

/-- What is stored for one pair of heads. -/
def rows (q kn vn : FVec Ideal S1x16x128 .f32) (kc vc : FVec Ideal S1x512x128 .f32) (b0 : FVec Ideal S1x16x512 .f32) (b0' : FVec Ideal S1x16x16 .f32)
    (b1 : FVec Ideal S1x16x512 .f32) (b1' : FVec Ideal S1x16x16 .f32) : FVec Ideal S1x16x128 .bf16 :=
  shapeCast S1x16x128 (truncf .bf16 (select lo (mean (old (half lo q) kc b0) (fresh (half lo q) kn b0') vc vn)
    (mean (old (half hi q) kc b1) (fresh (half hi q) kn b1') vc vn)) bitsLt_bf16_f32) shapeCasts_S16x128_S1x16x128

/-- A sum over all the keys is a sum over the cached ones and one over the new ones. -/
theorem sum_parts (f : Fin 528 → EReal) : ∑ j, f j = (∑ j : Fin 512, f ⟨j.val, by omega⟩) + ∑ j : Fin 16, f ⟨512 + j.val, by omega⟩ :=
  Fin.sum_univ_add (a := 512) (b := 16) f

/-- And so is the greatest. -/
theorem max_parts (z : EReal) (f : Fin 528 → EReal) : Finset.univ.fold max z f
    = max (Finset.univ.fold max z fun j : Fin 512 => f ⟨j.val, by omega⟩) (Finset.univ.fold max z fun j : Fin 16 => f ⟨512 + j.val, by omega⟩) := by
  refine le_antisymm ?_ (max_le ?_ ?_)
  · refine Finset.fold_max_le _ |>.mpr ⟨le_max_of_le_left (Finset.le_fold_max _ |>.mpr (.inl le_rfl)), fun j _ => ?_⟩
    by_cases h : j.val < 512
    · exact le_max_of_le_left (Finset.le_fold_max _ |>.mpr (.inr ⟨⟨j.val, h⟩, Finset.mem_univ _, le_rfl⟩))
    · refine le_max_of_le_right (Finset.le_fold_max _ |>.mpr (.inr ⟨⟨j.val - 512, by omega⟩, Finset.mem_univ _, le_of_eq ?_⟩))
      exact congrArg f (Fin.ext (by show j.val = 512 + (j.val - 512); omega))
  all_goals exact Finset.fold_max_le _ |>.mpr ⟨Finset.le_fold_max _ |>.mpr (.inl le_rfl), fun j _ =>
    Finset.le_fold_max _ |>.mpr (.inr ⟨_, Finset.mem_univ _, le_rfl⟩)⟩

theorem top_at (sc : FVec Ideal S16x512 .f32) (sn : FVec Ideal S16x16 .f32) (s : Fin 528 → EReal) (i : Fin 16)
    (hs : ∀ j : Fin 512, (sc (ix2 i j) : EReal) = s ⟨j.val, by omega⟩) (hn : ∀ j : Fin 16, (sn (ix2 i j) : EReal) = s ⟨512 + j.val, by omega⟩) :
    (top sc sn (ix2 i 0) : EReal) = Finset.univ.fold max (Ideal.ofBits .f32 4286578688#32) s := by
  unfold top
  pointwise []
  rw [max_parts]
  simp only [hs, hn]

theorem mean_at (sc : FVec Ideal S16x512 .f32) (sn : FVec Ideal S16x16 .f32) (vc : FVec Ideal S1x512x128 .f32) (vn : FVec Ideal S1x16x128 .f32)
    (s v : Fin 528 → EReal) (i : Fin 16) (d : Fin 128)
    (hs : ∀ j : Fin 512, (sc (ix2 i j) : EReal) = s ⟨j.val, by omega⟩) (hn : ∀ j : Fin 16, (sn (ix2 i j) : EReal) = s ⟨512 + j.val, by omega⟩)
    (hv : ∀ j : Fin 512, (vc (ix3 0 j d) : EReal) = v ⟨j.val, by omega⟩) (hw : ∀ j : Fin 16, (vn (ix3 0 j d) : EReal) = v ⟨512 + j.val, by omega⟩) :
    (mean sc sn vc vn (ix2 i d) : EReal) = soft s v := by
  unfold mean expOld expNew
  pointwise []
  simp only [hs, hn, hv, hw, top_at sc sn s i hs hn]
  unfold soft
  rw [sum_parts, sum_parts]

/-- A product with a lane that counts or is zero. -/
theorem select_mul (b : BitVec 1) (x y : EReal) : Scalar.select b x 0 * y = Scalar.select b (x * y) 0 := by
  unfold Scalar.select
  split <;> simp

theorem lo_at (i : Fin 16) (l : Fin 128) : lo (ix2 i l) = low l := by
  pointwise [lo]
  rfl
theorem hi_at (i : Fin 16) (l : Fin 128) : hi (ix2 i l) = IntOp.xori (low l) 1#1 := by
  pointwise [hi]
  rw [lo_at]

theorem old_at (hd : IVec S16x128 1) (q : FVec Ideal S1x16x128 .f32) (k : FVec Ideal S1x512x128 .f32) (b : FVec Ideal S1x16x512 .f32) (i : Fin 16) (j : Fin 512) :
    (old (half hd q) k b (ix2 i j) : EReal)
      = (∑ l : Fin 128, Scalar.select (hd (ix2 i l)) ((q (ix3 0 i l) : EReal) * k (ix3 0 j l)) (0 : EReal)) + b (ix3 0 i j) := by
  unfold old half
  simp only [← select_mul]
  pointwise []

theorem fresh_at (hd : IVec S16x128 1) (q : FVec Ideal S1x16x128 .f32) (k : FVec Ideal S1x16x128 .f32) (b : FVec Ideal S1x16x16 .f32) (i : Fin 16) (j : Fin 16) :
    (fresh (half hd q) k b (ix2 i j) : EReal)
      = (∑ l : Fin 128, Scalar.select (hd (ix2 i l)) ((q (ix3 0 i l) : EReal) * k (ix3 0 j l)) (0 : EReal)) + b (ix3 0 i j) := by
  unfold fresh half
  simp only [← select_mul]
  pointwise []

/-- The score of key `j` for row `i` of the queries in column `n`'s head. -/
def score (Q : Fin 16 → Fin 1024 → EReal) (K : Fin 528 → Fin 1024 → EReal) (B : Fin 16 → Fin 16 → Fin 528 → EReal) (i : Fin 16) (n : Fin 1024)
    (j : Fin 528) : EReal :=
  (∑ d : Fin 64, Q i ⟨n.val / 64 * 64 + d.val, by omega⟩ * K j ⟨n.val / 64 * 64 + d.val, by omega⟩) + B ⟨n.val / 64, by omega⟩ i j

/-- One head of a pair, the head being `2 p + g`. -/
theorem head_at (p : Fin 8) (g : Fin 2) (hd : IVec S16x128 1) (i : Fin 16)
    (hh : ∀ f : Fin 128 → EReal, ∑ l, Scalar.select (hd (ix2 i l)) (f l) 0 = ∑ d : Fin 64, f ⟨64 * g.val + d.val, by omega⟩)
    (Q : Fin 16 → Fin 1024 → EReal) (K V : Fin 528 → Fin 1024 → EReal) (B : Fin 16 → Fin 16 → Fin 528 → EReal)
    (q kn vn : FVec Ideal S1x16x128 .f32) (kc vc : FVec Ideal S1x512x128 .f32) (b : FVec Ideal S1x16x512 .f32) (b' : FVec Ideal S1x16x16 .f32)
    (hq : ∀ l : Fin 128, (q (ix3 0 i l) : EReal) = Q i ⟨128 * p.val + l.val, by omega⟩)
    (hk : ∀ (j : Fin 512) (l : Fin 128), (kc (ix3 0 j l) : EReal) = K ⟨j.val, by omega⟩ ⟨128 * p.val + l.val, by omega⟩)
    (hk' : ∀ (j : Fin 16) (l : Fin 128), (kn (ix3 0 j l) : EReal) = K ⟨512 + j.val, by omega⟩ ⟨128 * p.val + l.val, by omega⟩)
    (hv : ∀ (j : Fin 512) (l : Fin 128), (vc (ix3 0 j l) : EReal) = V ⟨j.val, by omega⟩ ⟨128 * p.val + l.val, by omega⟩)
    (hv' : ∀ (j : Fin 16) (l : Fin 128), (vn (ix3 0 j l) : EReal) = V ⟨512 + j.val, by omega⟩ ⟨128 * p.val + l.val, by omega⟩)
    (hb : ∀ j : Fin 512, (b (ix3 0 i j) : EReal) = B ⟨2 * p.val + g.val, by omega⟩ i ⟨j.val, by omega⟩)
    (hb' : ∀ j : Fin 16, (b' (ix3 0 i j) : EReal) = B ⟨2 * p.val + g.val, by omega⟩ i ⟨512 + j.val, by omega⟩)
    (d : Fin 128) (n : Fin 1024) (hn : n.val = 128 * p.val + d.val) (hg : n.val / 64 = 2 * p.val + g.val) :
    (mean (old (half hd q) kc b) (fresh (half hd q) kn b') vc vn (ix2 i d) : EReal) = soft (score Q K B i n) fun j => V j n := by
  have e (x : Fin 64) : (⟨128 * p.val + (64 * g.val + x.val), by omega⟩ : Fin 1024) = ⟨n.val / 64 * 64 + x.val, by omega⟩ :=
    Fin.ext (by show 128 * p.val + (64 * g.val + x.val) = n.val / 64 * 64 + x.val; omega)
  have en : (⟨128 * p.val + d.val, by omega⟩ : Fin 1024) = n := Fin.ext hn.symm
  have eb : (⟨2 * p.val + g.val, by omega⟩ : Fin 16) = ⟨n.val / 64, by omega⟩ := Fin.ext hg.symm
  refine mean_at _ _ _ _ _ _ i d (fun j => ?_) (fun j => ?_) (fun j => ?_) (fun j => ?_)
  · rw [old_at, hh]
    unfold score
    simp only [hq, hk, hb, e, eb]
  · rw [fresh_at, hh]
    unfold score
    simp only [hq, hk', hb', e, eb]
  · rw [hv, en]
  · rw [hv', en]

/-- Both heads of a pair. -/
theorem rows_at (p : Fin 8) (i : Fin 16)
    (Q : Fin 16 → Fin 1024 → EReal) (K V : Fin 528 → Fin 1024 → EReal) (B : Fin 16 → Fin 16 → Fin 528 → EReal)
    (q kn vn : FVec Ideal S1x16x128 .f32) (kc vc : FVec Ideal S1x512x128 .f32) (b0 : FVec Ideal S1x16x512 .f32) (b0' : FVec Ideal S1x16x16 .f32)
    (b1 : FVec Ideal S1x16x512 .f32) (b1' : FVec Ideal S1x16x16 .f32)
    (hq : ∀ l : Fin 128, (q (ix3 0 i l) : EReal) = Q i ⟨128 * p.val + l.val, by omega⟩)
    (hk : ∀ (j : Fin 512) (l : Fin 128), (kc (ix3 0 j l) : EReal) = K ⟨j.val, by omega⟩ ⟨128 * p.val + l.val, by omega⟩)
    (hk' : ∀ (j : Fin 16) (l : Fin 128), (kn (ix3 0 j l) : EReal) = K ⟨512 + j.val, by omega⟩ ⟨128 * p.val + l.val, by omega⟩)
    (hv : ∀ (j : Fin 512) (l : Fin 128), (vc (ix3 0 j l) : EReal) = V ⟨j.val, by omega⟩ ⟨128 * p.val + l.val, by omega⟩)
    (hv' : ∀ (j : Fin 16) (l : Fin 128), (vn (ix3 0 j l) : EReal) = V ⟨512 + j.val, by omega⟩ ⟨128 * p.val + l.val, by omega⟩)
    (hb0 : ∀ j : Fin 512, (b0 (ix3 0 i j) : EReal) = B ⟨2 * p.val + (0 : Fin 2).val, by omega⟩ i ⟨j.val, by omega⟩)
    (hb0' : ∀ j : Fin 16, (b0' (ix3 0 i j) : EReal) = B ⟨2 * p.val + (0 : Fin 2).val, by omega⟩ i ⟨512 + j.val, by omega⟩)
    (hb1 : ∀ j : Fin 512, (b1 (ix3 0 i j) : EReal) = B ⟨2 * p.val + (1 : Fin 2).val, by omega⟩ i ⟨j.val, by omega⟩)
    (hb1' : ∀ j : Fin 16, (b1' (ix3 0 i j) : EReal) = B ⟨2 * p.val + (1 : Fin 2).val, by omega⟩ i ⟨512 + j.val, by omega⟩)
    (d : Fin 128) (n : Fin 1024) (hn : n.val = 128 * p.val + d.val) :
    (rows q kn vn kc vc b0 b0' b1 b1' (ix3 0 i d) : EReal) = soft (score Q K B i n) fun j => V j n := by
  unfold rows
  pointwise []
  rw [lo_at, low_eq]
  split <;> rename_i hd
  · exact head_at p 0 lo i (fun f => by simp only [lo_at]; exact sum_low f) Q K V B q kn vn kc vc b0 b0' hq hk hk' hv hv' hb0 hb0' d n hn
      (by show _ = 2 * p.val + 0; omega)
  · exact head_at p 1 hi i (fun f => by simp only [hi_at]; exact sum_high f) Q K V B q kn vn kc vc b1 b1' hq hk hk' hv hv' hb1 hb1' d n hn
      (by show _ = 2 * p.val + 1; omega)

/-- The queries at a point by row and column, the cached and the new keys in one row of keys, and their biases. -/
abbrev qOf (x : S1x16x1024.Idx → EReal) (i : Fin 16) (n : Fin 1024) : EReal := x (ix3 0 i n)
def kOf (x : S1x512x1024.Idx → EReal) (y : S1x16x1024.Idx → EReal) (j : Fin 528) (n : Fin 1024) : EReal :=
  if h : j.val < 512 then x (ix3 0 ⟨j.val, h⟩ n) else y (ix3 0 ⟨j.val - 512, by omega⟩ n)
def bOf (x : S16x16x512.Idx → EReal) (y : S16x16x16.Idx → EReal) (h i : Fin 16) (j : Fin 528) : EReal :=
  if hj : j.val < 512 then x (ix3 h i ⟨j.val, hj⟩) else y (ix3 h i ⟨j.val - 512, by omega⟩)

theorem kOf_old (x y) (j : Fin 512) (n : Fin 1024) : kOf x y ⟨j.val, by omega⟩ n = x (ix3 0 j n) := dif_pos j.isLt
theorem kOf_new (x y) (j : Fin 16) (n : Fin 1024) : kOf x y ⟨512 + j.val, by omega⟩ n = y (ix3 0 j n) :=
  (dif_neg (by show ¬ 512 + j.val < 512; omega)).trans (congrArg (fun i => y (ix3 0 i n)) (Fin.ext (by show 512 + j.val - 512 = j.val; omega)))
theorem bOf_old (x y h i) (j : Fin 512) : bOf x y h i ⟨j.val, by omega⟩ = x (ix3 h i j) := dif_pos j.isLt
theorem bOf_new (x y h i) (j : Fin 16) : bOf x y h i ⟨512 + j.val, by omega⟩ = y (ix3 h i j) :=
  (dif_neg (by show ¬ 512 + j.val < 512; omega)).trans (congrArg (fun l => y (ix3 h i l)) (Fin.ext (by show 512 + j.val - 512 = j.val; omega)))

/-- One pair's piece of the block, the loads at the pair's offsets. -/
theorem piece (p : Fin 8) (x0 x1 x2 : S1x16x1024.Idx → EReal) (x3 x4 : S1x512x1024.Idx → EReal) (x5 : S16x16x512.Idx → EReal) (x6 : S16x16x16.Idx → EReal)
    (o : Fin 3 → ℕ) (ho : o = ![0, 0, 128 * p.val]) (oa : Fin 3 → ℕ) (ha : oa = ![2 * p.val, 0, 0]) (ob : Fin 3 → ℕ) (hb : ob = ![2 * p.val + 1, 0, 0])
    (i0 i3 ia ia' ib ib') (i : Fin 16) (d : Fin 128) (n : Fin 1024) (hn : n.val = 128 * p.val + d.val) :
    (rows (View.ld (Val := Elt Ideal) (S := S1x16x1024) (e' := .f32) x0 (Rect.unit (s := S1x16x1024) o S1x16x128.size i0))
      (View.ld (Val := Elt Ideal) (S := S1x16x1024) (e' := .f32) x1 (Rect.unit (s := S1x16x1024) o S1x16x128.size i0))
      (View.ld (Val := Elt Ideal) (S := S1x16x1024) (e' := .f32) x2 (Rect.unit (s := S1x16x1024) o S1x16x128.size i0))
      (View.ld (Val := Elt Ideal) (S := S1x512x1024) (e' := .f32) x3 (Rect.unit (s := S1x512x1024) o S1x512x128.size i3))
      (View.ld (Val := Elt Ideal) (S := S1x512x1024) (e' := .f32) x4 (Rect.unit (s := S1x512x1024) o S1x512x128.size i3))
      (View.ld (Val := Elt Ideal) (S := S16x16x512) (e' := .f32) x5 (Rect.unit (s := S16x16x512) oa S1x16x512.size ia))
      (View.ld (Val := Elt Ideal) (S := S16x16x16) (e' := .f32) x6 (Rect.unit (s := S16x16x16) oa S1x16x16.size ia'))
      (View.ld (Val := Elt Ideal) (S := S16x16x512) (e' := .f32) x5 (Rect.unit (s := S16x16x512) ob S1x16x512.size ib))
      (View.ld (Val := Elt Ideal) (S := S16x16x16) (e' := .f32) x6 (Rect.unit (s := S16x16x16) ob S1x16x16.size ib')) (ix3 0 i d) : EReal)
      = soft (score (qOf x0) (kOf x3 x1) (bOf x5 x6) i n) fun j => kOf x4 x2 j n := by
  subst ho ha hb
  refine rows_at p i (qOf x0) (kOf x3 x1) (kOf x4 x2) (bOf x5 x6) _ _ _ _ _ _ _ _ _ (fun l => ?_) (fun j l => ?_) (fun j l => ?_) (fun j l => ?_)
    (fun j l => ?_) (fun j => ?_) (fun j => ?_) (fun j => ?_) (fun j => ?_) d n hn
  all_goals simp only [kOf_old, kOf_new, bOf_old, bOf_new]
  all_goals pointwise []

end Cert.AttnSampIdeal.Value

end
-- ==== Proof.AttnSampRef.lean ====
/- The reference of the decoding step's attention, entry by entry. -/
module

public import proofs.«01_k».proof.Proof.Common
public import proofs.«01_k».proof.Proof.AttnRef
public import proofs.«01_k».proof.Proof.Gen.AttnSampRefIdeal.Run

@[expose] public section

set_option maxRecDepth 16384

noncomputable section

open Idealize.ShloMosaic Idealize.ShloMosaic.TcCoe Idealize.SL.Sem
open scoped BigOperators

namespace Cert.AttnSampRef

open Cert.AttnSampRefIdeal Cert.AttnSampRefIdeal.Gen Cert.Common

/-- The cached keys or values and the new ones after them, the heads apart. -/
def joined (X : FVec Ideal S8x512x16x64 .f32) (Y : FVec Ideal S8x16x1024 .f32) : FVec Ideal S8x528x16x64 .f32 :=
  concatenate S8x528x16x64 1 [⟨S8x512x16x64, X⟩, ⟨S8x16x16x64, (shapeCast _ Y shapeCasts_S8x16x1024_S8x16x16x64 : FVec Ideal S8x16x16x64 .f32)⟩]
    concatenates_S8x512x16x64_S8x16x16x64_S8x528x16x64_d1

/-- How far each query is from each key, kept within the table. -/
abbrev dist : IVec S16x528 32 :=
  addi (minsi (broadcastInDim S16x528 ![] bcast_S_S16x528 (id (constantI S_ 32 128#32)))
    (maxsi (broadcastInDim S16x528 ![] bcast_S_S16x528 (id (constantI S_ 32 4294967168#32)))
      (subi (broadcastInDim S16x528 ![0, 1] bcast_S16x1_S16x528_0_1 (broadcastInDim S16x1 ![0] bcast_S16_S16x1_0
          (addi (broadcastInDim S16 ![] bcast_S_S16 (constantI S_ 32 512#32)) (iotaInDim S16 32 0))))
        (broadcastInDim S16x528 ![0, 1] bcast_S1x528_S16x528_0_1 (broadcastInDim S1x528 ![1] bcast_S528_S1x528_1 (iotaInDim S528 32 0))))))
    (broadcastInDim S16x528 ![] bcast_S_S16x528 (constantI S_ 32 128#32))

/-- The distance bias: a head's entry of the table for each query and key. -/
def bias (tbl : FVec Ideal S257x16 .f32) : FVec Ideal S16x16x528 .f32 :=
  transpose S16x16x528 [2, 0, 1] (Host.gather gather_S257x16_S16x528x1_S16x528x16_2_0_n_n_0_2_116 tbl
    (broadcastInDim S16x528x1 ![0, 1] bcast_S16x528_S16x528x1_0_1
      (select (cmpi .slt dist (broadcastInDim S16x528 ![] bcast_S_S16x528 (constantI S_ 32 0#32)))
        (addi dist (broadcastInDim S16x528 ![] bcast_S_S16x528 (constantI S_ 32 257#32))) dist)))
    transposes_S16x528x16_S16x16x528_2_0_1

/-- The scores. -/
def scores (Q : FVec Ideal S8x16x1024 .f32) (K : FVec Ideal S8x528x16x64 .f32) (B : FVec Ideal S16x16x528 .f32) : FVec Ideal S8x16x16x528 .f32 :=
  addf (Host.dotGeneral dot_S8x16x16x64_S8x528x16x64_S8x16x16x528_3_3_1_1_02_02 none (shapeCast _ Q shapeCasts_S8x16x1024_S8x16x16x64) K)
    (broadcastInDim S8x16x16x528 ![0, 1, 2, 3] bcast_S1x16x16x528_S8x16x16x528_0_1_2_3
      (broadcastInDim S1x16x16x528 ![1, 2, 3] bcast_S16x16x528_S1x16x16x528_1_2_3 B))

/-- The greatest score of each row. -/
def tops (S : FVec Ideal S8x16x16x528 .f32) : FVec Ideal S8x16x16 .f32 :=
  Host.reduce FloatOps.maximumf S (constant S_ .f32 0xFF800000#32) reducesTo_S8x16x16x528_S8x16x16_d3 h_S_

/-- The exponentials of scores less a number for each row. -/
def exps (S : FVec Ideal S8x16x16x528 .f32) (T : FVec Ideal S8x16x16 .f32) : FVec Ideal S8x16x16x528 .f32 :=
  Host.exp (subf S (broadcastInDim S8x16x16x528 ![0, 1, 2, 3] bcast_S8x16x16x1_S8x16x16x528_0_1_2_3
    (broadcastInDim S8x16x16x1 ![0, 1, 2] bcast_S8x16x16_S8x16x16x1_0_1_2
      (maximumf (broadcastInDim S8x16x16 ![] bcast_S_S8x16x16 (constant S_ .f32 0xFF800000#32)) T))))

/-- The weights, each row's sum one. -/
def weights (E : FVec Ideal S8x16x16x528 .f32) : FVec Ideal S8x16x16x528 .f32 :=
  Host.divf E (broadcastInDim S8x16x16x528 ![0, 1, 2, 3] bcast_S8x16x16x1_S8x16x16x528_0_1_2_3
    (broadcastInDim S8x16x16x1 ![0, 1, 2] bcast_S8x16x16_S8x16x16x1_0_1_2
      (Host.reduceAdd E (constant S_ .f32 0x00000000#32) reducesTo_S8x16x16x528_S8x16x16_d3 h_S_)))

/-- The averages of the values. -/
def average (V : FVec Ideal S8x528x16x64 .f32) (W : FVec Ideal S8x16x16x528 .f32) : FVec Ideal S8x16x1024 .bf16 :=
  truncf .bf16 (shapeCast _ (transpose S8x16x16x64 [0, 3, 1, 2]
    (Host.dotGeneral dot_S8x528x16x64_S8x16x16x528_S8x16x64x16_1_3_3_2_02_01 none V W)
    transposes_S8x16x64x16_S8x16x16x64_0_3_1_2) shapeCasts_S8x16x16x64_S8x16x1024) bitsLt_bf16_f32

/-- The reference, the new keys and values before the cached ones among its arguments. -/
def attn (Q Kn Vn : FVec Ideal S8x16x1024 .f32) (Kc Vc : FVec Ideal S8x512x16x64 .f32) (tbl : FVec Ideal S257x16 .f32) : FVec Ideal S8x16x1024 .bf16 :=
  average (joined Vc Vn) (weights (exps (scores Q (joined Kc Kn) (bias tbl)) (tops (scores Q (joined Kc Kn) (bias tbl)))))

theorem res_eq (m : (ℓ : Loc nD τ sig) → Buf (Elt Ideal) ℓ) (c : Dev nD) :
    Cert.AttnSampRefIdeal.Value.res_out0 m c = attn (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

theorem joined_old (X : FVec Ideal S8x512x16x64 .f32) (Y : FVec Ideal S8x16x1024 .f32) (b : Fin 8) (j : Fin 512) (h : Fin 16) (d : Fin 64) :
    joined X Y (ix4 b ⟨j.val, by omega⟩ h d) = X (ix4 b j h d) := by
  refine concatenate_pair_apply_left (t := S8x528x16x64) (1 : Fin 4) X _ _ _ rfl (ix4 b j h d) fun a => ?_
  match a with
  | ⟨0, _⟩ => rfl
  | ⟨1, _⟩ => rfl
  | ⟨2, _⟩ => rfl
  | ⟨3, _⟩ => rfl

theorem joined_new (X : FVec Ideal S8x512x16x64 .f32) (Y : FVec Ideal S8x16x1024 .f32) (b : Fin 8) (j : Fin 16) (h : Fin 16) (d : Fin 64) :
    joined X Y (ix4 b ⟨512 + j.val, by omega⟩ h d) = Y (ix3 b j ⟨h.val * 64 + d.val, by omega⟩) := by
  refine (concatenate_pair_apply_right (t := S8x528x16x64) (s₁ := S8x512x16x64) (s₂ := S8x16x16x64) (1 : Fin 4) X _ _ _ rfl rfl (ix4 b j h d) (fun a ha => ?_) ?_).trans ?_
  · match a with
    | ⟨0, _⟩ => rfl
    | ⟨1, _⟩ => exact absurd rfl ha
    | ⟨2, _⟩ => rfl
    | ⟨3, _⟩ => rfl
  · show j.val + 512 = 512 + j.val; omega
  · pointwise []

/-- A property of all the cached and all the new entries holds of all the joined ones. -/
theorem joined_all (P : EReal → Prop) (X : FVec Ideal S8x512x16x64 .f32) (Y : FVec Ideal S8x16x1024 .f32) (hX : ∀ x, P (X x)) (hY : ∀ y, P (Y y))
    (b : Fin 8) (j : Fin 528) (h : Fin 16) (d : Fin 64) : P (joined X Y (ix4 b j h d)) := by
  by_cases hj : j.val < 512
  · exact (joined_old X Y b ⟨j.val, hj⟩ h d).symm ▸ hX _
  · have e : (⟨512 + (j.val - 512), by omega⟩ : Fin 528) = j := Fin.ext (by show 512 + (j.val - 512) = j.val; omega)
    have := joined_new X Y b ⟨j.val - 512, by omega⟩ h d
    dsimp only at this
    rw [e] at this
    exact this.symm ▸ hY _

theorem average_at (V : FVec Ideal S8x528x16x64 .f32) (W : FVec Ideal S8x16x16x528 .f32) (b : Fin 8) (i : Fin 16) (n : Fin 1024) :
    average V W (ix3 b i n) = ∑ j : Fin 528, V (ix4 b j ⟨n.val / 64, by omega⟩ ⟨n.val % 64, by omega⟩) * W (ix4 b ⟨n.val / 64, by omega⟩ i j) := by
  pointwise [average]

theorem weights_at (E : FVec Ideal S8x16x16x528 .f32) (b : Fin 8) (h i : Fin 16) (j : Fin 528) :
    weights E (ix4 b h i j) = Ideal.div (E (ix4 b h i j)) (∑ j : Fin 528, E (ix4 b h i j)) := by
  pointwise [weights]

theorem tops_at (S : FVec Ideal S8x16x16x528 .f32) (b : Fin 8) (h i : Fin 16) :
    tops S (ix3 b h i) = Finset.univ.fold max ⊥ fun j => S (ix4 b h i j) := by
  have hr : S8x16x16x528.Reduces [3] S8x16x16 := by decide
  have e : ∀ k : Fin 528, hr.lift (ix3 b h i) k = ix4 b h i k := fun k => by
    funext a
    refine Fin.ext ?_
    refine (Shape.Reduces.lift_val hr (ix3 b h i) k a).trans ?_
    match a with
    | ⟨0, _⟩ => rfl
    | ⟨1, _⟩ => rfl
    | ⟨2, _⟩ => rfl
    | ⟨3, _⟩ => rfl
  unfold tops
  rw [← Cert.AttnRef.bits_bot]
  refine (Host.reduce_eq_fold_single (FloatOps.maximumf (F := Ideal) (φ := .f32)) S _ _ hr _ _).trans ?_
  exact congrArg (Finset.fold max (Ideal.ofBits .f32 4286578688#32) · Finset.univ) (funext fun k => congrArg S (e k))

theorem exps_at (S : FVec Ideal S8x16x16x528 .f32) (T : FVec Ideal S8x16x16 .f32) (b : Fin 8) (h i : Fin 16) (j : Fin 528) :
    exps S T (ix4 b h i j) = Ideal.exp (S (ix4 b h i j) - T (ix3 b h i)) := by
  pointwise [exps]
  rw [Cert.AttnRef.bits_bot, max_eq_right bot_le]

/-- The score of key `j` for query `i` in column `n`'s head. -/
def score (Q : S8x16x1024.Idx → EReal) (K : S8x528x16x64.Idx → EReal) (B : S16x16x528.Idx → EReal) (b : Fin 8) (i : Fin 16) (n : Fin 1024) (j : Fin 528) : EReal :=
  (∑ d : Fin 64, Q (ix3 b i ⟨n.val / 64 * 64 + d.val, by omega⟩) * K (ix4 b j ⟨n.val / 64, by omega⟩ d)) + B (ix3 ⟨n.val / 64, by omega⟩ i j)

theorem scores_at (Q : FVec Ideal S8x16x1024 .f32) (K : FVec Ideal S8x528x16x64 .f32) (B : FVec Ideal S16x16x528 .f32) (b : Fin 8) (i : Fin 16) (n : Fin 1024) (j : Fin 528) :
    scores Q K B (ix4 b ⟨n.val / 64, by omega⟩ i j) = score Q K B b i n j := by
  unfold score
  pointwise [scores]

/-- The reference, one entry. -/
theorem attn_at (Q Kn Vn : FVec Ideal S8x16x1024 .f32) (Kc Vc : FVec Ideal S8x512x16x64 .f32) (tbl : FVec Ideal S257x16 .f32) (b : Fin 8) (i : Fin 16) (n : Fin 1024) :
    attn Q Kn Vn Kc Vc tbl (ix3 b i n) = ∑ j : Fin 528, joined Vc Vn (ix4 b j ⟨n.val / 64, by omega⟩ ⟨n.val % 64, by omega⟩) *
      Ideal.div (Ideal.exp (score Q (joined Kc Kn) (bias tbl) b i n j - Finset.univ.fold max ⊥ (score Q (joined Kc Kn) (bias tbl) b i n)))
        (∑ j : Fin 528, Ideal.exp (score Q (joined Kc Kn) (bias tbl) b i n j - Finset.univ.fold max ⊥ (score Q (joined Kc Kn) (bias tbl) b i n))) := by
  unfold attn
  refine (average_at _ _ b i n).trans ?_
  simp only [weights_at, exps_at, tops_at, scores_at]

/-- Every entry of the bias is an entry of the table. -/
theorem bias_mem (tbl : FVec Ideal S257x16 .f32) (y : S16x16x528.Idx) : ∃ u, bias tbl y = tbl u := ⟨_, rfl⟩

end Cert.AttnSampRef

end
-- ==== Proof.AttnSampValue.lean ====
/- The result of the decoding step's attention over whole arrays, and the reference's beside it. -/
module

public import proofs.«01_k».proof.Proof.AttnValue
public import proofs.«01_k».proof.Proof.AttnSampPoint
public import proofs.«01_k».proof.Proof.AttnSampRef

@[expose] public section

set_option maxRecDepth 16384

noncomputable section

open Idealize.ShloMosaic Idealize.ShloMosaic.TcCoe Idealize.SL.Sem
open Idealize.ShloMosaic.Pipeline (Dat)
open scoped BigOperators

namespace Cert.AttnSampIdeal.Value

open Cert.AttnSampIdeal Cert.AttnSampIdeal.Gen Cert.Common
open Cert.AttnIdeal.Value (soft)

variable (m : (ℓ : Loc nD τ sig) → Buf (Elt Ideal) ℓ)

/-- One pair's piece, by the index it has in the whole block. -/
theorem part (p : Fin 8) (x0 x1 x2 : S1x16x1024.Idx → EReal) (x3 x4 : S1x512x1024.Idx → EReal) (x5 : S16x16x512.Idx → EReal) (x6 : S16x16x16.Idx → EReal)
    (o : Fin 3 → ℕ) (ho : o = ![0, 0, 128 * p.val]) (oa : Fin 3 → ℕ) (ha : oa = ![2 * p.val, 0, 0]) (ob : Fin 3 → ℕ) (hb : ob = ![2 * p.val + 1, 0, 0])
    (i0 i3 ia ia' ib ib') (x : S1x16x128.Idx) (y : S1x16x1024.Idx) (h1 : (y 1 : ℕ) = x 1) (h2 : (y 2 : ℕ) = 128 * p.val + (x 2 : ℕ)) :
    rows (View.ld (Val := Elt Ideal) (S := S1x16x1024) (e' := .f32) x0 (Rect.unit (s := S1x16x1024) o S1x16x128.size i0))
      (View.ld (Val := Elt Ideal) (S := S1x16x1024) (e' := .f32) x1 (Rect.unit (s := S1x16x1024) o S1x16x128.size i0))
      (View.ld (Val := Elt Ideal) (S := S1x16x1024) (e' := .f32) x2 (Rect.unit (s := S1x16x1024) o S1x16x128.size i0))
      (View.ld (Val := Elt Ideal) (S := S1x512x1024) (e' := .f32) x3 (Rect.unit (s := S1x512x1024) o S1x512x128.size i3))
      (View.ld (Val := Elt Ideal) (S := S1x512x1024) (e' := .f32) x4 (Rect.unit (s := S1x512x1024) o S1x512x128.size i3))
      (View.ld (Val := Elt Ideal) (S := S16x16x512) (e' := .f32) x5 (Rect.unit (s := S16x16x512) oa S1x16x512.size ia))
      (View.ld (Val := Elt Ideal) (S := S16x16x16) (e' := .f32) x6 (Rect.unit (s := S16x16x16) oa S1x16x16.size ia'))
      (View.ld (Val := Elt Ideal) (S := S16x16x512) (e' := .f32) x5 (Rect.unit (s := S16x16x512) ob S1x16x512.size ib))
      (View.ld (Val := Elt Ideal) (S := S16x16x16) (e' := .f32) x6 (Rect.unit (s := S16x16x16) ob S1x16x16.size ib')) x
      = soft (score (qOf x0) (kOf x3 x1) (bOf x5 x6) (y 1) (y 2)) fun j => kOf x4 x2 j (y 2) := by
  obtain ⟨a, i, d, rfl⟩ : ∃ a i d, x = ix3 a i d := ⟨_, _, _, eq_ix3 x⟩
  obtain rfl : a = 0 := Subsingleton.elim _ _
  refine (piece p x0 x1 x2 x3 x4 x5 x6 o ho oa ha ob hb i0 i3 ia ia' ib ib' i d (y 2) h2).trans ?_
  rw [show i = y 1 from Fin.ext h1.symm]

/-- What a grid point stores: each pair of heads in its columns. -/
theorem point (x0 x1 x2 : S1x16x1024.Idx → EReal) (x3 x4 : S1x512x1024.Idx → EReal) (x5 : S16x16x512.Idx → EReal) (x6 : S16x16x16.Idx → EReal)
    (y : S1x16x1024.Idx) : out0_7 (F := Ideal) x0 x1 x2 x3 x4 x5 x6 y = soft (score (qOf x0) (kOf x3 x1) (bOf x5 x6) (y 1) (y 2)) fun j => kOf x4 x2 j (y 2) := by
  canon_tiles x hx
  all_goals open_payloads
  · exact part 7 _ _ _ _ _ _ _ _ rfl _ rfl _ rfl _ _ _ _ _ _ x y hx1 hx2
  · exact part 6 _ _ _ _ _ _ _ _ rfl _ rfl _ rfl _ _ _ _ _ _ x y hx1 hx2
  · exact part 5 _ _ _ _ _ _ _ _ rfl _ rfl _ rfl _ _ _ _ _ _ x y hx1 hx2
  · exact part 4 _ _ _ _ _ _ _ _ rfl _ rfl _ rfl _ _ _ _ _ _ x y hx1 hx2
  · exact part 3 _ _ _ _ _ _ _ _ rfl _ rfl _ rfl _ _ _ _ _ _ x y hx1 hx2
  · exact part 2 _ _ _ _ _ _ _ _ rfl _ rfl _ rfl _ _ _ _ _ _ x y hx1 hx2
  · exact part 1 _ _ _ _ _ _ _ _ rfl _ rfl _ rfl _ _ _ _ _ _ x y hx1 hx2
  · exact part 0 _ _ _ _ _ _ _ _ rfl _ rfl _ rfl _ _ _ _ _ _ x y hx1 (hx2.trans (Nat.zero_add _).symm)

/-- The kernel's arguments. -/
abbrev Qa (c : Dev nD) : S8x16x1024.Idx → EReal := m (c.tc.loc main_arg0)
abbrev Kn (c : Dev nD) : S8x16x1024.Idx → EReal := m (c.tc.loc main_arg1)
abbrev Vn (c : Dev nD) : S8x16x1024.Idx → EReal := m (c.tc.loc main_arg2)
abbrev Kc (c : Dev nD) : S8x512x16x64.Idx → EReal := m (c.tc.loc main_arg3)
abbrev Vc (c : Dev nD) : S8x512x16x64.Idx → EReal := m (c.tc.loc main_arg4)
abbrev Ta (c : Dev nD) : S257x16.Idx → EReal := m (c.tc.loc main_arg5)

/-- Where each window's block lies at a point. -/
theorem idx_val : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![0, 0, 0] ∧ win0_6.index t = ![0, 0, 0]
    ∧ win0_7.index t = ![t.val, 0, 0] :=
  (by decide +kernel : ∀ t : Fin grid0.N, _)

theorem q_at (c : Dev nD) (t : Fin cfg0.N) (i : Fin 16) (n : Fin 1024) : iblk m c 0 t (ix3 0 i n) = Qa m c (ix3 t i n) := by
  blk_simp [iblk, idx_val t]
  blk_ext [idx_val t]
theorem kn_at (c : Dev nD) (t : Fin cfg0.N) (i : Fin 16) (n : Fin 1024) : iblk m c 1 t (ix3 0 i n) = Kn m c (ix3 t i n) := by
  blk_simp [iblk, idx_val t]
  blk_ext [idx_val t]
theorem vn_at (c : Dev nD) (t : Fin cfg0.N) (i : Fin 16) (n : Fin 1024) : iblk m c 2 t (ix3 0 i n) = Vn m c (ix3 t i n) := by
  blk_simp [iblk, idx_val t]
  blk_ext [idx_val t]

/-- The cached keys and values, the heads side by side, and the two parts of the bias. -/
theorem host (c : Dev nD) :
    (V m c main_v20 = (shapeCast S8x512x1024 (Kc m c : FVec Ideal S8x512x16x64 .f32) shapeCasts_S8x512x16x64_S8x512x1024 : FVec Ideal S8x512x1024 .f32)
      ∧ V m c main_v21 = (shapeCast S8x512x1024 (Vc m c : FVec Ideal S8x512x16x64 .f32) shapeCasts_S8x512x16x64_S8x512x1024 : FVec Ideal S8x512x1024 .f32))
    ∧ V m c main_v22 = extractStridedSlice S16x16x512 ![0, 0, 0] (Cert.AttnSampRef.bias (Ta m c)) slices_S16x16x528_S16x16x512_0_0_0
    ∧ V m c main_v23 = extractStridedSlice S16x16x16 ![0, 0, 512] (Cert.AttnSampRef.bias (Ta m c)) slices_S16x16x528_S16x16x16_0_0_512 := by
  refine ⟨⟨?_, ?_⟩, ?_, ?_⟩
  all_goals
    simp only [V, hostOps0, hostOps0_1, hostOps0_2, List.flatten_cons, List.flatten_nil,
      List.append_nil, List.cons_append, List.nil_append, StableHlo.TRef.unary, StableHlo.TRef.binary,
      StableHlo.TRef.toBuf, StableHlo.TRef.ofBuf, cast_eq]
    after_results_simp
    rfl

theorem kc_at (c : Dev nD) (t : Fin cfg0.N) (j : Fin 512) (n : Fin 1024) :
    iblk m c 3 t (ix3 0 j n) = Kc m c (ix4 t j ⟨n.val / 64, by omega⟩ ⟨n.val % 64, by omega⟩) := by
  refine Eq.trans (show _ = V m c main_v20 (ix3 t j n) by blk_simp [iblk, idx_val t]; blk_ext [idx_val t]) ?_
  rw [(host m c).1.1]
  pointwise []
theorem vc_at (c : Dev nD) (t : Fin cfg0.N) (j : Fin 512) (n : Fin 1024) :
    iblk m c 4 t (ix3 0 j n) = Vc m c (ix4 t j ⟨n.val / 64, by omega⟩ ⟨n.val % 64, by omega⟩) := by
  refine Eq.trans (show _ = V m c main_v21 (ix3 t j n) by blk_simp [iblk, idx_val t]; blk_ext [idx_val t]) ?_
  rw [(host m c).1.2]
  pointwise []

theorem bias_old (c : Dev nD) (t : Fin cfg0.N) (h i : Fin 16) (j : Fin 512) :
    iblk m c 5 t (ix3 h i j) = Cert.AttnSampRef.bias (Ta m c) (ix3 h i ⟨j.val, by omega⟩) := by
  refine Eq.trans (show _ = V m c main_v22 (ix3 h i j) by blk_simp [iblk, idx_val t]; blk_ext [idx_val t]) ?_
  rw [(host m c).2.1]
  pointwise []
theorem bias_new (c : Dev nD) (t : Fin cfg0.N) (h i : Fin 16) (j : Fin 16) :
    iblk m c 6 t (ix3 h i j) = Cert.AttnSampRef.bias (Ta m c) (ix3 h i ⟨512 + j.val, by omega⟩) := by
  refine Eq.trans (show _ = V m c main_v23 (ix3 h i j) by blk_simp [iblk, idx_val t]; blk_ext [idx_val t]) ?_
  rw [(host m c).2.2]
  pointwise []

/-- Every key is a cached one or a new one. -/
theorem by_part (P : Fin 528 → Prop) (h : ∀ j : Fin 512, P ⟨j.val, by omega⟩) (h' : ∀ j : Fin 16, P ⟨512 + j.val, by omega⟩) (j : Fin 528) : P j := by
  by_cases hj : j.val < 512
  · exact h ⟨j.val, hj⟩
  · exact (show (⟨512 + (j.val - 512), by omega⟩ : Fin 528) = j from Fin.ext (by show 512 + (j.val - 512) = j.val; omega)) ▸ h' ⟨j.val - 512, by omega⟩

theorem keys_at (c : Dev nD) (t : Fin cfg0.N) (n : Fin 1024) (h : Fin 16) (d : Fin 64) (hn : n.val = h.val * 64 + d.val) (j : Fin 528) :
    kOf (iblk m c 3 t) (iblk m c 1 t) j n = Cert.AttnSampRef.joined (Kc m c) (Kn m c) (ix4 t j h d)
      ∧ kOf (iblk m c 4 t) (iblk m c 2 t) j n = Cert.AttnSampRef.joined (Vc m c) (Vn m c) (ix4 t j h d) := by
  obtain rfl : n = ⟨h.val * 64 + d.val, by clear hn; omega⟩ := Fin.ext hn
  have eh : (⟨(h.val * 64 + d.val) / 64, by omega⟩ : Fin 16) = h := Fin.ext (by show (h.val * 64 + d.val) / 64 = h.val; omega)
  have ed : (⟨(h.val * 64 + d.val) % 64, by omega⟩ : Fin 64) = d := Fin.ext (by show (h.val * 64 + d.val) % 64 = d.val; omega)
  refine by_part (fun j => kOf (iblk m c 3 t) (iblk m c 1 t) j _ = Cert.AttnSampRef.joined (Kc m c) (Kn m c) (ix4 t j h d)
      ∧ kOf (iblk m c 4 t) (iblk m c 2 t) j _ = Cert.AttnSampRef.joined (Vc m c) (Vn m c) (ix4 t j h d)) (fun j => ⟨?_, ?_⟩) (fun j => ⟨?_, ?_⟩) j
  · refine (kOf_old _ _ j _).trans ((kc_at m c t j _).trans (Eq.trans ?_ (Cert.AttnSampRef.joined_old _ _ t j h d).symm))
    rw [eh, ed]
  · refine (kOf_old _ _ j _).trans ((vc_at m c t j _).trans (Eq.trans ?_ (Cert.AttnSampRef.joined_old _ _ t j h d).symm))
    rw [eh, ed]
  · exact (kOf_new _ _ j _).trans ((kn_at m c t j _).trans (Cert.AttnSampRef.joined_new _ _ t j h d).symm)
  · exact (kOf_new _ _ j _).trans ((vn_at m c t j _).trans (Cert.AttnSampRef.joined_new _ _ t j h d).symm)

theorem bias_at (c : Dev nD) (t : Fin cfg0.N) (h i : Fin 16) (j : Fin 528) :
    bOf (iblk m c 5 t) (iblk m c 6 t) h i j = Cert.AttnSampRef.bias (Ta m c) (ix3 h i j) := by
  refine by_part (fun j => bOf (iblk m c 5 t) (iblk m c 6 t) h i j = Cert.AttnSampRef.bias (Ta m c) (ix3 h i j)) (fun j => ?_) (fun j => ?_) j
  · rw [bOf_old, bias_old]
  · rw [bOf_new, bias_new]

theorem score_at (c : Dev nD) (t : Fin cfg0.N) (i : Fin 16) (n : Fin 1024) :
    score (qOf (iblk m c 0 t)) (kOf (iblk m c 3 t) (iblk m c 1 t)) (bOf (iblk m c 5 t) (iblk m c 6 t)) i n
      = Cert.AttnSampRef.score (Qa m c) (Cert.AttnSampRef.joined (Kc m c) (Kn m c)) (Cert.AttnSampRef.bias (Ta m c)) t i n := by
  funext j
  unfold score Cert.AttnSampRef.score
  rw [bias_at]
  refine congrArg (fun a : EReal => a + _) (Finset.sum_congr rfl fun d _ => congrArg₂ (fun a b : EReal => a * b) (q_at m c t i _) ?_)
  exact (keys_at m c t _ ⟨n.val / 64, by omega⟩ d rfl j).1

/-- Every score is a number, where the queries, the keys and the table are. -/
theorem score_num (Q : S8x16x1024.Idx → EReal) (K : Cert.AttnSampRefIdeal.S8x528x16x64.Idx → EReal) (B : S16x16x528.Idx → EReal) (hQ : ∀ x, Q x ≠ ⊤ ∧ Q x ≠ ⊥)
    (hK : ∀ x, K x ≠ ⊤ ∧ K x ≠ ⊥) (hB : ∀ x, B x ≠ ⊤ ∧ B x ≠ ⊥) (b : Fin 8) (i : Fin 16) (n : Fin 1024) (j : Fin 528) :
    Cert.AttnSampRef.score Q K B b i n j ≠ ⊤ ∧ Cert.AttnSampRef.score Q K B b i n j ≠ ⊥ := by
  unfold Cert.AttnSampRef.score
  lift Q to S8x16x1024.Idx → ℝ using hQ
  lift K to Cert.AttnSampRefIdeal.S8x528x16x64.Idx → ℝ using hK
  lift B to S16x16x528.Idx → ℝ using hB
  simp only [← EReal.coe_mul, Cert.AttnIdeal.Value.coe_sum, ← EReal.coe_add]
  exact ⟨EReal.coe_ne_top _, EReal.coe_ne_bot _⟩

/-- What a grid point stores is the reference's entry, on numbers. -/
theorem entry (c : Dev nD) (hQ : ∀ x, Qa m c x ≠ ⊤ ∧ Qa m c x ≠ ⊥) (hN : ∀ x, Kn m c x ≠ ⊤ ∧ Kn m c x ≠ ⊥) (hC : ∀ x, Kc m c x ≠ ⊤ ∧ Kc m c x ≠ ⊥)
    (hT : ∀ x, Ta m c x ≠ ⊤ ∧ Ta m c x ≠ ⊥) (t : Fin cfg0.N) (i : Fin 16) (n : Fin 1024) :
    (soft (score (qOf (iblk m c 0 t)) (kOf (iblk m c 3 t) (iblk m c 1 t)) (bOf (iblk m c 5 t) (iblk m c 6 t)) i n)
      fun j => kOf (iblk m c 4 t) (iblk m c 2 t) j n)
      = Cert.AttnSampRef.attn (Qa m c) (Kn m c) (Vn m c) (Kc m c) (Vc m c) (Ta m c) (ix3 t i n) := by
  have hB : ∀ x, Cert.AttnSampRef.bias (Ta m c) x ≠ ⊤ ∧ Cert.AttnSampRef.bias (Ta m c) x ≠ ⊥ := fun x => by
    obtain ⟨u, hu⟩ := Cert.AttnSampRef.bias_mem (Ta m c) x
    rw [hu]; exact hT u
  have hK : ∀ x, Cert.AttnSampRef.joined (Kc m c) (Kn m c) x ≠ ⊤ ∧ Cert.AttnSampRef.joined (Kc m c) (Kn m c) x ≠ ⊥ := fun x => by
    rw [eq_ix4 x]
    exact Cert.AttnSampRef.joined_all (fun z => z ≠ ⊤ ∧ z ≠ ⊥) _ _ hC hN _ _ _ _
  have hs := score_num (Qa m c) _ (Cert.AttnSampRef.bias (Ta m c)) hQ hK hB t i n
  rw [score_at]
  refine Eq.trans ?_ (Cert.AttnSampRef.attn_at (Qa m c) (Kn m c) (Vn m c) (Kc m c) (Vc m c) (Ta m c) t i n).symm
  exact Cert.AttnIdeal.Value.soft_eq _ _ _ (fun j => (hs j).1) ⟨0, by omega⟩ (hs _).2 fun j _ =>
    (keys_at m c t n _ _ (by show n.val = n.val / 64 * 64 + n.val % 64; omega) j).2

/-- The result after the run is the reference's, on numbers. -/
theorem final_7 (c : Dev nD) (hQ : ∀ x, Qa m c x ≠ ⊤ ∧ Qa m c x ≠ ⊥) (hN : ∀ x, Kn m c x ≠ ⊤ ∧ Kn m c x ≠ ⊥) (hC : ∀ x, Kc m c x ≠ ⊤ ∧ Kc m c x ≠ ⊥)
    (hT : ∀ x, Ta m c x ≠ ⊤ ∧ Ta m c x ≠ ⊥) :
    (dats m 0 c).arrAt 7 cfg0.N = Cert.AttnSampRef.attn (Qa m c) (Kn m c) (Vn m c) (Kc m c) (Vc m c) (Ta m c) := by
  refine (dats m 0 c).arrAt_eq_of_covers 7 _ (by decide +kernel) fun t hf y => ?_
  blk_simp
  rw [after0_7]
  idx_bounds
  refine (point _ _ _ _ _ _ _ y).trans ?_
  refine (entry m c hQ hN hC hT t (y 1) (y 2)).trans ?_
  generalize Cert.AttnSampRef.attn (Qa m c) (Kn m c) (Vn m c) (Kc m c) (Vc m c) (Ta m c) = A
  blk_ext [idx_val t]

end Cert.AttnSampIdeal.Value

end
-- ==== Proof.Claims.lean ====
/- The claims of each program, from its frame and from the value proofs. -/
module

public import proofs.«01_k».proof.Defs
public import proofs.«01_k».proof.Proof.QkvValue
public import proofs.«01_k».proof.Proof.TailValue
public import proofs.«01_k».proof.Proof.SampValue
public import proofs.«01_k».proof.Proof.ProjValue
public import proofs.«01_k».proof.Proof.FfnValue
public import proofs.«01_k».proof.Proof.FfnSampValue
public import proofs.«01_k».proof.Proof.GlaValue
public import proofs.«01_k».proof.Proof.Gen.Qkv.Frame
public import proofs.«01_k».proof.Proof.Gen.QkvIdeal.Value
public import proofs.«01_k».proof.Proof.Gen.QkvRefIdeal.Run
public import proofs.«01_k».proof.Proof.Gen.Tail.Frame
public import proofs.«01_k».proof.Proof.Gen.TailIdeal.Value
public import proofs.«01_k».proof.Proof.Gen.TailRefIdeal.Run
public import proofs.«01_k».proof.Proof.Gen.Samp.Frame
public import proofs.«01_k».proof.Proof.Gen.SampIdeal.Value
public import proofs.«01_k».proof.Proof.Gen.SampRefIdeal.Run
public import proofs.«01_k».proof.Proof.Gen.Proj.Frame
public import proofs.«01_k».proof.Proof.Gen.ProjIdeal.Value
public import proofs.«01_k».proof.Proof.Gen.ProjRefIdeal.Run
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnSamp.Frame
public import proofs.«01_k».proof.Proof.Gen.FfnSampIdeal.Value
public import proofs.«01_k».proof.Proof.Gen.FfnSampRefIdeal.Run
public import proofs.«01_k».proof.Proof.Gen.Gla.Frame
public import proofs.«01_k».proof.Proof.Gen.GlaIdeal.Value
public import proofs.«01_k».proof.Proof.Gen.GlaRefIdeal.Run
public import proofs.«01_k».proof.Proof.AttnValue
public import proofs.«01_k».proof.Proof.Gen.Attn.Frame
public import proofs.«01_k».proof.Proof.Gen.AttnIdeal.Value
public import proofs.«01_k».proof.Proof.Gen.AttnRefIdeal.Run
public import proofs.«01_k».proof.Proof.StepRef
public import proofs.«01_k».proof.Proof.StepValue
public import proofs.«01_k».proof.Proof.Gen.Step.Frame
public import proofs.«01_k».proof.Proof.AttnSampValue
public import proofs.«01_k».proof.Proof.Gen.AttnSamp.Frame
public import proofs.«01_k».proof.Proof.Gen.AttnSampIdeal.Value
public import proofs.«01_k».proof.Proof.Gen.AttnSampRefIdeal.Run
public import Idealize.ShloMosaic.Lib.Claim

@[expose] public section

set_option maxRecDepth 16384

noncomputable section

open Idealize.ShloMosaic Idealize.ShloMosaic.TcCoe Idealize.SL.Sem

namespace Cert.Claims

/-- The reference of Qkv runs, and keeps its arguments; it has no semaphore. -/
theorem frame_QkvRef : Cert.quiescent_QkvRefIdeal := fun m ρ _ =>
  (θ_run Cert.QkvRefIdeal.defs _ _).mono (fun r h => ⟨fun c => by have := h c; tauto,
      sem_eq_zero_of_no_sems (by decide) r.2⟩)
    (Cert.QkvRefIdeal.Value.run (F := Ideal) m ρ)

/-- The reference of Tail runs, and keeps its arguments; it has no semaphore. -/
theorem frame_TailRef : Cert.quiescent_TailRefIdeal := fun m ρ _ =>
  (θ_run Cert.TailRefIdeal.defs _ _).mono (fun r h => ⟨fun c => by have := h c; tauto,
      sem_eq_zero_of_no_sems (by decide) r.2⟩)
    (Cert.TailRefIdeal.Value.run (F := Ideal) m ρ)

/-- The reference of Samp runs, and keeps its arguments; it has no semaphore. -/
theorem frame_SampRef : Cert.quiescent_SampRefIdeal := fun m ρ _ =>
  (θ_run Cert.SampRefIdeal.defs _ _).mono (fun r h => ⟨fun c => by have := h c; tauto,
      sem_eq_zero_of_no_sems (by decide) r.2⟩)
    (Cert.SampRefIdeal.Value.run (F := Ideal) m ρ)

/-- The reference of Proj runs, and keeps its arguments; it has no semaphore. -/
theorem frame_ProjRef : Cert.quiescent_ProjRefIdeal := fun m ρ _ =>
  (θ_run Cert.ProjRefIdeal.defs _ _).mono (fun r h => ⟨fun c => by have := h c; tauto,
      sem_eq_zero_of_no_sems (by decide) r.2⟩)
    (Cert.ProjRefIdeal.Value.run (F := Ideal) m ρ)

/-- The reference of Ffn runs, and keeps its arguments; it has no semaphore. -/
theorem frame_FfnRef : Cert.quiescent_FfnRefIdeal := fun m ρ _ =>
  (θ_run Cert.FfnRefIdeal.defs _ _).mono (fun r h => ⟨fun c => by have := h c; tauto,
      sem_eq_zero_of_no_sems (by decide) r.2⟩)
    (Cert.FfnRefIdeal.Value.run (F := Ideal) m ρ)

/-- The reference of FfnSamp runs, and keeps its arguments; it has no semaphore. -/
theorem frame_FfnSampRef : Cert.quiescent_FfnSampRefIdeal := fun m ρ _ =>
  (θ_run Cert.FfnSampRefIdeal.defs _ _).mono (fun r h => ⟨fun c => by have := h c; tauto,
      sem_eq_zero_of_no_sems (by decide) r.2⟩)
    (Cert.FfnSampRefIdeal.Value.run (F := Ideal) m ρ)

/-- The reference of Gla runs, and keeps its arguments; it has no semaphore. -/
theorem frame_GlaRef : Cert.quiescent_GlaRefIdeal := fun m ρ _ =>
  (θ_run Cert.GlaRefIdeal.defs _ _).mono (fun r h => ⟨fun c => by have := h c; tauto,
      sem_eq_zero_of_no_sems (by decide) r.2⟩)
    (Cert.GlaRefIdeal.Value.run (F := Ideal) m ρ)

/-- The reference of Attn runs, and keeps its arguments; it has no semaphore. -/
theorem frame_AttnRef : Cert.quiescent_AttnRefIdeal := fun m ρ _ =>
  (θ_run Cert.AttnRefIdeal.defs _ _).mono (fun r h => ⟨fun c => by have := h c; tauto,
      sem_eq_zero_of_no_sems (by decide) r.2⟩)
    (Cert.AttnRefIdeal.Value.run (F := Ideal) m ρ)

/-- The reference of Step runs, and keeps its arguments; it has no semaphore. -/
theorem frame_StepRef : Cert.quiescent_StepRefIdeal := fun m ρ _ =>
  (θ_run Cert.StepRefIdeal.defs _ _).mono (fun r h => ⟨fun c => by have := h c; tauto,
      sem_eq_zero_of_no_sems (by decide) r.2⟩)
    (Cert.StepRefIdeal.Value.run (F := Ideal) m ρ)

/-- The reference of AttnSamp runs, and keeps its arguments; it has no semaphore. -/
theorem frame_AttnSampRef : Cert.quiescent_AttnSampRefIdeal := fun m ρ _ =>
  (θ_run Cert.AttnSampRefIdeal.defs _ _).mono (fun r h => ⟨fun c => by have := h c; tauto,
      sem_eq_zero_of_no_sems (by decide) r.2⟩)
    (Cert.AttnSampRefIdeal.Value.run (F := Ideal) m ρ)

/-- Qkv: the kernel and its reference end with equal results. -/
theorem alg_Qkv : Cert.algebraic_QkvIdeal_QkvRefIdeal := by
  pair_intro
  · run_from Cert.QkvIdeal.Value.run_blocks m g
  · run_from Cert.QkvRefIdeal.Value.run m' g'
    exacts [(Cert.QkvIdeal.Value.final_2 m c).symm, (Cert.QkvIdeal.Value.final_3 m c).symm, (Cert.QkvIdeal.Value.final_4 m c).symm]

/-- Tail: the kernel and its reference end with equal results. -/
theorem alg_Tail : Cert.algebraic_TailIdeal_TailRefIdeal := by
  pair_intro
  · run_from Cert.TailIdeal.Value.run_blocks m g
  · run_from Cert.TailRefIdeal.Value.run m' g'
    exacts [(Cert.TailIdeal.Value.final_2 m c).symm, (Cert.TailIdeal.Value.final_3 m c).symm]

/-- Samp: the kernel and its reference end with equal results. -/
theorem alg_Samp : Cert.algebraic_SampIdeal_SampRefIdeal := by
  pair_intro
  · run_from Cert.SampIdeal.Value.run_blocks m g
  · run_from Cert.SampRefIdeal.Value.run m' g'
    exacts [(Cert.SampIdeal.Value.final_2 m c).symm, (Cert.SampIdeal.Value.final_3 m c).symm, (Cert.SampIdeal.Value.final_4 m c).symm]

/-- Proj: the kernel and its reference end with equal results. -/
theorem alg_Proj : Cert.algebraic_ProjIdeal_ProjRefIdeal := by
  pair_intro
  · run_from Cert.ProjIdeal.Value.run_blocks m g
  · run_from Cert.ProjRefIdeal.Value.run m' g'
    exact (Cert.ProjIdeal.Value.final_5 m c).symm

/-- Ffn: the kernel and its reference end with equal results. -/
theorem alg_Ffn : Cert.algebraic_FfnIdeal_FfnRefIdeal := by
  pair_intro
  · run_from Cert.FfnIdeal.Value.run_blocks m g
  · run_from Cert.FfnRefIdeal.Value.run m' g'
    unfold Cert.FfnRefIdeal.Value.res_main_v32
    rw [(hagree c).1, (hagree c).2.1, (hagree c).2.2.1, (hagree c).2.2.2.1, (hagree c).2.2.2.2]
    exact (Cert.FfnIdeal.Value.final_5 m c).symm

/-- FfnSamp: the kernel and its reference end with equal results. -/
theorem alg_FfnSamp : Cert.algebraic_FfnSampIdeal_FfnSampRefIdeal := by
  pair_intro
  · run_from Cert.FfnSampIdeal.Value.run_blocks m g
  · run_from Cert.FfnSampRefIdeal.Value.run m' g'
    unfold Cert.FfnSampRefIdeal.Value.res_main_v32
    rw [(hagree c).1, (hagree c).2.1, (hagree c).2.2.1, (hagree c).2.2.2.1, (hagree c).2.2.2.2]
    exact (Cert.FfnSampIdeal.Value.final_5 m c).symm

/-- Gla: the kernel and its reference end with equal results. -/
theorem alg_Gla : Cert.algebraic_GlaIdeal_GlaRefIdeal := by
  pair_intro
  · run_from Cert.GlaIdeal.Value.run_blocks m g
  · run_from Cert.GlaRefIdeal.Value.run m' g'
    exacts [(Cert.GlaIdeal.Value.final_5 m c).symm, (Cert.GlaIdeal.Value.final_6 m c).symm, (Cert.GlaIdeal.Value.final_7 m c).symm,
      (Cert.GlaIdeal.Value.final_8 m c).symm, (Cert.GlaIdeal.Value.final_9 m c).symm]

/-- The side conditions of the attention's precondition. -/
theorem facts_finite : Cert.Pre_finite.Facts := ⟨by decide, by decide⟩

/-- Where an absolute value is below infinity, there is a number. -/
theorem number_of_lt {x : EReal} (h : max x (-x) < ⊤) : x ≠ ⊤ ∧ x ≠ ⊥ := by
  constructor
  · rintro rfl; simp at h
  · rintro rfl; simp at h

/-- A bit that is one says that its condition holds. -/
theorem of_bit {p : Prop} [Decidable p] (h : BitVec.ofBool (decide p) = 1#1) : p := by
  by_contra hp
  rw [decide_eq_false hp] at h
  exact absurd h (by decide)

/-- What the attention's precondition says of its queries, its keys and its table. -/
theorem numbers [Cert.Pre_finite.Facts] (m : (ℓ : Loc Cert.AttnIdeal.nD Cert.AttnIdeal.τ Cert.AttnIdeal.sig) → Buf (Elt Ideal) ℓ)
    (h : Cert.Pre_AttnIdeal_finite m) (c : Dev Cert.AttnIdeal.nD) :
    (∀ x, Cert.AttnIdeal.Value.Qa m c x ≠ ⊤ ∧ Cert.AttnIdeal.Value.Qa m c x ≠ ⊥)
      ∧ (∀ x, Cert.AttnIdeal.Value.Ka m c x ≠ ⊤ ∧ Cert.AttnIdeal.Value.Ka m c x ≠ ⊥)
      ∧ (∀ x, Cert.AttnIdeal.Value.Ta m c x ≠ ⊤ ∧ Cert.AttnIdeal.Value.Ta m c x ≠ ⊥) := by
  have b16 : Ideal.ofBits .bf16 0x7F80#16 = ⊤ := by simp [Ideal.ofBits, Ideal.ieee]
  have b32 : Ideal.ofBits .f32 0x7F800000#32 = ⊤ := by simp [Ideal.ofBits, Ideal.ieee]
  obtain ⟨hq, hk, ht⟩ := h c
  refine ⟨fun x => number_of_lt ?_, fun x => number_of_lt ?_, fun x => number_of_lt ?_⟩
  · rw [← b16]; exact of_bit (congrFun hq x)
  · rw [← b16]; exact of_bit (congrFun hk x)
  · rw [← b32]; exact of_bit (congrFun ht x)

/-- Attn: the kernel and its reference end with equal results, where the scores are numbers. -/
theorem alg_Attn [Cert.Pre_finite.Facts] : Cert.algebraic_AttnIdeal_AttnRefIdeal_pre_finite := by
  pair_intro
  · run_from Cert.AttnIdeal.Value.run_blocks m g
  · run_from Cert.AttnRefIdeal.Value.run m' g'
    have hn := numbers m hpre c
    refine (Cert.AttnRef.res_eq m' c).trans ?_
    rw [(hagree c).1, (hagree c).2.1, (hagree c).2.2.1, (hagree c).2.2.2]
    exact (Cert.AttnIdeal.Value.final_8 m c hn.1 hn.2.1 hn.2.2).symm

/-- The side conditions of the precondition of the decoding step's attention. -/
theorem facts_finite_sample : Cert.Pre_finite_sample.Facts := ⟨by decide, by decide, by decide⟩

/-- What that precondition says of the queries, of the new and the cached keys and of the table. -/
theorem numbers_sample [Cert.Pre_finite_sample.Facts] (m : (ℓ : Loc Cert.AttnSampIdeal.nD Cert.AttnSampIdeal.τ Cert.AttnSampIdeal.sig) → Buf (Elt Ideal) ℓ)
    (h : Cert.Pre_AttnSampIdeal_finite_sample m) (c : Dev Cert.AttnSampIdeal.nD) :
    (∀ x, Cert.AttnSampIdeal.Value.Qa m c x ≠ ⊤ ∧ Cert.AttnSampIdeal.Value.Qa m c x ≠ ⊥)
      ∧ (∀ x, Cert.AttnSampIdeal.Value.Kn m c x ≠ ⊤ ∧ Cert.AttnSampIdeal.Value.Kn m c x ≠ ⊥)
      ∧ (∀ x, Cert.AttnSampIdeal.Value.Kc m c x ≠ ⊤ ∧ Cert.AttnSampIdeal.Value.Kc m c x ≠ ⊥)
      ∧ (∀ x, Cert.AttnSampIdeal.Value.Ta m c x ≠ ⊤ ∧ Cert.AttnSampIdeal.Value.Ta m c x ≠ ⊥) := by
  have b32 : Ideal.ofBits .f32 0x7F800000#32 = ⊤ := by simp [Ideal.ofBits, Ideal.ieee]
  obtain ⟨hq, hn, hk, ht⟩ := h c
  refine ⟨fun x => number_of_lt ?_, fun x => number_of_lt ?_, fun x => number_of_lt ?_, fun x => number_of_lt ?_⟩ <;> rw [← b32]
  · exact of_bit (congrFun hq x)
  · exact of_bit (congrFun hn x)
  · exact of_bit (congrFun hk x)
  · exact of_bit (congrFun ht x)

/-- AttnSamp: the kernel and its reference end with equal results, where the scores are numbers. -/
theorem alg_AttnSamp [Cert.Pre_finite_sample.Facts] : Cert.algebraic_AttnSampIdeal_AttnSampRefIdeal_pre_finite_sample := by
  pair_intro
  · run_from Cert.AttnSampIdeal.Value.run_blocks m g
  · run_from Cert.AttnSampRefIdeal.Value.run m' g'
    have hn := numbers_sample m hpre c
    refine (Cert.AttnSampRef.res_eq m' c).trans ?_
    rw [(hagree c).1, (hagree c).2.1, (hagree c).2.2.1, (hagree c).2.2.2.1, (hagree c).2.2.2.2.1, (hagree c).2.2.2.2.2]
    exact (Cert.AttnSampIdeal.Value.final_7 m c hn.1 hn.2.1 hn.2.2.1 hn.2.2.2).symm

/-- The side conditions of the recurrence's precondition. -/
theorem facts_forget : Cert.Pre_forget.Facts := ⟨by decide⟩

/-- What the recurrence's precondition says of its forget gates. -/
theorem gates [Cert.Pre_forget.Facts] (m : (ℓ : Loc Cert.StepIdeal.nD Cert.StepIdeal.τ Cert.StepIdeal.sig) → Buf (Elt Ideal) ℓ)
    (h : Cert.Pre_StepIdeal_forget m) (c : Dev Cert.StepIdeal.nD) :
    (∀ x, Cert.StepIdeal.Value.Ga m c x - Cert.StepIdeal.Value.Ga m c x = 0) ∧ ∀ x, Cert.StepIdeal.Value.Ga m c x ≤ 0 := by
  have b0 : Ideal.ofBits .f32 0x00000000#32 = 0 := by simp [Ideal.ofBits, Ideal.ieee]
  have b1 : Ideal.ofBits .f32 0xFF800000#32 = ⊥ := by simp [Ideal.ofBits, Ideal.ieee]
  obtain ⟨hle, hgt⟩ := h c
  have le (x) : Cert.StepIdeal.Value.Ga m c x ≤ 0 := by rw [← b0]; exact of_bit (congrFun hle x)
  have gt (x) : ⊥ < Cert.StepIdeal.Value.Ga m c x := by rw [← b1]; exact of_bit (congrFun hgt x)
  exact ⟨fun x => EReal.sub_self (ne_top_of_le_ne_top EReal.zero_ne_top (le x)) (gt x).ne', le⟩

/-- Step: the kernel and its reference end with equal results, where the forget gates are numbers and not positive. -/
theorem alg_Step [Cert.Pre_forget.Facts] : Cert.algebraic_StepIdeal_StepRefIdeal_pre_forget := by
  pair_intro
  · run_from Cert.StepIdeal.Value.run_blocks m g
  · run_from Cert.StepRefIdeal.Value.run m' g'
    · have hn := gates m hpre c
      refine (Cert.StepRef.out_eq m' c).trans ?_
      dsimp only [Cert.StepRef.Q, Cert.StepRef.K, Cert.StepRef.G, Cert.StepRef.V, Cert.StepRef.R, Cert.StepRef.S, Cert.StepRef.W]
      rw [(hagree c).1, (hagree c).2.1, (hagree c).2.2.1, (hagree c).2.2.2.1, (hagree c).2.2.2.2.1, (hagree c).2.2.2.2.2.1, (hagree c).2.2.2.2.2.2]
      exact (Cert.StepIdeal.Value.final_7 m c hn.1 hn.2).symm
    · exact (Cert.StepRef.state_eq _ _ _ _).trans (Cert.StepIdeal.Value.final_8 m c (gates m hpre c).1).symm

/-- The attention's mask is minus infinity in its ideal program. -/
theorem mask : Cert.preserves_Attn_AttnIdeal := IdealRules.named_const.statement _ _ _ _ _ rfl

end Cert.Claims

end
-- ==== Proof.lean ====
module

public import proofs.«01_k».proof.Defs
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.Samp
public import proofs.«01_k».proof.Proof.Gen.Samp.Skeleton
public import proofs.«01_k».proof.Proof.Gen.Samp.Launch
public import proofs.«01_k».proof.Proof.Gen.Samp.Points
public import proofs.«01_k».proof.Proof.Gen.Samp.Frame
public import proofs.«01_k».proof.Proof.Gen.SampIdeal
public import proofs.«01_k».proof.Proof.Gen.SampIdeal.Skeleton
public import proofs.«01_k».proof.Proof.Gen.SampIdeal.Launch
public import proofs.«01_k».proof.Proof.Gen.SampIdeal.Points
public import proofs.«01_k».proof.Proof.Gen.SampIdeal.Frame
public import proofs.«01_k».proof.Proof.Gen.SampRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaRefIdeal
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.QkvIdeal.Value
public import proofs.«01_k».proof.Proof.Gen.TailIdeal.Value
public import proofs.«01_k».proof.Proof.Gen.SampIdeal.Value
public import proofs.«01_k».proof.Proof.Gen.ProjIdeal.Value
public import proofs.«01_k».proof.Proof.Gen.FfnIdeal.Value
public import proofs.«01_k».proof.Proof.Gen.GlaIdeal.Value
public import proofs.«01_k».proof.Proof.Gen.AttnIdeal.Value
public import proofs.«01_k».proof.Proof.Gen.QkvRefIdeal.Run
public import proofs.«01_k».proof.Proof.Gen.TailRefIdeal.Run
public import proofs.«01_k».proof.Proof.Gen.SampRefIdeal.Run
public import proofs.«01_k».proof.Proof.Gen.ProjRefIdeal.Run
public import proofs.«01_k».proof.Proof.Gen.FfnRefIdeal.Run
public import proofs.«01_k».proof.Proof.Gen.GlaRefIdeal.Run
public import proofs.«01_k».proof.Proof.Gen.AttnRefIdeal.Run
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepRefIdeal
public import proofs.«01_k».proof.Proof.Gen.StepIdeal.Value
public import proofs.«01_k».proof.Proof.Gen.StepRefIdeal.Run
public import proofs.«01_k».proof.Proof.Gen.AttnSamp
public import proofs.«01_k».proof.Proof.Gen.AttnSamp.Skeleton
public import proofs.«01_k».proof.Proof.Gen.AttnSamp.Launch
public import proofs.«01_k».proof.Proof.Gen.AttnSamp.Points
public import proofs.«01_k».proof.Proof.Gen.AttnSamp.Frame
public import proofs.«01_k».proof.Proof.Gen.AttnSampIdeal
public import proofs.«01_k».proof.Proof.Gen.AttnSampIdeal.Skeleton
public import proofs.«01_k».proof.Proof.Gen.AttnSampIdeal.Launch
public import proofs.«01_k».proof.Proof.Gen.AttnSampIdeal.Points
public import proofs.«01_k».proof.Proof.Gen.AttnSampIdeal.Frame
public import proofs.«01_k».proof.Proof.Gen.AttnSampRefIdeal
public import proofs.«01_k».proof.Proof.Gen.AttnSampIdeal.Value
public import proofs.«01_k».proof.Proof.Gen.AttnSampRefIdeal.Run
public import proofs.«01_k».proof.Proof.Gen.FfnSamp
public import proofs.«01_k».proof.Proof.Gen.FfnSamp.Skeleton
public import proofs.«01_k».proof.Proof.Gen.FfnSamp.Launch
public import proofs.«01_k».proof.Proof.Gen.FfnSamp.Points
public import proofs.«01_k».proof.Proof.Gen.FfnSamp.Frame
public import proofs.«01_k».proof.Proof.Gen.FfnSampIdeal
public import proofs.«01_k».proof.Proof.Gen.FfnSampIdeal.Skeleton
public import proofs.«01_k».proof.Proof.Gen.FfnSampIdeal.Launch
public import proofs.«01_k».proof.Proof.Gen.FfnSampIdeal.Points
public import proofs.«01_k».proof.Proof.Gen.FfnSampIdeal.Frame
public import proofs.«01_k».proof.Proof.Gen.FfnSampRefIdeal
public import proofs.«01_k».proof.Proof.Gen.FfnSampIdeal.Value
public import proofs.«01_k».proof.Proof.Gen.FfnSampRefIdeal.Run
public import proofs.«01_k».proof.Proof.Claims
public import Idealize.ShloMosaic.Adequacy
public import Idealize.ShloMosaic.Init

@[expose] public section

noncomputable section

namespace Cert.Proof

open Idealize.ShloMosaic Idealize.SL.Sem Cert.Qkv

theorem claim : Cert.Claim := ⟨Cert.Qkv.Gen.facts, Cert.QkvIdeal.Gen.facts, Cert.QkvRefIdeal.Gen.facts, Cert.Tail.Gen.facts, Cert.TailIdeal.Gen.facts, Cert.TailRefIdeal.Gen.facts, Cert.Samp.Gen.facts, Cert.SampIdeal.Gen.facts, Cert.SampRefIdeal.Gen.facts, Cert.Proj.Gen.facts, Cert.ProjIdeal.Gen.facts, Cert.ProjRefIdeal.Gen.facts, Cert.Ffn.Gen.facts, Cert.FfnIdeal.Gen.facts, Cert.FfnRefIdeal.Gen.facts, Cert.FfnSamp.Gen.facts, Cert.FfnSampIdeal.Gen.facts, Cert.FfnSampRefIdeal.Gen.facts, Cert.Gla.Gen.facts, Cert.GlaIdeal.Gen.facts, Cert.GlaRefIdeal.Gen.facts, Cert.Attn.Gen.facts, Cert.AttnIdeal.Gen.facts, Cert.AttnRefIdeal.Gen.facts, Cert.Step.Gen.facts, Cert.StepIdeal.Gen.facts, Cert.StepRefIdeal.Gen.facts, Cert.AttnSamp.Gen.facts, Cert.AttnSampIdeal.Gen.facts, Cert.AttnSampRefIdeal.Gen.facts, Cert.Claims.facts_finite, Cert.Claims.facts_forget, Cert.Claims.facts_finite_sample, by
  have := Cert.Claims.facts_finite
  have := Cert.Claims.facts_finite_sample
  have := Cert.Claims.facts_forget
  exact ⟨fun m ρ _ => Cert.Qkv.Gen.frame m ρ, fun m ρ _ => Cert.QkvIdeal.Gen.frame m ρ, Cert.Claims.frame_QkvRef,
    fun m ρ _ => Cert.Tail.Gen.frame m ρ, fun m ρ _ => Cert.TailIdeal.Gen.frame m ρ, Cert.Claims.frame_TailRef,
    fun m ρ _ => Cert.Samp.Gen.frame m ρ, fun m ρ _ => Cert.SampIdeal.Gen.frame m ρ, Cert.Claims.frame_SampRef,
    fun m ρ _ => Cert.Proj.Gen.frame m ρ, fun m ρ _ => Cert.ProjIdeal.Gen.frame m ρ, Cert.Claims.frame_ProjRef,
    fun m ρ _ => Cert.Ffn.Gen.frame m ρ, fun m ρ _ => Cert.FfnIdeal.Gen.frame m ρ, Cert.Claims.frame_FfnRef,
    fun m ρ _ => Cert.FfnSamp.Gen.frame m ρ, fun m ρ _ => Cert.FfnSampIdeal.Gen.frame m ρ, Cert.Claims.frame_FfnSampRef,
    fun m ρ _ => Cert.Gla.Gen.frame m ρ, fun m ρ _ => Cert.GlaIdeal.Gen.frame m ρ, Cert.Claims.frame_GlaRef,
    fun m ρ _ => Cert.Attn.Gen.frame m ρ, fun m ρ _ => Cert.AttnIdeal.Gen.frame m ρ,
    fun m ρ _ => Cert.AttnIdeal.Gen.frame m ρ, Cert.Claims.frame_AttnRef, fun m ρ _ => Cert.Claims.frame_AttnRef m ρ trivial,
    fun m ρ _ => Cert.Step.Gen.frame m ρ, fun m ρ _ => Cert.StepIdeal.Gen.frame m ρ,
    fun m ρ _ => Cert.StepIdeal.Gen.frame m ρ, Cert.Claims.frame_StepRef, fun m ρ _ => Cert.Claims.frame_StepRef m ρ trivial,
    fun m ρ _ => Cert.AttnSamp.Gen.frame m ρ, fun m ρ _ => Cert.AttnSampIdeal.Gen.frame m ρ,
    fun m ρ _ => Cert.AttnSampIdeal.Gen.frame m ρ, Cert.Claims.frame_AttnSampRef, fun m ρ _ => Cert.Claims.frame_AttnSampRef m ρ trivial,
    trivial, Cert.Claims.alg_Qkv,
    trivial, Cert.Claims.alg_Tail,
    trivial, Cert.Claims.alg_Samp,
    trivial, Cert.Claims.alg_Proj,
    trivial, Cert.Claims.alg_Ffn,
    trivial, Cert.Claims.alg_FfnSamp,
    trivial, Cert.Claims.alg_Gla, Cert.Claims.mask, Cert.Claims.alg_Attn,
    trivial, Cert.Claims.alg_Step,
    trivial, Cert.Claims.alg_AttnSamp⟩⟩

end Cert.Proof

end
